-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_rotates [hPre_rotates : Cert.Pre_rotates.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rotates.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_rotates [hPre_rotates : Cert.Pre_rotates.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rotates.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_rotates [hKernel4Ideal : Cert.Kernel4Ideal.Facts] [hPre_rotates : Cert.Pre_rotates.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_rotates m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_rotates [hReference4Ideal : Cert.Reference4Ideal.Facts] [hPre_rotates : Cert.Pre_rotates.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_rotates m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_rotates [hKernel4Ideal : Cert.Kernel4Ideal.Facts] [hReference4Ideal : Cert.Reference4Ideal.Facts] [hPre_rotates : Cert.Pre_rotates.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_rotates m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)) (v3 : (c : Dev Cert.Kernel4Ideal.nD) → Buf (Elt Ideal) ((c.tc : Thread Cert.Kernel4Ideal.nD Cert.Kernel4Ideal.τ).loc Cert.Kernel4Ideal.main_v27_3)) (v4 : (c : Dev Cert.Kernel4Ideal.nD) → Buf (Elt Ideal) ((c.tc : Thread Cert.Kernel4Ideal.nD Cert.Kernel4Ideal.τ).loc Cert.Kernel4Ideal.main_v27_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_v27_3) = v3 c
          ∧ r.2.mem ((c.tc : Thread Cert.Kernel4Ideal.nD Cert.Kernel4Ideal.τ).loc Cert.Kernel4Ideal.main_v27_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v115) = v0 c
          ∧ r.2.mem ((c.tc : Thread Cert.Reference4Ideal.nD Cert.Reference4Ideal.τ).loc Cert.Reference4Ideal.main_v116) = v1 c
          ∧ r.2.mem ((c.tc : Thread Cert.Reference4Ideal.nD Cert.Reference4Ideal.τ).loc Cert.Reference4Ideal.main_v117) = v2 c
          ∧ r.2.mem ((c.tc : Thread Cert.Reference4Ideal.nD Cert.Reference4Ideal.τ).loc Cert.Reference4Ideal.main_v118) = v3 c
          ∧ r.2.mem ((c.tc : Thread Cert.Reference4Ideal.nD Cert.Reference4Ideal.τ).loc Cert.Reference4Ideal.main_v114) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_rotates : Cert.Pre_rotates.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_rotates (hKernel4Ideal := hKernel4Ideal) (hPre_rotates := hPre_rotates)
    ∧ quiescent_Reference4Ideal (hReference4Ideal := hReference4Ideal)
    ∧ quiescent_Reference4Ideal_pre_rotates (hReference4Ideal := hReference4Ideal) (hPre_rotates := hPre_rotates)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_rotates (hKernel4Ideal := hKernel4Ideal) (hReference4Ideal := hReference4Ideal) (hPre_rotates := hPre_rotates)
-- ==== Pre_finite.lean ====
abbrev S8x16384x64 : Shape := ⟨3, ![8, 16384, 64]⟩
abbrev S32x64 : Shape := ⟨2, ![32, 64]⟩
abbrev S2048x256 : Shape := ⟨2, ![2048, 256]⟩
abbrev S256 : Shape := ⟨1, ![256]⟩
abbrev S256x64 : Shape := ⟨2, ![256, 64]⟩
abbrev S_ : Shape := ⟨0, ![]⟩

class Facts : Prop where
  bcast_S_S8x16384x64 : S_.BroadcastsInDim S8x16384x64 (![] : Fin 0 → Fin S8x16384x64.rank)
  bcast_S_S2048x256 : S_.BroadcastsInDim S2048x256 (![] : Fin 0 → Fin S2048x256.rank)

variable [Facts]

def fn {F : FTy → Type} [FloatOps F] (main_arg0 : FVec F S8x16384x64 .bf16) (main_arg1 : FVec F S32x64 .f32) (main_arg2 : FVec F S2048x256 .f32) (main_arg3 : FVec F S256 .f32) (main_arg4 : FVec F S256x64 .f32) (main_arg5 : FVec F S32x64 .f32) (main_arg6 : FVec F S2048x256 .f32) (main_arg7 : FVec F S256 .f32) (main_arg8 : FVec F S256x64 .f32) : IVec S8x16384x64 1 × IVec S2048x256 1 × IVec S2048x256 1 :=
  let main_v0 : FVec F S8x16384x64 .bf16 := Host.absf main_arg0
  let main_cst : FVec F S_ .bf16 := constant S_ .bf16 0x7F80#16
  let main_v1 : FVec F S8x16384x64 .bf16 := broadcastInDim S8x16384x64 ![] bcast_S_S8x16384x64 main_cst
  let main_v2 : IVec S8x16384x64 1 := cmpf .olt main_v0 main_v1
  let main_v3 : FVec F S2048x256 .f32 := Host.absf main_arg2
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S2048x256 .f32 := Host.absf main_arg6
  let main_cst_1 : FVec F S_ .f32 := constant S_ .f32 0x7F800000#32
  let main_v7 : FVec F S2048x256 .f32 := broadcastInDim S2048x256 ![] bcast_S_S2048x256 main_cst_1
  let main_v8 : IVec S2048x256 1 := cmpf .olt main_v6 main_v7
  (main_v2, main_v5, main_v8)
-- ==== Pre_rotates.lean ====
abbrev S16384x5248 : Shape := ⟨2, ![16384, 5248]⟩
abbrev S256x256 : Shape := ⟨2, ![256, 256]⟩
abbrev S4x64x4x64 : Shape := ⟨4, ![4, 64, 4, 64]⟩
abbrev S_ : Shape := ⟨0, ![]⟩

class Facts : Prop where
  bcast_S_S4x64x4x64 : S_.BroadcastsInDim S4x64x4x64 (![] : Fin 0 → Fin S4x64x4x64.rank)
  bitsLt_bf16_f32 : FTy.bits .bf16 < FTy.bits .f32
  shapeCasts_S256x256_S4x64x4x64 : S256x256.ShapeCasts S4x64x4x64

variable [Facts]

def fn_where {F : FTy → Type} [FloatOps F] (arg0 : IVec S4x64x4x64 1) (arg1 : FVec F S_ .f32) (arg2 : FVec F S_ .f32) : FVec F S4x64x4x64 .f32 :=
  let v0 : FVec F S4x64x4x64 .f32 := broadcastInDim S4x64x4x64 ![] bcast_S_S4x64x4x64 arg1
  let v1 : FVec F S4x64x4x64 .f32 := broadcastInDim S4x64x4x64 ![] bcast_S_S4x64x4x64 arg2
  let v2 : FVec F S4x64x4x64 .f32 := select arg0 v0 v1
  v2

def fn_where_0 {F : FTy → Type} [FloatOps F] (arg0 : IVec S4x64x4x64 1) (arg1 : FVec F S_ .f32) (arg2 : FVec F S4x64x4x64 .f32) : FVec F S4x64x4x64 .f32 :=
  let v0 : FVec F S4x64x4x64 .f32 := broadcastInDim S4x64x4x64 ![] bcast_S_S4x64x4x64 arg1
  let v1 : FVec F S4x64x4x64 .f32 := select arg0 v0 arg2
  v1

def fn_part1 {F : FTy → Type} [FloatOps F] (main_arg1 : FVec F S256x256 .bf16) (main_v11 : IVec S4x64x4x64 1) (main_v19 : IVec S4x64x4x64 1) : IVec S4x64x4x64 1 :=
  let main_cst : FVec F S_ .f32 := constant S_ .f32 0x3F800000#32
  let main_cst_3 : FVec F S_ .f32 := constant S_ .f32 0x00000000#32
  let main_v20 : FVec F S4x64x4x64 .f32 := fn_where (F := F) main_v19 main_cst main_cst_3
  let main_cst_4 : FVec F S_ .f32 := constant S_ .f32 0xBF800000#32
  let main_v21 : FVec F S4x64x4x64 .f32 := fn_where_0 (F := F) main_v11 main_cst_4 main_v20
  let main_v22 : FVec F S256x256 .f32 := (extf .f32 · bitsLt_bf16_f32) main_arg1
  let main_v23 : FVec F S4x64x4x64 .f32 := shapeCast S4x64x4x64 main_v22 shapeCasts_S256x256_S4x64x4x64
  let main_v24 : FVec F S4x64x4x64 .f32 := id main_v21
  let main_v25 : IVec S4x64x4x64 1 := cmpf .oeq main_v23 main_v24
  main_v25

def fn {F : FTy → Type} [FloatOps F] (main_arg0 : FVec F S16384x5248 .bf16) (main_arg1 : FVec F S256x256 .bf16) : IVec S4x64x4x64 1 :=
  let main_v0 : IVec S4x64x4x64 32 := iotaInDim S4x64x4x64 32 0
  let main_v1 : IVec S4x64x4x64 32 := iotaInDim S4x64x4x64 32 1
  let main_v2 : IVec S4x64x4x64 32 := iotaInDim S4x64x4x64 32 2
  let main_v3 : IVec S4x64x4x64 32 := iotaInDim S4x64x4x64 32 3
  let main_v4 : IVec S4x64x4x64 1 := cmpi .eq main_v0 main_v2
  let main_c : IVec S_ 32 := constantI S_ 32 8#32
  let main_v5 : IVec S4x64x4x64 32 := broadcastInDim S4x64x4x64 ![] bcast_S_S4x64x4x64 main_c
  let main_v6 : IVec S4x64x4x64 1 := cmpi .slt main_v3 main_v5
  let main_v7 : IVec S4x64x4x64 1 := andi main_v4 main_v6
  let main_c_0 : IVec S_ 32 := constantI S_ 32 8#32
  let main_v8 : IVec S4x64x4x64 32 := broadcastInDim S4x64x4x64 ![] bcast_S_S4x64x4x64 main_c_0
  let main_v9 : IVec S4x64x4x64 32 := addi main_v3 main_v8
  let main_v10 : IVec S4x64x4x64 1 := cmpi .eq main_v1 main_v9
  let main_v11 : IVec S4x64x4x64 1 := andi main_v7 main_v10
  let main_v12 : IVec S4x64x4x64 1 := cmpi .eq main_v0 main_v2
  let main_c_1 : IVec S_ 32 := constantI S_ 32 16#32
  let main_v13 : IVec S4x64x4x64 32 := broadcastInDim S4x64x4x64 ![] bcast_S_S4x64x4x64 main_c_1
  let main_v14 : IVec S4x64x4x64 1 := cmpi .slt main_v3 main_v13
  let main_v15 : IVec S4x64x4x64 1 := andi main_v12 main_v14
  let main_c_2 : IVec S_ 32 := constantI S_ 32 8#32
  let main_v16 : IVec S4x64x4x64 32 := broadcastInDim S4x64x4x64 ![] bcast_S_S4x64x4x64 main_c_2
  let main_v17 : IVec S4x64x4x64 32 := addi main_v1 main_v16
  let main_v18 : IVec S4x64x4x64 1 := cmpi .eq main_v3 main_v17
  let main_v19 : IVec S4x64x4x64 1 := andi main_v15 main_v18
  fn_part1 (F := F) main_arg1 main_v11 main_v19
-- ==== Kernel.lean ====
abbrev S16384x5248 : Shape := ⟨2, ![16384, 5248]⟩
abbrev S2x8192x1024 : Shape := ⟨3, ![2, 8192, 1024]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x512 : Shape := ⟨2, ![1, 512]⟩
abbrev S1x1024 : Shape := ⟨2, ![1, 1024]⟩
abbrev S512x512 : Shape := ⟨2, ![512, 512]⟩
abbrev S16x512 : Shape := ⟨2, ![16, 512]⟩
abbrev S528x512 : Shape := ⟨2, ![528, 512]⟩
abbrev S512x128 : Shape := ⟨2, ![512, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S512x1 : Shape := ⟨2, ![512, 1]⟩
abbrev S1024x512 : Shape := ⟨2, ![1024, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 26
  | .vmem => 24
  | .smem => 0
  | _ => 0

abbrev bufTy : (tb : Table) → Fin (tcTables nBuf tb) → BufTy
  | .hbm, ⟨0, _⟩ => ⟨S16384x5248, .bf16⟩
  | .hbm, ⟨1, _⟩ => ⟨S2x8192x1024, .bf16⟩
  | .hbm, ⟨2, _⟩ => ⟨S2x8192x1024, .f32⟩
  | .hbm, ⟨3, _⟩ => ⟨S4x128x128, .f32⟩
  | .hbm, ⟨4, _⟩ => ⟨S512, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S16384x1024, .f32⟩
  | .hbm, ⟨14, _⟩ => ⟨S16384x1024, .bf16⟩
  | .hbm, ⟨15, _⟩ => ⟨S4x128x128, .bf16⟩
  | .hbm, ⟨16, _⟩ => ⟨S1x512, .f32⟩
  | .hbm, ⟨17, _⟩ => ⟨S512x1024, .bf16⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S1024x2816, .bf16⟩
  | .hbm, ⟨22, _⟩ => ⟨S1024x2816, .bf16⟩
  | .hbm, ⟨23, _⟩ => ⟨S2816x1024, .bf16⟩
  | .hbm, ⟨24, _⟩ => ⟨S1x1024, .f32⟩
  | .hbm, ⟨25, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S4x128x128, .bf16⟩
  | .local _ .vmem, ⟨13, _⟩ => ⟨S1x512, .f32⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S16384x5248, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x5248 : Shape := ⟨2, ![16384, 5248]⟩
abbrev S2x8192x1024 : Shape := ⟨3, ![2, 8192, 1024]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x8192x5248 : Shape := ⟨3, ![2, 8192, 5248]⟩
abbrev S2x8192x512 : Shape := ⟨3, ![2, 8192, 512]⟩
abbrev S8192 : Shape := ⟨1, ![8192]⟩
abbrev S2x8192x128 : Shape := ⟨3, ![2, 8192, 128]⟩
abbrev S_ : Shape := ⟨0, ![]⟩
abbrev S1x8192x1 : Shape := ⟨3, ![1, 8192, 1]⟩
abbrev S2x8192x1x128 : Shape := ⟨4, ![2, 8192, 1, 128]⟩
abbrev S2x8192x4x128 : Shape := ⟨4, ![2, 8192, 4, 128]⟩
abbrev S4x128x2x8192 : Shape := ⟨4, ![4, 128, 2, 8192]⟩
abbrev S1x1x512 : Shape := ⟨3, ![1, 1, 512]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 189
  | .vmem => 0
  | .smem => 0
  | _ => 0

abbrev hbmTy0_0 (i : Nat) : BufTy := match i % 128 with
  | 0 => ⟨S16384x5248, .bf16⟩
  | 1 => ⟨S2x8192x1024, .bf16⟩
  | 2 => ⟨S2x8192x1024, .f32⟩
  | 3 => ⟨S4x128x128, .f32⟩
  | 4 => ⟨S512, .f32⟩
  | 5 => ⟨S512x1024, .f32⟩
  | 6 => ⟨S1024x1024, .f32⟩
  | 7 => ⟨S1024x1024, .f32⟩
  | 8 => ⟨S1024, .f32⟩
  | 9 => ⟨S1024x2816, .f32⟩
  | 10 => ⟨S1024x2816, .f32⟩
  | 11 => ⟨S2816x1024, .f32⟩
  | 12 => ⟨S1024, .f32⟩
  | 13 => ⟨S16384x5248, .f32⟩
  | 14 => ⟨S2x8192x5248, .f32⟩
  | 15 => ⟨S2x8192x512, .f32⟩
  | 16 => ⟨S2x8192x1024, .f32⟩
  | 17 => ⟨S2x8192x1024, .f32⟩
  | 18 => ⟨S2x8192x1024, .f32⟩
  | 19 => ⟨S8192, .i32⟩
  | 20 => ⟨S2x8192x128, .f32⟩
  | 21 => ⟨S_, .i32⟩
  | 22 => ⟨S8192, .i32⟩
  | 23 => ⟨S8192, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S8192, .i32⟩
  | 34 => ⟨S8192, .f32⟩
  | 35 => ⟨S_, .f32⟩
  | 36 => ⟨S_, .f32⟩
  | 37 => ⟨S2x8192x128, .f32⟩
  | 38 => ⟨S1x8192x1, .f32⟩
  | 39 => ⟨S2x8192x128, .f32⟩
  | 40 => ⟨S2x8192x128, .f32⟩
  | 41 => ⟨S2x8192x128, .f32⟩
  | 42 => ⟨S2x8192x128, .f32⟩
  | 43 => ⟨S_, .i32⟩
  | 44 => ⟨S8192, .i32⟩
  | 45 => ⟨S8192, .i32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .i32⟩
  | 56 => ⟨S8192, .f32⟩
  | 57 => ⟨S_, .f32⟩
  | 58 => ⟨S_, .f32⟩
  | 59 => ⟨S2x8192x128, .f32⟩
  | 60 => ⟨S1x8192x1, .f32⟩
  | 61 => ⟨S2x8192x128, .f32⟩
  | 62 => ⟨S2x8192x128, .f32⟩
  | 63 => ⟨S2x8192x128, .f32⟩
  | 64 => ⟨S2x8192x128, .f32⟩
  | 65 => ⟨S_, .i32⟩
  | 66 => ⟨S8192, .i32⟩
  | 67 => ⟨S8192, .i32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S8192, .i32⟩
  | 78 => ⟨S8192, .f32⟩
  | 79 => ⟨S_, .f32⟩
  | 80 => ⟨S_, .f32⟩
  | 81 => ⟨S2x8192x128, .f32⟩
  | 82 => ⟨S1x8192x1, .f32⟩
  | 83 => ⟨S2x8192x128, .f32⟩
  | 84 => ⟨S2x8192x128, .f32⟩
  | 85 => ⟨S2x8192x128, .f32⟩
  | 86 => ⟨S2x8192x128, .f32⟩
  | 87 => ⟨S_, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S8192, .i32⟩
  | 100 => ⟨S8192, .f32⟩
  | 101 => ⟨S_, .f32⟩
  | 102 => ⟨S_, .f32⟩
  | 103 => ⟨S2x8192x128, .f32⟩
  | 104 => ⟨S1x8192x1, .f32⟩
  | 105 => ⟨S2x8192x128, .f32⟩
  | 106 => ⟨S2x8192x128, .f32⟩
  | 107 => ⟨S2x8192x128, .f32⟩
  | 108 => ⟨S2x8192x1x128, .f32⟩
  | 109 => ⟨S2x8192x1x128, .f32⟩
  | 110 => ⟨S2x8192x1x128, .f32⟩
  | 111 => ⟨S2x8192x1x128, .f32⟩
  | 112 => ⟨S2x8192x4x128, .f32⟩
  | 113 => ⟨S4x128x2x8192, .f32⟩
  | 114 => ⟨S2x8192x4x128, .f32⟩
  | 115 => ⟨S2x8192x512, .f32⟩
  | 116 => ⟨S1x1x512, .f32⟩
  | 117 => ⟨S2x8192x512, .f32⟩
  | 118 => ⟨S2x8192x512, .f32⟩
  | 119 => ⟨S2x8192x1024, .f32⟩
  | 120 => ⟨S2x8192x1024, .f32⟩
  | 121 => ⟨S_, .f32⟩
  | 122 => ⟨S2x8192x1024, .f32⟩
  | 123 => ⟨S2x8192x1024, .f32⟩
  | 124 => ⟨S_, .f32⟩
  | 125 => ⟨S2x8192x1024, .f32⟩
  | 126 => ⟨S2x8192x1024, .f32⟩
  | 127 => ⟨S2x8192x1024, .f32⟩
  | _ => ⟨S16384x5248, .bf16⟩

abbrev hbmTy0_1 (i : Nat) : BufTy := match i % 128 with
  | 0 => ⟨S2x8192x1024, .f32⟩
  | 1 => ⟨S2x8192x1024, .f32⟩
  | 2 => ⟨S2x8192x1024, .f32⟩
  | 3 => ⟨S_, .f32⟩
  | 4 => ⟨S2x8192x1024, .f32⟩
  | 5 => ⟨S2x8192x1024, .f32⟩
  | 6 => ⟨S_, .f32⟩
  | 7 => ⟨S2x8192x1024, .f32⟩
  | 8 => ⟨S2x8192x1024, .f32⟩
  | 9 => ⟨S2x8192x1024, .f32⟩
  | 10 => ⟨S2x8192x1024, .f32⟩
  | 11 => ⟨S2x8192x1024, .f32⟩
  | 12 => ⟨S2x8192x1024, .f32⟩
  | 13 => ⟨S2x8192x1024, .f32⟩
  | 14 => ⟨S2x8192x1024, .f32⟩
  | 15 => ⟨S_, .f32⟩
  | 16 => ⟨S2x8192, .f32⟩
  | 17 => ⟨S2x8192x1, .f32⟩
  | 18 => ⟨S_, .f32⟩
  | 19 => ⟨S2x8192x1, .f32⟩
  | 20 => ⟨S2x8192x1, .f32⟩
  | 21 => ⟨S_, .f32⟩
  | 22 => ⟨S2x8192x1, .f32⟩
  | 23 => ⟨S2x8192x1, .f32⟩
  | 24 => ⟨S2x8192x1, .f32⟩
  | 25 => ⟨S2x8192x1024, .f32⟩
  | 26 => ⟨S2x8192x1024, .f32⟩
  | 27 => ⟨S1x1x1024, .f32⟩
  | 28 => ⟨S2x8192x1024, .f32⟩
  | 29 => ⟨S2x8192x1024, .f32⟩
  | 30 => ⟨S2x8192x2816, .f32⟩
  | 31 => ⟨S2x8192x2816, .f32⟩
  | 32 => ⟨S2x8192x2816, .f32⟩
  | 33 => ⟨S_, .f32⟩
  | 34 => ⟨S2x8192x2816, .f32⟩
  | 35 => ⟨S2x8192x2816, .f32⟩
  | 36 => ⟨S_, .f32⟩
  | 37 => ⟨S2x8192x2816, .f32⟩
  | 38 => ⟨S2x8192x2816, .f32⟩
  | 39 => ⟨S2x8192x2816, .f32⟩
  | 40 => ⟨S2x8192x2816, .f32⟩
  | 41 => ⟨S2x8192x2816, .f32⟩
  | 42 => ⟨S2x8192x1024, .f32⟩
  | 43 => ⟨S2x8192x1024, .f32⟩
  | 44 => ⟨S2x8192x1024, .f32⟩
  | 45 => ⟨S_, .f32⟩
  | 46 => ⟨S2x8192, .f32⟩
  | 47 => ⟨S2x8192x1, .f32⟩
  | 48 => ⟨S_, .f32⟩
  | 49 => ⟨S2x8192x1, .f32⟩
  | 50 => ⟨S2x8192x1, .f32⟩
  | 51 => ⟨S_, .f32⟩
  | 52 => ⟨S2x8192x1, .f32⟩
  | 53 => ⟨S2x8192x1, .f32⟩
  | 54 => ⟨S2x8192x1, .f32⟩
  | 55 => ⟨S2x8192x1024, .f32⟩
  | 56 => ⟨S2x8192x1024, .f32⟩
  | 57 => ⟨S1x1x1024, .f32⟩
  | 58 => ⟨S2x8192x1024, .f32⟩
  | 59 => ⟨S2x8192x1024, .f32⟩
  | 60 => ⟨S16384x1024, .f32⟩
  | _ => ⟨S16384x5248, .bf16⟩

abbrev hbmTy (i : Nat) : BufTy := match i / 128 with
  | 0 => hbmTy0_0 i
  | 1 => hbmTy0_1 i
  | _ => ⟨S16384x5248, .bf16⟩

abbrev bufTy : (tb : Table) → Fin (tcTables nBuf tb) → BufTy
  | .hbm, ⟨i, _⟩ => hbmTy i
  | _, _ => ⟨S16384x5248, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_c_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_17 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_22 : Ref sig .tc := ⟨.hbm, 143, rfl⟩
abbrev main_v106 : Ref sig .tc := ⟨.hbm, 144, rfl⟩
abbrev main_v107 : Ref sig .tc := ⟨.hbm, 145, rfl⟩
abbrev main_cst_23 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_call0_v0 : Ref sig .tc := ⟨.hbm, 159, rfl⟩
abbrev main_call0_v1 : Ref sig .tc := ⟨.hbm, 160, rfl⟩
abbrev main_call0_cst : Ref sig .tc := ⟨.hbm, 161, rfl⟩
abbrev main_call0_v2 : Ref sig .tc := ⟨.hbm, 162, rfl⟩
abbrev main_call0_v3 : Ref sig .tc := ⟨.hbm, 163, rfl⟩
abbrev main_call0_cst_0 : Ref sig .tc := ⟨.hbm, 164, rfl⟩
abbrev main_call0_v4 : Ref sig .tc := ⟨.hbm, 165, rfl⟩
abbrev main_call0_v5 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_25 : Ref sig .tc := ⟨.hbm, 173, rfl⟩
abbrev main_v125 : Ref sig .tc := ⟨.hbm, 174, rfl⟩
abbrev main_v126 : Ref sig .tc := ⟨.hbm, 175, rfl⟩
abbrev main_cst_26 : Ref sig .tc := ⟨.hbm, 176, rfl⟩
abbrev main_v127 : Ref sig .tc := ⟨.hbm, 177, rfl⟩
abbrev main_v128 : Ref sig .tc := ⟨.hbm, 178, rfl⟩
abbrev main_cst_27 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x5168 : Shape := ⟨2, ![1024, 5168]⟩
abbrev S1024x3072 : Shape := ⟨2, ![1024, 3072]⟩
abbrev S1024x2048 : Shape := ⟨2, ![1024, 2048]⟩
abbrev S1024x48 : Shape := ⟨2, ![1024, 48]⟩
abbrev S_ : Shape := ⟨0, ![]⟩
abbrev S1024x128 : Shape := ⟨2, ![1024, 128]⟩
abbrev S16384x1024 : Shape := ⟨2, ![16384, 1024]⟩
abbrev S1x1024 : Shape := ⟨2, ![1, 1024]⟩
abbrev S16384x5248 : Shape := ⟨2, ![16384, 5248]⟩
abbrev S8x16384x64 : Shape := ⟨3, ![8, 16384, 64]⟩
abbrev S512x1024 : Shape := ⟨2, ![512, 1024]⟩
abbrev S512x5248 : Shape := ⟨2, ![512, 5248]⟩
abbrev S8x512x64 : Shape := ⟨3, ![8, 512, 64]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x64 : Shape := ⟨2, ![512, 64]⟩
abbrev S1x512x64 : Shape := ⟨3, ![1, 512, 64]⟩
abbrev S512x128 : Shape := ⟨2, ![512, 128]⟩

abbrev nBuf : Space → Nat
  | .hbm => 16
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5168, .f32⟩
  | .hbm, ⟨3, _⟩ => ⟨S1024x3072, .f32⟩
  | .hbm, ⟨4, _⟩ => ⟨S1024x3072, .bf16⟩
  | .hbm, ⟨5, _⟩ => ⟨S1024x2048, .f32⟩
  | .hbm, ⟨6, _⟩ => ⟨S1024x2048, .bf16⟩
  | .hbm, ⟨7, _⟩ => ⟨S1024x48, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S16384x1024, .f32⟩
  | .hbm, ⟨13, _⟩ => ⟨S1x1024, .f32⟩
  | .hbm, ⟨14, _⟩ => ⟨S16384x5248, .bf16⟩
  | .hbm, ⟨15, _⟩ => ⟨S8x16384x64, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x2048, .bf16⟩
  | .local _ .vmem, ⟨5, _⟩ => ⟨S1024x128, .bf16⟩
  | .local _ .vmem, ⟨6, _⟩ => ⟨S512x5248, .bf16⟩
  | .local _ .vmem, ⟨7, _⟩ => ⟨S512x5248, .bf16⟩
  | .local _ .vmem, ⟨8, _⟩ => ⟨S8x512x64, .bf16⟩
  | .local _ .vmem, ⟨9, _⟩ => ⟨S8x512x64, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5248 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x8192x1024 : Shape := ⟨3, ![2, 8192, 1024]⟩
abbrev S1024 : Shape := ⟨1, ![1024]⟩
abbrev S1024x5168 : Shape := ⟨2, ![1024, 5168]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5168 : Shape := ⟨3, ![2, 8192, 5168]⟩
abbrev S2x8192x3072 : Shape := ⟨3, ![2, 8192, 3072]⟩
abbrev S2x8192x256 : Shape := ⟨3, ![2, 8192, 256]⟩
abbrev S2x8192x48 : Shape := ⟨3, ![2, 8192, 48]⟩
abbrev S2x8192x80 : Shape := ⟨3, ![2, 8192, 80]⟩
abbrev S2x8192x5248 : Shape := ⟨3, ![2, 8192, 5248]⟩
abbrev S16384x4x64 : Shape := ⟨3, ![16384, 4, 64]⟩
abbrev S4x16384x64 : Shape := ⟨3, ![4, 16384, 64]⟩
abbrev S8x16384x64 : Shape := ⟨3, ![8, 16384, 64]⟩
abbrev S16384x5248 : Shape := ⟨2, ![16384, 5248]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5168, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x5168, .f32⟩
  | .hbm, ⟨20, _⟩ => ⟨S2x8192x3072, .f32⟩
  | .hbm, ⟨21, _⟩ => ⟨S2x8192x256, .f32⟩
  | .hbm, ⟨22, _⟩ => ⟨S2x8192x256, .f32⟩
  | .hbm, ⟨23, _⟩ => ⟨S2x8192x48, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192x80, .f32⟩
  | .hbm, ⟨28, _⟩ => ⟨S2x8192x5248, .f32⟩
  | .hbm, ⟨29, _⟩ => ⟨S16384x4x64, .f32⟩
  | .hbm, ⟨30, _⟩ => ⟨S4x16384x64, .f32⟩
  | .hbm, ⟨31, _⟩ => ⟨S16384x4x64, .f32⟩
  | .hbm, ⟨32, _⟩ => ⟨S4x16384x64, .f32⟩
  | .hbm, ⟨33, _⟩ => ⟨S8x16384x64, .f32⟩
  | .hbm, ⟨34, _⟩ => ⟨S16384x5248, .f32⟩
  | .hbm, ⟨35, _⟩ => ⟨S16384x5248, .bf16⟩
  | .hbm, ⟨36, _⟩ => ⟨S8x16384x64, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel3.lean ====
abbrev S8x16384x64 : Shape := ⟨3, ![8, 16384, 64]⟩
abbrev S32x64 : Shape := ⟨2, ![32, 64]⟩
abbrev S2048x256 : Shape := ⟨2, ![2048, 256]⟩
abbrev S256 : Shape := ⟨1, ![256]⟩
abbrev S256x64 : Shape := ⟨2, ![256, 64]⟩
abbrev S8x2x128x4096 : Shape := ⟨4, ![8, 2, 128, 4096]⟩
abbrev S1x2048 : Shape := ⟨2, ![1, 2048]⟩
abbrev S8x2048 : Shape := ⟨2, ![8, 2048]⟩
abbrev S1x256 : Shape := ⟨2, ![1, 256]⟩
abbrev S2x4x512x128 : Shape := ⟨4, ![2, 4, 512, 128]⟩
abbrev S2x4x64x512 : Shape := ⟨4, ![2, 4, 64, 512]⟩
abbrev S1x1x128x4096 : Shape := ⟨4, ![1, 1, 128, 4096]⟩
abbrev S1x1x512x128 : Shape := ⟨4, ![1, 1, 512, 128]⟩
abbrev S1x1x64x512 : Shape := ⟨4, ![1, 1, 64, 512]⟩
abbrev S1x1x128x1024 : Shape := ⟨4, ![1, 1, 128, 1024]⟩
abbrev S128x1024 : Shape := ⟨2, ![128, 1024]⟩
abbrev S1024x256 : Shape := ⟨2, ![1024, 256]⟩
abbrev S128x256 : Shape := ⟨2, ![128, 256]⟩
abbrev S8x256 : Shape := ⟨2, ![8, 256]⟩
abbrev S512x256 : Shape := ⟨2, ![512, 256]⟩
abbrev S512x64 : Shape := ⟨2, ![512, 64]⟩
abbrev S512x128 : Shape := ⟨2, ![512, 128]⟩
abbrev S128x512 : Shape := ⟨2, ![128, 512]⟩
abbrev S64x512 : Shape := ⟨2, ![64, 512]⟩

abbrev nBuf : Space → Nat
  | .hbm => 24
  | .vmem => 16
  | .smem => 0
  | _ => 0

abbrev bufTy : (tb : Table) → Fin (tcTables nBuf tb) → BufTy
  | .hbm, ⟨0, _⟩ => ⟨S8x16384x64, .bf16⟩
  | .hbm, ⟨1, _⟩ => ⟨S32x64, .f32⟩
  | .hbm, ⟨2, _⟩ => ⟨S2048x256, .f32⟩
  | .hbm, ⟨3, _⟩ => ⟨S256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256, .f32⟩
  | .hbm, ⟨8, _⟩ => ⟨S256x64, .f32⟩
  | .hbm, ⟨9, _⟩ => ⟨S8x2x128x4096, .bf16⟩
  | .hbm, ⟨10, _⟩ => ⟨S1x2048, .f32⟩
  | .hbm, ⟨11, _⟩ => ⟨S8x2048, .f32⟩
  | .hbm, ⟨12, _⟩ => ⟨S8x2048, .bf16⟩
  | .hbm, ⟨13, _⟩ => ⟨S2048x256, .bf16⟩
  | .hbm, ⟨14, _⟩ => ⟨S1x256, .f32⟩
  | .hbm, ⟨15, _⟩ => ⟨S256x64, .bf16⟩
  | .hbm, ⟨16, _⟩ => ⟨S1x2048, .f32⟩
  | .hbm, ⟨17, _⟩ => ⟨S8x2048, .f32⟩
  | .hbm, ⟨18, _⟩ => ⟨S8x2048, .bf16⟩
  | .hbm, ⟨19, _⟩ => ⟨S2048x256, .bf16⟩
  | .hbm, ⟨20, _⟩ => ⟨S1x256, .f32⟩
  | .hbm, ⟨21, _⟩ => ⟨S256x64, .bf16⟩
  | .hbm, ⟨22, _⟩ => ⟨S2x4x512x128, .bf16⟩
  | .hbm, ⟨23, _⟩ => ⟨S2x4x64x512, .bf16⟩
  | .local _ .vmem, ⟨0, _⟩ => ⟨S1x1x128x4096, .bf16⟩
  | .local _ .vmem, ⟨1, _⟩ => ⟨S1x1x128x4096, .bf16⟩
  | .local _ .vmem, ⟨2, _⟩ => ⟨S1x1x128x4096, .bf16⟩
  | .local _ .vmem, ⟨3, _⟩ => ⟨S1x1x128x4096, .bf16⟩
  | .local _ .vmem, ⟨4, _⟩ => ⟨S8x2048, .bf16⟩
  | .local _ .vmem, ⟨5, _⟩ => ⟨S2048x256, .bf16⟩
  | .local _ .vmem, ⟨6, _⟩ => ⟨S1x256, .f32⟩
  | .local _ .vmem, ⟨7, _⟩ => ⟨S256x64, .bf16⟩
  | .local _ .vmem, ⟨8, _⟩ => ⟨S8x2048, .bf16⟩
  | .local _ .vmem, ⟨9, _⟩ => ⟨S2048x256, .bf16⟩
  | .local _ .vmem, ⟨10, _⟩ => ⟨S1x256, .f32⟩
  | .local _ .vmem, ⟨11, _⟩ => ⟨S256x64, .bf16⟩
  | .local _ .vmem, ⟨12, _⟩ => ⟨S1x1x512x128, .bf16⟩
  | .local _ .vmem, ⟨13, _⟩ => ⟨S1x1x512x128, .bf16⟩
  | .local _ .vmem, ⟨14, _⟩ => ⟨S1x1x64x512, .bf16⟩
  | .local _ .vmem, ⟨15, _⟩ => ⟨S1x1x64x512, .bf16⟩
  | _, _ => ⟨S8x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x16384x64 : Shape := ⟨3, ![8, 16384, 64]⟩
abbrev S32x64 : Shape := ⟨2, ![32, 64]⟩
abbrev S2048x256 : Shape := ⟨2, ![2048, 256]⟩
abbrev S256 : Shape := ⟨1, ![256]⟩
abbrev S256x64 : Shape := ⟨2, ![256, 64]⟩
abbrev S8x2x8192x64 : Shape := ⟨4, ![8, 2, 8192, 64]⟩
abbrev S4x2x8192x64 : Shape := ⟨4, ![4, 2, 8192, 64]⟩
abbrev S4x2x512x16x64 : Shape := ⟨5, ![4, 2, 512, 16, 64]⟩
abbrev S4x2x511x16x64 : Shape := ⟨5, ![4, 2, 511, 16, 64]⟩
abbrev S4x2x1x16x64 : Shape := ⟨5, ![4, 2, 1, 16, 64]⟩
abbrev S4x2x512x32x64 : Shape := ⟨5, ![4, 2, 512, 32, 64]⟩
abbrev S1x1x1x32x64 : Shape := ⟨5, ![1, 1, 1, 32, 64]⟩
abbrev S4x2x512x2048 : Shape := ⟨4, ![4, 2, 512, 2048]⟩
abbrev S4x2x512x256 : Shape := ⟨4, ![4, 2, 512, 256]⟩
abbrev S1x1x1x256 : Shape := ⟨4, ![1, 1, 1, 256]⟩
abbrev S_ : Shape := ⟨0, ![]⟩
abbrev S4x2x512x64 : Shape := ⟨4, ![4, 2, 512, 64]⟩
abbrev S4x2x128x4x64 : Shape := ⟨5, ![4, 2, 128, 4, 64]⟩
abbrev S2x4x4x128x64 : Shape := ⟨5, ![2, 4, 4, 128, 64]⟩
abbrev S2x4x512x64 : Shape := ⟨4, ![2, 4, 512, 64]⟩
abbrev S2x4x64x4x128 : Shape := ⟨5, ![2, 4, 64, 4, 128]⟩
abbrev S2x4x64x512 : Shape := ⟨4, ![2, 4, 64, 512]⟩
abbrev S2x4x512x128 : Shape := ⟨4, ![2, 4, 512, 128]⟩

abbrev nBuf : Space → Nat
  | .hbm => 89
  | .vmem => 0
  | .smem => 0
  | _ => 0

abbrev bufTy : (tb : Table) → Fin (tcTables nBuf tb) → BufTy
  | .hbm, ⟨0, _⟩ => ⟨S8x16384x64, .bf16⟩
  | .hbm, ⟨1, _⟩ => ⟨S32x64, .f32⟩
  | .hbm, ⟨2, _⟩ => ⟨S2048x256, .f32⟩
  | .hbm, ⟨3, _⟩ => ⟨S256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256, .f32⟩
  | .hbm, ⟨8, _⟩ => ⟨S256x64, .f32⟩
  | .hbm, ⟨9, _⟩ => ⟨S8x16384x64, .f32⟩
  | .hbm, ⟨10, _⟩ => ⟨S8x2x8192x64, .f32⟩
  | .hbm, ⟨11, _⟩ => ⟨S4x2x8192x64, .f32⟩
  | .hbm, ⟨12, _⟩ => ⟨S4x2x512x16x64, .f32⟩
  | .hbm, ⟨13, _⟩ => ⟨S4x2x511x16x64, .f32⟩
  | .hbm, ⟨14, _⟩ => ⟨S4x2x1x16x64, .f32⟩
  | .hbm, ⟨15, _⟩ => ⟨S4x2x512x16x64, .f32⟩
  | .hbm, ⟨16, _⟩ => ⟨S4x2x512x32x64, .f32⟩
  | .hbm, ⟨17, _⟩ => ⟨S1x1x1x32x64, .f32⟩
  | .hbm, ⟨18, _⟩ => ⟨S4x2x512x32x64, .f32⟩
  | .hbm, ⟨19, _⟩ => ⟨S4x2x512x32x64, .f32⟩
  | .hbm, ⟨20, _⟩ => ⟨S4x2x512x2048, .f32⟩
  | .hbm, ⟨21, _⟩ => ⟨S4x2x512x256, .f32⟩
  | .hbm, ⟨22, _⟩ => ⟨S1x1x1x256, .f32⟩
  | .hbm, ⟨23, _⟩ => ⟨S4x2x512x256, .f32⟩
  | .hbm, ⟨24, _⟩ => ⟨S4x2x512x256, .f32⟩
  | .hbm, ⟨25, _⟩ => ⟨S4x2x512x256, .f32⟩
  | .hbm, ⟨26, _⟩ => ⟨S4x2x512x256, .f32⟩
  | .hbm, ⟨27, _⟩ => ⟨S_, .f32⟩
  | .hbm, ⟨28, _⟩ => ⟨S4x2x512x256, .f32⟩
  | .hbm, ⟨29, _⟩ => ⟨S4x2x512x256, .f32⟩
  | .hbm, ⟨30, _⟩ => ⟨S4x2x512x256, .f32⟩
  | .hbm, ⟨31, _⟩ => ⟨S_, .f32⟩
  | .hbm, ⟨32, _⟩ => ⟨S4x2x512x256, .f32⟩
  | .hbm, ⟨33, _⟩ => ⟨S4x2x512x256, .f32⟩
  | .hbm, ⟨34, _⟩ => ⟨S4x2x512x256, .f32⟩
  | .hbm, ⟨35, _⟩ => ⟨S_, .f32⟩
  | .hbm, ⟨36, _⟩ => ⟨S4x2x512x256, .f32⟩
  | .hbm, ⟨37, _⟩ => ⟨S4x2x512x256, .f32⟩
  | .hbm, ⟨38, _⟩ => ⟨S_, .f32⟩
  | .hbm, ⟨39, _⟩ => ⟨S4x2x512x256, .f32⟩
  | .hbm, ⟨40, _⟩ => ⟨S4x2x512x256, .f32⟩
  | .hbm, ⟨41, _⟩ => ⟨S4x2x512x256, .f32⟩
  | .hbm, ⟨42, _⟩ => ⟨S4x2x512x64, .f32⟩
  | .hbm, ⟨43, _⟩ => ⟨S4x2x8192x64, .f32⟩
  | .hbm, ⟨44, _⟩ => ⟨S4x2x512x16x64, .f32⟩
  | .hbm, ⟨45, _⟩ => ⟨S4x2x511x16x64, .f32⟩
  | .hbm, ⟨46, _⟩ => ⟨S4x2x1x16x64, .f32⟩
  | .hbm, ⟨47, _⟩ => ⟨S4x2x512x16x64, .f32⟩
  | .hbm, ⟨48, _⟩ => ⟨S4x2x512x32x64, .f32⟩
  | .hbm, ⟨49, _⟩ => ⟨S1x1x1x32x64, .f32⟩
  | .hbm, ⟨50, _⟩ => ⟨S4x2x512x32x64, .f32⟩
  | .hbm, ⟨51, _⟩ => ⟨S4x2x512x32x64, .f32⟩
  | .hbm, ⟨52, _⟩ => ⟨S4x2x512x2048, .f32⟩
  | .hbm, ⟨53, _⟩ => ⟨S4x2x512x256, .f32⟩
  | .hbm, ⟨54, _⟩ => ⟨S1x1x1x256, .f32⟩
  | .hbm, ⟨55, _⟩ => ⟨S4x2x512x256, .f32⟩
  | .hbm, ⟨56, _⟩ => ⟨S4x2x512x256, .f32⟩
  | .hbm, ⟨57, _⟩ => ⟨S4x2x512x256, .f32⟩
  | .hbm, ⟨58, _⟩ => ⟨S4x2x512x256, .f32⟩
  | .hbm, ⟨59, _⟩ => ⟨S_, .f32⟩
  | .hbm, ⟨60, _⟩ => ⟨S4x2x512x256, .f32⟩
  | .hbm, ⟨61, _⟩ => ⟨S4x2x512x256, .f32⟩
  | .hbm, ⟨62, _⟩ => ⟨S4x2x512x256, .f32⟩
  | .hbm, ⟨63, _⟩ => ⟨S_, .f32⟩
  | .hbm, ⟨64, _⟩ => ⟨S4x2x512x256, .f32⟩
  | .hbm, ⟨65, _⟩ => ⟨S4x2x512x256, .f32⟩
  | .hbm, ⟨66, _⟩ => ⟨S4x2x512x256, .f32⟩
  | .hbm, ⟨67, _⟩ => ⟨S_, .f32⟩
  | .hbm, ⟨68, _⟩ => ⟨S4x2x512x256, .f32⟩
  | .hbm, ⟨69, _⟩ => ⟨S4x2x512x256, .f32⟩
  | .hbm, ⟨70, _⟩ => ⟨S_, .f32⟩
  | .hbm, ⟨71, _⟩ => ⟨S4x2x512x256, .f32⟩
  | .hbm, ⟨72, _⟩ => ⟨S4x2x512x256, .f32⟩
  | .hbm, ⟨73, _⟩ => ⟨S4x2x512x256, .f32⟩
  | .hbm, ⟨74, _⟩ => ⟨S4x2x512x64, .f32⟩
  | .hbm, ⟨75, _⟩ => ⟨S4x2x128x4x64, .f32⟩
  | .hbm, ⟨76, _⟩ => ⟨S2x4x4x128x64, .f32⟩
  | .hbm, ⟨77, _⟩ => ⟨S2x4x512x64, .f32⟩
  | .hbm, ⟨78, _⟩ => ⟨S_, .f32⟩
  | .hbm, ⟨79, _⟩ => ⟨S2x4x512x64, .f32⟩
  | .hbm, ⟨80, _⟩ => ⟨S2x4x512x64, .f32⟩
  | .hbm, ⟨81, _⟩ => ⟨S4x2x128x4x64, .f32⟩
  | .hbm, ⟨82, _⟩ => ⟨S2x4x64x4x128, .f32⟩
  | .hbm, ⟨83, _⟩ => ⟨S2x4x64x512, .f32⟩
  | .hbm, ⟨84, _⟩ => ⟨S_, .f32⟩
  | .hbm, ⟨85, _⟩ => ⟨S2x4x512x64, .f32⟩
  | .hbm, ⟨86, _⟩ => ⟨S2x4x512x128, .f32⟩
  | .hbm, ⟨87, _⟩ => ⟨S2x4x512x128, .bf16⟩
  | .hbm, ⟨88, _⟩ => ⟨S2x4x64x512, .bf16⟩
  | _, _ => ⟨S8x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel4.lean ====
abbrev S16384x5248 : Shape := ⟨2, ![16384, 5248]⟩
abbrev S256x256 : Shape := ⟨2, ![256, 256]⟩
abbrev S2x8192x5248 : Shape := ⟨3, ![2, 8192, 5248]⟩
abbrev S8 : Shape := ⟨1, ![8]⟩
abbrev S_ : Shape := ⟨0, ![]⟩
abbrev S8x1 : Shape := ⟨2, ![8, 1]⟩
abbrev S8192 : Shape := ⟨1, ![8192]⟩
abbrev S1x8192 : Shape := ⟨2, ![1, 8192]⟩
abbrev S8x8192 : Shape := ⟨2, ![8, 8192]⟩
abbrev S48x8192 : Shape := ⟨2, ![48, 8192]⟩
abbrev S64x8192 : Shape := ⟨2, ![64, 8192]⟩
abbrev S8192x64 : Shape := ⟨2, ![8192, 64]⟩
abbrev S2x4x8192x256 : Shape := ⟨4, ![2, 4, 8192, 256]⟩
abbrev S2x4x64x8192 : Shape := ⟨4, ![2, 4, 64, 8192]⟩
abbrev S2x4x8192x128 : Shape := ⟨4, ![2, 4, 8192, 128]⟩
abbrev S2x8x128 : Shape := ⟨3, ![2, 8, 128]⟩
abbrev S1x1024x256 : Shape := ⟨3, ![1, 1024, 256]⟩
abbrev S1024x64 : Shape := ⟨2, ![1024, 64]⟩
abbrev S1x4x1024x256 : Shape := ⟨4, ![1, 4, 1024, 256]⟩
abbrev S1x4x64x1024 : Shape := ⟨4, ![1, 4, 64, 1024]⟩
abbrev S1x4x1024x128 : Shape := ⟨4, ![1, 4, 1024, 128]⟩
abbrev S1x8x128 : Shape := ⟨3, ![1, 8, 128]⟩
abbrev S1024x256 : Shape := ⟨2, ![1024, 256]⟩
abbrev S1024x128 : Shape := ⟨2, ![1024, 128]⟩
abbrev S256x128 : Shape := ⟨2, ![256, 128]⟩
abbrev S128 : Shape := ⟨1, ![128]⟩
abbrev S1x128 : Shape := ⟨2, ![1, 128]⟩
abbrev S8x128 : Shape := ⟨2, ![8, 128]⟩
abbrev S256x1024 : Shape := ⟨2, ![256, 1024]⟩
abbrev S1x1x1024x128 : Shape := ⟨4, ![1, 1, 1024, 128]⟩
abbrev S1x1x1024x64 : Shape := ⟨4, ![1, 1, 1024, 64]⟩
abbrev S64x1024 : Shape := ⟨2, ![64, 1024]⟩
abbrev S1x1x64x1024 : Shape := ⟨4, ![1, 1, 64, 1024]⟩

abbrev nBuf : Space → Nat
  | .hbm => 41
  | .vmem => 23
  | .smem => 0
  | _ => 0

abbrev bufTy : (tb : Table) → Fin (tcTables nBuf tb) → BufTy
  | .hbm, ⟨0, _⟩ => ⟨S16384x5248, .bf16⟩
  | .hbm, ⟨1, _⟩ => ⟨S256x256, .bf16⟩
  | .hbm, ⟨2, _⟩ => ⟨S2x8192x5248, .bf16⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S8192, .i32⟩
  | .hbm, ⟨21, _⟩ => ⟨S8192, .f32⟩
  | .hbm, ⟨22, _⟩ => ⟨S1x8192, .f32⟩
  | .hbm, ⟨23, _⟩ => ⟨S8x8192, .f32⟩
  | .hbm, ⟨24, _⟩ => ⟨S8x8192, .f32⟩
  | .hbm, ⟨25, _⟩ => ⟨S8x8192, .f32⟩
  | .hbm, ⟨26, _⟩ => ⟨S8x8192, .f32⟩
  | .hbm, ⟨27, _⟩ => ⟨S8x8192, .f32⟩
  | .hbm, ⟨28, _⟩ => ⟨S_, .f32⟩
  | .hbm, ⟨29, _⟩ => ⟨S48x8192, .f32⟩
  | .hbm, ⟨30, _⟩ => ⟨S64x8192, .f32⟩
  | .hbm, ⟨31, _⟩ => ⟨S8192x64, .f32⟩
  | .hbm, ⟨32, _⟩ => ⟨S_, .f32⟩
  | .hbm, ⟨33, _⟩ => ⟨S48x8192, .f32⟩
  | .hbm, ⟨34, _⟩ => ⟨S64x8192, .f32⟩
  | .hbm, ⟨35, _⟩ => ⟨S8192x64, .f32⟩
  | .hbm, ⟨36, _⟩ => ⟨S2x4x8192x256, .bf16⟩
  | .hbm, ⟨37, _⟩ => ⟨S2x4x64x8192, .bf16⟩
  | .hbm, ⟨38, _⟩ => ⟨S2x4x8192x128, .bf16⟩
  | .hbm, ⟨39, _⟩ => ⟨S2x4x64x8192, .bf16⟩
  | .hbm, ⟨40, _⟩ => ⟨S2x8x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S256x256, .bf16⟩
  | .local _ .vmem, ⟨13, _⟩ => ⟨S1x4x1024x256, .bf16⟩
  | .local _ .vmem, ⟨14, _⟩ => ⟨S1x4x1024x256, .bf16⟩
  | .local _ .vmem, ⟨15, _⟩ => ⟨S1x4x64x1024, .bf16⟩
  | .local _ .vmem, ⟨16, _⟩ => ⟨S1x4x64x1024, .bf16⟩
  | .local _ .vmem, ⟨17, _⟩ => ⟨S1x4x1024x128, .bf16⟩
  | .local _ .vmem, ⟨18, _⟩ => ⟨S1x4x1024x128, .bf16⟩
  | .local _ .vmem, ⟨19, _⟩ => ⟨S1x4x64x1024, .bf16⟩
  | .local _ .vmem, ⟨20, _⟩ => ⟨S1x4x64x1024, .bf16⟩
  | .local _ .vmem, ⟨21, _⟩ => ⟨S1x8x128, .f32⟩
  | .local _ .vmem, ⟨22, _⟩ => ⟨S1x8x128, .f32⟩
  | _, _ => ⟨S16384x5248, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v62 : BitVec 1 := Scalar.cmpi .eq arg1 c0_i32
  let v63 : BitVec 32 := Scalar.extui v62
  let c0_i32_24 : BitVec 32 := 0#32
  let v64 : BitVec 1 := Scalar.cmpi .ne v63 c0_i32_24
  v64

def k0_cond2 (i : grid0.Coords) : BitVec 1 :=
  let arg1 : BitVec 32 := BitVec.ofNat 32 (i 1).val
  let c0_i32_25 : BitVec 32 := 0#32
  let v65 : BitVec 1 := Scalar.cmpi .sgt arg1 c0_i32_25
  let v66 : BitVec 32 := Scalar.extui v65
  let c0_i32_26 : BitVec 32 := 0#32
  let v67 : BitVec 1 := Scalar.cmpi .ne v66 c0_i32_26
  v67

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S16384x5248 : Shape := ⟨2, ![16384, 5248]⟩
abbrev S256x256 : Shape := ⟨2, ![256, 256]⟩
abbrev S2x8192x5248 : Shape := ⟨3, ![2, 8192, 5248]⟩
abbrev S8192 : Shape := ⟨1, ![8192]⟩
abbrev S2x8192x256 : Shape := ⟨3, ![2, 8192, 256]⟩
abbrev S2x8192x4x64 : Shape := ⟨4, ![2, 8192, 4, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x4x8 : Shape := ⟨4, ![2, 8192, 4, 8]⟩
abbrev S2x8192x4x48 : Shape := ⟨4, ![2, 8192, 4, 48]⟩
abbrev S2x8192x4 : Shape := ⟨3, ![2, 8192, 4]⟩
abbrev S2x4 : Shape := ⟨2, ![2, 4]⟩
abbrev S2x8 : Shape := ⟨2, ![2, 8]⟩
abbrev S128x128 : Shape := ⟨2, ![128, 128]⟩
abbrev S128x1x128 : Shape := ⟨3, ![128, 1, 128]⟩
abbrev S128x64x128 : Shape := ⟨3, ![128, 64, 128]⟩
abbrev S8192x128 : Shape := ⟨2, ![8192, 128]⟩
abbrev S1x1x8192x128 : Shape := ⟨4, ![1, 1, 8192, 128]⟩
abbrev S2x4x8192x128 : Shape := ⟨4, ![2, 4, 8192, 128]⟩
abbrev S2x4x8192x1 : Shape := ⟨4, ![2, 4, 8192, 1]⟩
abbrev S2x4x8192x63 : Shape := ⟨4, ![2, 4, 8192, 63]⟩
abbrev S2x4x8192x64 : Shape := ⟨4, ![2, 4, 8192, 64]⟩
abbrev S2x4x8192x256 : Shape := ⟨4, ![2, 4, 8192, 256]⟩
abbrev S2x4x64x8192 : Shape := ⟨4, ![2, 4, 64, 8192]⟩
abbrev S2x120 : Shape := ⟨2, ![2, 120]⟩
abbrev S2x128 : Shape := ⟨2, ![2, 128]⟩
abbrev S2x1x128 : Shape := ⟨3, ![2, 1, 128]⟩
abbrev S2x8x128 : Shape := ⟨3, ![2, 8, 128]⟩

abbrev nBuf : Space → Nat
  | .hbm => 141
  | .vmem => 0
  | .smem => 0
  | _ => 0

abbrev hbmTy0_0 (i : Nat) : BufTy := match i % 128 with
  | 0 => ⟨S16384x5248, .bf16⟩
  | 1 => ⟨S256x256, .bf16⟩
  | 2 => ⟨S16384x5248, .f32⟩
  | 3 => ⟨S2x8192x5248, .f32⟩
  | 4 => ⟨S8192, .i32⟩
  | 5 => ⟨S2x8192x256, .f32⟩
  | 6 => ⟨S2x8192x4x64, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8192, .f32⟩
  | 24 => ⟨S8192x1, .f32⟩
  | 25 => ⟨S1x8, .f32⟩
  | 26 => ⟨S8192x8, .f32⟩
  | 27 => ⟨S8192x8, .f32⟩
  | 28 => ⟨S8192x8, .f32⟩
  | 29 => ⟨S8192x8, .f32⟩
  | 30 => ⟨S1x8192x1x8, .f32⟩
  | 31 => ⟨S8192x8, .f32⟩
  | 32 => ⟨S1x8192x1x8, .f32⟩
  | 33 => ⟨S2x8192x4x8, .f32⟩
  | 34 => ⟨S2x8192x4x8, .f32⟩
  | 35 => ⟨S2x8192x4x8, .f32⟩
  | 36 => ⟨S2x8192x4x8, .f32⟩
  | 37 => ⟨S2x8192x4x8, .f32⟩
  | 38 => ⟨S2x8192x4x8, .f32⟩
  | 39 => ⟨S2x8192x4x8, .f32⟩
  | 40 => ⟨S2x8192x4x8, .f32⟩
  | 41 => ⟨S2x8192x4x8, .f32⟩
  | 42 => ⟨S2x8192x4x8, .f32⟩
  | 43 => ⟨S2x8192x4x8, .f32⟩
  | 44 => ⟨S2x8192x4x8, .f32⟩
  | 45 => ⟨S2x8192x4x48, .f32⟩
  | 46 => ⟨S2x8192x4x64, .f32⟩
  | 47 => ⟨S_, .f32⟩
  | 48 => ⟨S2x8192x4x64, .f32⟩
  | 49 => ⟨S2x8192x4x64, .f32⟩
  | 50 => ⟨S2x8192x256, .f32⟩
  | 51 => ⟨S2x8192x4x64, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S8192, .f32⟩
  | 69 => ⟨S8192x1, .f32⟩
  | 70 => ⟨S1x8, .f32⟩
  | 71 => ⟨S8192x8, .f32⟩
  | 72 => ⟨S8192x8, .f32⟩
  | 73 => ⟨S8192x8, .f32⟩
  | 74 => ⟨S8192x8, .f32⟩
  | 75 => ⟨S1x8192x1x8, .f32⟩
  | 76 => ⟨S8192x8, .f32⟩
  | 77 => ⟨S1x8192x1x8, .f32⟩
  | 78 => ⟨S2x8192x4x8, .f32⟩
  | 79 => ⟨S2x8192x4x8, .f32⟩
  | 80 => ⟨S2x8192x4x8, .f32⟩
  | 81 => ⟨S2x8192x4x8, .f32⟩
  | 82 => ⟨S2x8192x4x8, .f32⟩
  | 83 => ⟨S2x8192x4x8, .f32⟩
  | 84 => ⟨S2x8192x4x8, .f32⟩
  | 85 => ⟨S2x8192x4x8, .f32⟩
  | 86 => ⟨S2x8192x4x8, .f32⟩
  | 87 => ⟨S2x8192x4x8, .f32⟩
  | 88 => ⟨S2x8192x4x8, .f32⟩
  | 89 => ⟨S2x8192x4x8, .f32⟩
  | 90 => ⟨S2x8192x4x48, .f32⟩
  | 91 => ⟨S2x8192x4x64, .f32⟩
  | 92 => ⟨S_, .f32⟩
  | 93 => ⟨S2x8192x4x64, .f32⟩
  | 94 => ⟨S2x8192x4x64, .f32⟩
  | 95 => ⟨S2x8192x256, .f32⟩
  | 96 => ⟨S2x8192x4x64, .f32⟩
  | 97 => ⟨S2x8192x256, .f32⟩
  | 98 => ⟨S2x8192x4x64, .f32⟩
  | 99 => ⟨S2x8192x4x64, .f32⟩
  | 100 => ⟨S_, .f32⟩
  | 101 => ⟨S2x8192x4, .f32⟩
  | 102 => ⟨S_, .f32⟩
  | 103 => ⟨S2x4, .f32⟩
  | 104 => ⟨S2x8192x4x64, .f32⟩
  | 105 => ⟨S_, .f32⟩
  | 106 => ⟨S2x8192x4, .f32⟩
  | 107 => ⟨S_, .f32⟩
  | 108 => ⟨S2x4, .f32⟩
  | 109 => ⟨S2x8, .f32⟩
  | 110 => ⟨S128x128, .i32⟩
  | 111 => ⟨S128x128, .i32⟩
  | 112 => ⟨S_, .i32⟩
  | 113 => ⟨S128x128, .i32⟩
  | 114 => ⟨S128x128, .i32⟩
  | 115 => ⟨S128x128, .i1⟩
  | 116 => ⟨S128x128, .f32⟩
  | 117 => ⟨S128x1x128, .f32⟩
  | 118 => ⟨S128x64x128, .f32⟩
  | 119 => ⟨S8192x128, .f32⟩
  | 120 => ⟨S1x1x8192x128, .f32⟩
  | 121 => ⟨S2x4x8192x128, .f32⟩
  | 122 => ⟨S_, .f32⟩
  | 123 => ⟨S2x4x8192x1, .f32⟩
  | 124 => ⟨S_, .f32⟩
  | 125 => ⟨S2x4x8192x63, .f32⟩
  | 126 => ⟨S2x4x8192x64, .f32⟩
  | 127 => ⟨S2x4x8192x256, .f32⟩
  | _ => ⟨S16384x5248, .bf16⟩

abbrev hbmTy0_1 (i : Nat) : BufTy := match i % 128 with
  | 0 => ⟨S2x4x8192x64, .f32⟩
  | 1 => ⟨S2x4x8192x128, .f32⟩
  | 2 => ⟨S2x4x64x8192, .f32⟩
  | 3 => ⟨S2x4x64x8192, .f32⟩
  | 4 => ⟨S_, .f32⟩
  | 5 => ⟨S2x120, .f32⟩
  | 6 => ⟨S2x128, .f32⟩
  | 7 => ⟨S2x1x128, .f32⟩
  | 8 => ⟨S2x8x128, .f32⟩
  | 9 => ⟨S2x4x8192x256, .bf16⟩
  | 10 => ⟨S2x4x64x8192, .bf16⟩
  | 11 => ⟨S2x4x8192x128, .bf16⟩
  | 12 => ⟨S2x4x64x8192, .bf16⟩
  | _ => ⟨S16384x5248, .bf16⟩

abbrev hbmTy (i : Nat) : BufTy := match i / 128 with
  | 0 => hbmTy0_0 i
  | 1 => hbmTy0_1 i
  | _ => ⟨S16384x5248, .bf16⟩

abbrev bufTy : (tb : Table) → Fin (tcTables nBuf tb) → BufTy
  | .hbm, ⟨i, _⟩ => hbmTy i
  | _, _ => ⟨S16384x5248, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_cst_6 : Ref sig .tc := ⟨.hbm, 56, rfl⟩
abbrev main_v47 : Ref sig .tc := ⟨.hbm, 57, rfl⟩
abbrev main_v48 : Ref sig .tc := ⟨.hbm, 58, rfl⟩
abbrev main_cst_7 : Ref sig .tc := ⟨.hbm, 59, rfl⟩
abbrev main_v49 : Ref sig .tc := ⟨.hbm, 60, rfl⟩
abbrev main_v50 : Ref sig .tc := ⟨.hbm, 61, rfl⟩
abbrev main_cst_8 : Ref sig .tc := ⟨.hbm, 62, rfl⟩
abbrev main_v51 : Ref sig .tc := ⟨.hbm, 63, rfl⟩
abbrev main_v52 : Ref sig .tc := ⟨.hbm, 64, rfl⟩
abbrev main_cst_9 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_10 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_11 : Ref sig .tc := ⟨.hbm, 100, rfl⟩
abbrev main_v86 : Ref sig .tc := ⟨.hbm, 101, rfl⟩
abbrev main_cst_12 : Ref sig .tc := ⟨.hbm, 102, rfl⟩
abbrev main_v87 : Ref sig .tc := ⟨.hbm, 103, rfl⟩
abbrev main_v88 : Ref sig .tc := ⟨.hbm, 104, rfl⟩
abbrev main_cst_13 : Ref sig .tc := ⟨.hbm, 105, rfl⟩
abbrev main_v89 : Ref sig .tc := ⟨.hbm, 106, rfl⟩
abbrev main_cst_14 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_c : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_15 : Ref sig .tc := ⟨.hbm, 122, rfl⟩
abbrev main_v103 : Ref sig .tc := ⟨.hbm, 123, rfl⟩
abbrev main_cst_16 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_17 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩

abbrev nD : Nat := 1
abbrev τ : Topo := Topo.v7x

variable {F : FTy → Type} [FloatOps F]
-- ==== Proof.Spec.lean ====
module

public import Idealize.ShloMosaic.Lib.Pointwise

@[expose] public section

set_option maxRecDepth 16384
/- The layer's tail for one token, over the extended reals: a trailing-window pool of the token's sequence, the
   gated merge with the attention output, the residual, a normalised SwiGLU and the final normalisation. -/
noncomputable section
open Idealize.ShloMosaic
namespace Cert.Tail

/-- The number of positions in a window of `w` that ends at position `p`. -/
def cnt (w p : ℕ) : EReal := FloatOps.sitofp (F := Ideal) .f32 (BitVec.ofNat 32 (min (p + 1) w))

/-- The sum of `u` over the last `w` positions up to and including `p`, those before the sequence's start left out. -/
def trail (w : ℕ) (u : Fin 8192 → EReal) (p : Fin 8192) : EReal :=
  ∑ k : Fin w, if k.val ≤ p.val then u ⟨p.val - k.val, by omega⟩ else 0

/-- The window of pool group `g`. -/
def win (g : Fin 4) : ℕ := ![2, 4, 8, 16] g

/-- Column `d` of group `g` among the 512 pool columns. -/
def gcol (g : Fin 4) (d : Fin 128) : Fin 512 := ⟨g.val * 128 + d.val, by omega⟩

/-- The trailing mean minus the token's own value. -/
def pooled (U : Fin 8192 → Fin 512 → EReal) (p : Fin 8192) (g : Fin 4) (k : Fin 128) : EReal :=
  Ideal.div (trail (win g) (fun q => U q (gcol g k)) p) (cnt (win g) p.val) - U p (gcol g k)

/-- The pool mixer's value at column `d` of group `g`. -/
def pool (U : Fin 8192 → Fin 512 → EReal) (pw : Fin 4 → Fin 128 → Fin 128 → EReal) (ps : Fin 512 → EReal)
    (p : Fin 8192) (g : Fin 4) (d : Fin 128) : EReal :=
  (∑ k : Fin 128, pooled U p g k * pw g k d) * ps (gcol g d)

/-- The logistic function as both programs write it. -/
def sig (x : EReal) : EReal := Ideal.div 1 (1 + Ideal.exp (-x))

/-- The normalised row at column `e`: `v e / √(mean v² + ε) · w e`. -/
def rms (v w : Fin 1024 → EReal) (e : Fin 1024) : EReal :=
  v e * Ideal.rsqrt (Ideal.div (∑ k : Fin 1024, v k * v k) (Ideal.ofBits .f32 0x44800000#32) + Ideal.ofBits .f32 0x358637BD#32) * w e

/-- The gated merge of the pool branch and the attention branch at column `e`. -/
def merged (pl : Fin 4 → Fin 128 → EReal) (gp ga at' : Fin 1024 → EReal) (wpp : Fin 512 → Fin 1024 → EReal)
    (wpa : Fin 1024 → Fin 1024 → EReal) (e : Fin 1024) : EReal :=
  sig (gp e) * (∑ g : Fin 4, ∑ d : Fin 128, pl g d * wpp (gcol g d) e) + sig (ga e) * ∑ k : Fin 1024, at' k * wpa k e

/-- The residual row after the merge. -/
def x1 (x mg : Fin 1024 → EReal) (wo : Fin 1024 → Fin 1024 → EReal) (e : Fin 1024) : EReal := x e + ∑ k : Fin 1024, mg k * wo k e

/-- One of the 2816 gated products of the channel mixer. -/
def act (h : Fin 1024 → EReal) (wg wu : Fin 1024 → Fin 2816 → EReal) (j : Fin 2816) : EReal :=
  (∑ k : Fin 1024, h k * wg k j) * sig (∑ k : Fin 1024, h k * wg k j) * ∑ k : Fin 1024, h k * wu k j

/-- The row after the channel mixer. -/
def x2 (x h : Fin 1024 → EReal) (wg wu : Fin 1024 → Fin 2816 → EReal) (wd : Fin 2816 → Fin 1024 → EReal) (e : Fin 1024) : EReal :=
  x e + ∑ j : Fin 2816, act h wg wu j * wd j e

/-- The token's result at column `e`. -/
def out (U : Fin 8192 → Fin 512 → EReal) (p : Fin 8192) (gp ga at' xr : Fin 1024 → EReal)
    (pw : Fin 4 → Fin 128 → Fin 128 → EReal) (ps : Fin 512 → EReal) (wpp : Fin 512 → Fin 1024 → EReal)
    (wpa wo : Fin 1024 → Fin 1024 → EReal) (n2 : Fin 1024 → EReal) (wg wu : Fin 1024 → Fin 2816 → EReal)
    (wd : Fin 2816 → Fin 1024 → EReal) (nf : Fin 1024 → EReal) (e : Fin 1024) : EReal :=
  rms (x2 (x1 xr (merged (pool U pw ps p) gp ga at' wpp wpa) wo) (rms (x1 xr (merged (pool U pw ps p) gp ga at' wpp wpa) wo) n2) wg wu wd) nf e

/-- Row `p` of sequence `b` among the 16384 rows. -/
def row (b : Fin 2) (p : Fin 8192) : Fin 16384 := ⟨b.val * 8192 + p.val, by omega⟩

/-- The result at row `p` of sequence `b`, column `e`, from the argument arrays. -/
def outAt (A0 : (⟨2, ![16384, 5248]⟩ : Shape).Idx → EReal) (A1 A2 : (⟨3, ![2, 8192, 1024]⟩ : Shape).Idx → EReal)
    (A3 : (⟨3, ![4, 128, 128]⟩ : Shape).Idx → EReal) (A4 : (⟨1, ![512]⟩ : Shape).Idx → EReal)
    (A5 : (⟨2, ![512, 1024]⟩ : Shape).Idx → EReal) (A6 A7 : (⟨2, ![1024, 1024]⟩ : Shape).Idx → EReal)
    (A8 : (⟨1, ![1024]⟩ : Shape).Idx → EReal) (A9 A10 : (⟨2, ![1024, 2816]⟩ : Shape).Idx → EReal)
    (A11 : (⟨2, ![2816, 1024]⟩ : Shape).Idx → EReal) (A12 : (⟨1, ![1024]⟩ : Shape).Idx → EReal)
    (b : Fin 2) (p : Fin 8192) (e : Fin 1024) : EReal :=
  out (fun q c => A0 (ix2 (row b q) ⟨c.val, by omega⟩)) p (fun k => A0 (ix2 (row b p) ⟨3072 + k.val, by omega⟩))
    (fun k => A0 (ix2 (row b p) ⟨4096 + k.val, by omega⟩)) (fun k => A1 (ix3 b p k)) (fun k => A2 (ix3 b p k))
    (fun g k d => A3 (ix3 g k d)) (fun c => A4 (ix1 c)) (fun c k => A5 (ix2 c k)) (fun c k => A6 (ix2 c k)) (fun c k => A7 (ix2 c k))
    (fun k => A8 (ix1 k)) (fun k j => A9 (ix2 k j)) (fun k j => A10 (ix2 k j)) (fun j k => A11 (ix2 j k)) (fun k => A12 (ix1 k)) e

/-- A sum over the 512 pool columns, group by group. -/
theorem sum_gcol (f : Fin 512 → EReal) : ∑ c : Fin 512, f c = ∑ g : Fin 4, ∑ d : Fin 128, f (gcol g d) :=
  Fin.sum_univ_tiles 4 128 rfl f

/-- A sum over 2816 positions, in five pieces of 512 and one of 256. -/
theorem sum_2816 (f : Fin 2816 → EReal) : ∑ j : Fin 2816, f j =
    (∑ l : Fin 512, f ⟨0 + l.val, by omega⟩) + (∑ l : Fin 512, f ⟨512 + l.val, by omega⟩) + (∑ l : Fin 512, f ⟨1024 + l.val, by omega⟩)
    + (∑ l : Fin 512, f ⟨1536 + l.val, by omega⟩) + (∑ l : Fin 512, f ⟨2048 + l.val, by omega⟩) + ∑ l : Fin 256, f ⟨2560 + l.val, by omega⟩ := by
  rw [Fin.sum_univ_two_halves 2560 256 rfl f, Fin.sum_univ_tiles 5 512 rfl (fun j : Fin 2560 => f ⟨j.val, by omega⟩), Fin.sum_univ_five]
  rfl

theorem ereal_zero_sub (x : EReal) : 0 - x = -x := by rw [sub_eq_add_neg, zero_add]

end Cert.Tail
-- ==== Proof.Count.lean ====
module

public import proofs.«01_k».proof.Proof.Spec

@[expose] public section

set_option maxRecDepth 16384
/- The window's length as each program computes it, in 32-bit words. -/
noncomputable section
open Idealize.ShloMosaic
namespace Cert.Tail

theorem ref_word (w : ℕ) (hw : w = 2 ∨ w = 4 ∨ w = 8 ∨ w = 16) : ∀ p : Fin 8192,
    IntOp.subi (IntOp.addi (BitVec.ofNat 32 p.val) 1#32)
      (IntOp.maxsi (IntOp.subi (IntOp.addi (BitVec.ofNat 32 p.val) 1#32) (BitVec.ofNat 32 w)) 0#32) = BitVec.ofNat 32 (min (p.val + 1) w) := by
  rcases hw with rfl | rfl | rfl | rfl <;> decide +kernel

/-- The window's length, computed as the reference writes it. -/
theorem ref_cnt (w : ℕ) (hw : w = 2 ∨ w = 4 ∨ w = 8 ∨ w = 16) (p : Fin 8192) :
    FloatOps.sitofp (F := Ideal) .f32 (IntOp.subi (IntOp.addi (BitVec.ofNat 32 p.val) 1#32)
      (IntOp.maxsi (IntOp.subi (IntOp.addi (BitVec.ofNat 32 p.val) 1#32) (BitVec.ofNat 32 w)) 0#32)) = cnt w p.val := by
  unfold cnt
  exact congrArg _ (ref_word w hw p)

theorem ker_word (w : ℕ) (hw : w = 2 ∨ w = 4 ∨ w = 8 ∨ w = 16) : ∀ p : Fin 8192,
    IntOp.minsi (IntOp.addi (BitVec.ofNat 32 p.val) 1#32) (BitVec.ofNat 32 w) = BitVec.ofNat 32 (min (p.val + 1) w) := by
  rcases hw with rfl | rfl | rfl | rfl <;> decide +kernel

/-- The tile's first position in its sequence. -/
theorem ker_base : ∀ i : Fin 32, Scalar.andi (Scalar.muli (BitVec.ofNat 32 i.val) 512#32) 8191#32 = BitVec.ofNat 32 (i.val % 16 * 512) := by
  decide +kernel

/-- Whether the tile is not the first of its sequence. -/
theorem ker_first : ∀ i : Fin 32, Scalar.cmpi .sgt (Scalar.andi (Scalar.muli (BitVec.ofNat 32 i.val) 512#32) 8191#32) 0#32 = if 0 < i.val % 16 then 1#1 else 0#1 := by
  decide +kernel

/-- The window's length, computed as the kernel writes it. -/
theorem ker_cnt (w : ℕ) (hw : w = 2 ∨ w = 4 ∨ w = 8 ∨ w = 16) (i : Fin 32) (r : Fin 512) :
    FloatOps.sitofp (F := Ideal) .f32 (IntOp.minsi (IntOp.addi (IntOp.addi (Scalar.andi (Scalar.muli (BitVec.ofNat 32 i.val) 512#32) 8191#32)
      (BitVec.ofNat 32 r.val)) 1#32) (BitVec.ofNat 32 w)) = cnt w (i.val % 16 * 512 + r.val) := by
  unfold cnt
  refine congrArg _ ?_
  have hb : IntOp.addi (Scalar.andi (Scalar.muli (BitVec.ofNat 32 i.val) 512#32) 8191#32) (BitVec.ofNat 32 r.val) = BitVec.ofNat 32 (i.val % 16 * 512 + r.val) := by
    rw [ker_base i]
    exact (BitVec.ofNat_add _ _).symm
  rw [hb]
  exact ker_word w hw ⟨i.val % 16 * 512 + r.val, by omega⟩

end Cert.Tail
-- ==== Proof.KerPool.lean ====
module

public import proofs.«01_k».proof.Proof.Gen.KernelIdeal.Skeleton
public import proofs.«01_k».proof.Proof.Count
public import Idealize.ShloMosaic.Lib.Pointwise

@[expose] public section

set_option maxRecDepth 16384
/- The kernel's pool mixer on one tile of 512 rows, read at one row. -/
noncomputable section
open Idealize.ShloMosaic Idealize.ShloMosaic.TcCoe Idealize.SL.Sem
namespace Cert.KernelIdeal.Tail
open Cert.KernelIdeal Cert.KernelIdeal.Gen

/-- A tile's rows below the 16 rows before it: entry `q` is position `base + q - 16` of the sequence, zero before its start. -/
def ext (U : Fin 8192 → Fin 512 → EReal) (base q : ℕ) (c : Fin 512) : EReal :=
  if h : 16 ≤ base + q ∧ base + q - 16 < 8192 then U ⟨base + q - 16, h.2⟩ c else 0

theorem ext_trail (U : Fin 8192 → Fin 512 → EReal) (w base r : ℕ) (hw : w ≤ 16) (hp : base + r < 8192) (c : Fin 512) :
    ∑ k : Fin w, ext U base (16 + r - k.val) c = Cert.Tail.trail w (fun q => U q c) ⟨base + r, hp⟩ := by
  unfold Cert.Tail.trail
  refine Finset.sum_congr rfl fun k _ => ?_
  have hk := k.isLt
  unfold ext
  by_cases h : k.val ≤ base + r
  · rw [dif_pos (by omega), if_pos h]
    exact congrFun (congrArg U (Fin.ext (by dsimp only; omega))) c
  · rw [dif_neg (by omega), if_neg h]

/-- A sum of 2 built by doubling. -/
theorem doubled2 (X : ℕ → EReal) (n : ℕ) : (X n + X (n - 1)) = ∑ k : Fin 2, X (n - k.val) := by
  simp only [Fin.sum_univ_succ, Fin.sum_univ_zero, Nat.sub_sub, Fin.val_succ, Fin.val_zero, Nat.sub_zero, Nat.zero_add, Nat.reduceAdd, add_zero]

/-- A sum of 4 built by doubling. -/
theorem doubled4 (X : ℕ → EReal) (n : ℕ) : ((X n + X (n - 1)) + (X (n - 2) + X (n - 2 - 1))) = ∑ k : Fin 4, X (n - k.val) := by
  simp only [Fin.sum_univ_succ, Fin.sum_univ_zero, Nat.sub_sub, Fin.val_succ, Fin.val_zero, Nat.sub_zero, Nat.zero_add, Nat.reduceAdd, add_zero]
  ac_rfl

/-- A sum of 8 built by doubling. -/
theorem doubled8 (X : ℕ → EReal) (n : ℕ) : (((X n + X (n - 1)) + (X (n - 2) + X (n - 2 - 1))) + ((X (n - 4) + X (n - 4 - 1)) + (X (n - 4 - 2) + X (n - 4 - 2 - 1)))) = ∑ k : Fin 8, X (n - k.val) := by
  simp only [Fin.sum_univ_succ, Fin.sum_univ_zero, Nat.sub_sub, Fin.val_succ, Fin.val_zero, Nat.sub_zero, Nat.zero_add, Nat.reduceAdd, add_zero]
  ac_rfl

/-- A sum of 16 built by doubling. -/
theorem doubled16 (X : ℕ → EReal) (n : ℕ) : ((((X n + X (n - 1)) + (X (n - 2) + X (n - 2 - 1))) + ((X (n - 4) + X (n - 4 - 1)) + (X (n - 4 - 2) + X (n - 4 - 2 - 1)))) + (((X (n - 8) + X (n - 8 - 1)) + (X (n - 8 - 2) + X (n - 8 - 2 - 1))) + ((X (n - 8 - 4) + X (n - 8 - 4 - 1)) + (X (n - 8 - 4 - 2) + X (n - 8 - 4 - 2 - 1))))) = ∑ k : Fin 16, X (n - k.val) := by
  simp only [Fin.sum_univ_succ, Fin.sum_univ_zero, Nat.sub_sub, Fin.val_succ, Fin.val_zero, Nat.sub_zero, Nat.zero_add, Nat.reduceAdd, add_zero]
  ac_rfl

/-- Adding a column to itself turned down by `s` rows, away from the rows that wrap around. -/
theorem turn1 (v : FVec Ideal S528x128 .f32) (X : ℕ → EReal) (d : Fin 128) (lo : ℕ)
    (hv : ∀ (q : ℕ) (hq : q < 528), lo ≤ q → v (ix2 ⟨q, hq⟩ d) = X q) (q : ℕ) (hq : q < 528) (hl : lo + 1 ≤ q) :
    addf v (dynamicRotate 0 1#32 none v rotates_S528x128_d0) (ix2 ⟨q, hq⟩ d) = X q + X (q - 1) := by
  pointwise
  refine congrArg₂ (· + ·) (hv q hq (by omega)) ?_
  have h : (q + 528 - 1) % 528 = q - 1 := by omega
  refine Eq.trans (congrArg v ((ix2_inj ..).2 ⟨Fin.ext h, rfl⟩)) (hv (q - 1) (by omega) (by omega))

theorem turn2 (v : FVec Ideal S528x128 .f32) (X : ℕ → EReal) (d : Fin 128) (lo : ℕ)
    (hv : ∀ (q : ℕ) (hq : q < 528), lo ≤ q → v (ix2 ⟨q, hq⟩ d) = X q) (q : ℕ) (hq : q < 528) (hl : lo + 2 ≤ q) :
    addf v (dynamicRotate 0 2#32 none v rotates_S528x128_d0) (ix2 ⟨q, hq⟩ d) = X q + X (q - 2) := by
  pointwise
  refine congrArg₂ (· + ·) (hv q hq (by omega)) ?_
  have h : (q + 528 - 2) % 528 = q - 2 := by omega
  refine Eq.trans (congrArg v ((ix2_inj ..).2 ⟨Fin.ext h, rfl⟩)) (hv (q - 2) (by omega) (by omega))

theorem turn4 (v : FVec Ideal S528x128 .f32) (X : ℕ → EReal) (d : Fin 128) (lo : ℕ)
    (hv : ∀ (q : ℕ) (hq : q < 528), lo ≤ q → v (ix2 ⟨q, hq⟩ d) = X q) (q : ℕ) (hq : q < 528) (hl : lo + 4 ≤ q) :
    addf v (dynamicRotate 0 4#32 none v rotates_S528x128_d0) (ix2 ⟨q, hq⟩ d) = X q + X (q - 4) := by
  pointwise
  refine congrArg₂ (· + ·) (hv q hq (by omega)) ?_
  have h : (q + 528 - 4) % 528 = q - 4 := by omega
  refine Eq.trans (congrArg v ((ix2_inj ..).2 ⟨Fin.ext h, rfl⟩)) (hv (q - 4) (by omega) (by omega))

theorem turn8 (v : FVec Ideal S528x128 .f32) (X : ℕ → EReal) (d : Fin 128) (lo : ℕ)
    (hv : ∀ (q : ℕ) (hq : q < 528), lo ≤ q → v (ix2 ⟨q, hq⟩ d) = X q) (q : ℕ) (hq : q < 528) (hl : lo + 8 ≤ q) :
    addf v (dynamicRotate 0 8#32 none v rotates_S528x128_d0) (ix2 ⟨q, hq⟩ d) = X q + X (q - 8) := by
  pointwise
  refine congrArg₂ (· + ·) (hv q hq (by omega)) ?_
  have h : (q + 528 - 8) % 528 = q - 8 := by omega
  refine Eq.trans (congrArg v ((ix2_inj ..).2 ⟨Fin.ext h, rfl⟩)) (hv (q - 8) (by omega) (by omega))

/-- A tile's rows summed by turning and adding, `w` at a time. -/
def acc2 (v : FVec Ideal S528x128 .f32) : FVec Ideal S528x128 .f32 := addf v (dynamicRotate 0 1#32 none v rotates_S528x128_d0)
def acc4 (v : FVec Ideal S528x128 .f32) : FVec Ideal S528x128 .f32 := addf (acc2 v) (dynamicRotate 0 2#32 none (acc2 v) rotates_S528x128_d0)
def acc8 (v : FVec Ideal S528x128 .f32) : FVec Ideal S528x128 .f32 := addf (acc4 v) (dynamicRotate 0 4#32 none (acc4 v) rotates_S528x128_d0)
def acc16 (v : FVec Ideal S528x128 .f32) : FVec Ideal S528x128 .f32 := addf (acc8 v) (dynamicRotate 0 8#32 none (acc8 v) rotates_S528x128_d0)

section
variable (v : FVec Ideal S528x128 .f32) (X : ℕ → EReal) (d : Fin 128) (hv : ∀ (q : ℕ) (hq : q < 528), v (ix2 ⟨q, hq⟩ d) = X q)
include hv

theorem acc2_at (q : ℕ) (hq : q < 528) (hl : 1 ≤ q) : acc2 v (ix2 ⟨q, hq⟩ d) = X q + X (q - 1) :=
  turn1 v X d 0 (fun q hq _ => hv q hq) q hq (by omega)
theorem acc4_at (q : ℕ) (hq : q < 528) (hl : 3 ≤ q) : acc4 v (ix2 ⟨q, hq⟩ d) = X q + X (q - 1) + (X (q - 2) + X (q - 2 - 1)) :=
  turn2 (acc2 v) (fun q => X q + X (q - 1)) d 1 (acc2_at v X d hv) q hq (by omega)
theorem acc8_at (q : ℕ) (hq : q < 528) (hl : 7 ≤ q) : acc8 v (ix2 ⟨q, hq⟩ d) = X q + X (q - 1) + (X (q - 2) + X (q - 2 - 1)) + (X (q - 4) + X (q - 4 - 1) + (X (q - 4 - 2) + X (q - 4 - 2 - 1))) :=
  turn4 (acc4 v) (fun q => X q + X (q - 1) + (X (q - 2) + X (q - 2 - 1))) d 3 (acc4_at v X d hv) q hq (by omega)
theorem acc16_at (q : ℕ) (hq : q < 528) (hl : 15 ≤ q) : acc16 v (ix2 ⟨q, hq⟩ d) = X q + X (q - 1) + (X (q - 2) + X (q - 2 - 1)) + (X (q - 4) + X (q - 4 - 1) + (X (q - 4 - 2) + X (q - 4 - 2 - 1)))
    + (X (q - 8) + X (q - 8 - 1) + (X (q - 8 - 2) + X (q - 8 - 2 - 1)) + (X (q - 8 - 4) + X (q - 8 - 4 - 1) + (X (q - 8 - 4 - 2) + X (q - 8 - 4 - 2 - 1)))) :=
  turn8 (acc8 v) (fun q => X q + X (q - 1) + (X (q - 2) + X (q - 2 - 1)) + (X (q - 4) + X (q - 4 - 1) + (X (q - 4 - 2) + X (q - 4 - 2 - 1)))) d 7 (acc8_at v X d hv) q hq (by omega)
end

/-- One group of the tile's pool mixer, from its row sums, its window lengths and its own columns. -/
def grp (a : FVec Ideal S528x128 .f32) (n : IVec S512x128 32) (u : FVec Ideal S512x128 .f32) (W : FVec Ideal S1x128x128 .bf16)
    (b : FVec Ideal S1x128 .f32) : FVec Ideal S512x128 .f32 :=
  mulf (matmul dot_S512x128_S128x128_S512x128_1_0_0_1_n_n none (truncf .bf16 (subf (divf (extractStridedSlice S512x128 ![16, 0] a slices_S528x128_o16_0_S512x128) (sitofp .f32 n)) u) bitsLt_bf16_f32)
    (shapeCast S128x128 W shapeCasts_S1x128x128_S128x128) (constant S512x128 .f32 0x00000000#32))
    (broadcastTo S512x128 (shapeCast S1x128 b shapeCasts_S1x128_S1x128) broadcasts_S1x128_S512x128)

/-- The window lengths of a tile's rows. -/
def lens (n1 : IVec S512x128 32) (w : BitVec 32) : IVec S512x128 32 := minsi (addi n1 (broadcast S512x128 1#32)) (broadcast S512x128 w)

theorem grp_at (a : FVec Ideal S528x128 .f32) (n : IVec S512x128 32) (u : FVec Ideal S512x128 .f32) (W : FVec Ideal S1x128x128 .bf16)
    (b : FVec Ideal S1x128 .f32) (r : Fin 512) (d : Fin 128) : grp a n u W b (ix2 r d)
    = (∑ k : Fin 128, (Ideal.div (a (ix2 ⟨16 + r.val, by omega⟩ k)) (FloatOps.sitofp (F := Ideal) .f32 (n (ix2 r k))) - u (ix2 r k)) * W (ix3 0 k d)) * b (ix2 0 d) := by
  pointwise [grp]

section
variable (i : grid0.Coords) (v2 : FVec Ideal S512x512 .bf16) (v5 : FVec Ideal S16x512 .bf16)
  (U : Fin 8192 → Fin 512 → EReal) (base : ℕ) (hbase : base = (i 0).val % 16 * 512)
  (hu : ∀ (r : Fin 512) (c : Fin 512), v2 (ix2 r c) = ext U base (16 + r.val) c)
  (hh : 0 < base → ∀ (q : Fin 16) (c : Fin 512), v5 (ix2 q c) = ext U base q.val c)
  (pw : Fin 4 → Fin 128 → Fin 128 → EReal) (ps : Fin 512 → EReal)
include hbase hu hh

theorem pay3_at (q : ℕ) (hq : q < 528) (c : Fin 512) : k0_pay3 (F := Ideal) i v2 v5 (ix2 ⟨q, hq⟩ c) = ext U base q c := by
  pointwise [k0_pay3, k0_pay2]
  rw [Cert.Tail.ker_first (i 0)]
  by_cases h : q < 16
  · rw [dif_pos h]
    by_cases hb : 0 < (i 0).val % 16
    · rw [if_pos hb]
      exact hh (by omega) ⟨q, h⟩ c
    · rw [if_neg hb]
      have hz : base = 0 := by omega
      unfold ext
      rw [dif_neg (by omega)]
      rfl
  · rw [dif_neg h]
    refine (hu ⟨q - 16, by omega⟩ c).trans (congrArg (fun n => ext U base n c) ?_)
    show 16 + (q - 16) = q
    omega

theorem u_at (r : Fin 512) (hp : base + r.val < 8192) (c c' : Fin 512) (hc : c.val = c'.val) : v2 (ix2 r c) = U ⟨base + r.val, hp⟩ c' := by
  obtain rfl : c = c' := Fin.ext hc
  rw [hu r c]
  unfold ext
  rw [dif_pos (by omega)]
  exact congrFun (congrArg U (Fin.ext (by dsimp only; omega))) c

theorem group0_at (r : Fin 512) (hp : base + r.val < 8192) (d : Fin 128) (W : FVec Ideal S1x128x128 .bf16) (b : FVec Ideal S1x128 .f32)
    (hpw : ∀ k, W (ix3 0 k d) = pw 0 k d) (hps : b (ix2 0 d) = ps (Cert.Tail.gcol 0 d)) :
    grp (acc2 (extractStridedSlice S528x128 ![0, 0] (k0_pay3 (F := Ideal) i v2 v5) slices_S528x512_o0_0_S528x128)) (lens (k0_pay4 i) 2#32)
      (extractStridedSlice S512x128 ![0, 0] (k0_pay2 (F := Ideal) v2) slices_S512x512_o0_0_S512x128) W b (ix2 r d)
      = Cert.Tail.pool U pw ps ⟨base + r.val, hp⟩ 0 d := by
  have hr := r.isLt
  rw [grp_at]
  unfold Cert.Tail.pool Cert.Tail.pooled
  refine congrArg₂ (· * ·) (Finset.sum_congr rfl fun k _ => congrArg₂ (· * ·) (congrArg₂ (· - ·) (congrArg₂ Ideal.div ?_ ?_) ?_) (hpw k)) hps
  · refine (acc2_at _ (fun q => ext U base q (Cert.Tail.gcol 0 k)) k (fun q hq => ?_) _ _ (by omega)).trans
      ((doubled2 (fun q => ext U base q (Cert.Tail.gcol 0 k)) (16 + r.val)).trans (ext_trail U 2 base r.val (by omega) hp (Cert.Tail.gcol 0 k)))
    have hc : (⟨k.val, by omega⟩ : Fin 512) = Cert.Tail.gcol 0 k := Fin.ext (by show k.val = 0 * 128 + k.val; omega)
    pointwise
    exact (pay3_at i v2 v5 U base hbase hu hh q hq _).trans (congrArg (ext U base q) hc)
  · pointwise [lens, k0_pay4]
    exact (Cert.Tail.ker_cnt 2 (by decide) (i 0) r).trans (congrArg (fun n => Cert.Tail.cnt 2 (n + r.val)) hbase.symm)
  · pointwise [k0_pay2]
    exact u_at i v2 v5 U base hbase hu hh r hp _ _ (by show k.val = 0 * 128 + k.val; omega)

theorem pool0_at (r : Fin 512) (hp : base + r.val < 8192) (d : Fin 128) (W : FVec Ideal S1x128x128 .bf16) (b : FVec Ideal S1x128 .f32)
    (hpw : ∀ k, W (ix3 0 k d) = pw 0 k d) (hps : b (ix2 0 d) = ps (Cert.Tail.gcol 0 d)) :
    k0_pay5 (F := Ideal) i v2 v5 W b (ix2 r d) = Cert.Tail.pool U pw ps ⟨base + r.val, hp⟩ 0 d :=
  group0_at i v2 v5 U base hbase hu hh pw ps r hp d W b hpw hps

theorem group1_at (r : Fin 512) (hp : base + r.val < 8192) (d : Fin 128) (W : FVec Ideal S1x128x128 .bf16) (b : FVec Ideal S1x128 .f32)
    (hpw : ∀ k, W (ix3 0 k d) = pw 1 k d) (hps : b (ix2 0 d) = ps (Cert.Tail.gcol 1 d)) :
    grp (acc4 (extractStridedSlice S528x128 ![0, 128] (k0_pay3 (F := Ideal) i v2 v5) slices_S528x512_o0_128_S528x128)) (lens (k0_pay4 i) 4#32)
      (extractStridedSlice S512x128 ![0, 128] (k0_pay2 (F := Ideal) v2) slices_S512x512_o0_128_S512x128) W b (ix2 r d)
      = Cert.Tail.pool U pw ps ⟨base + r.val, hp⟩ 1 d := by
  have hr := r.isLt
  rw [grp_at]
  unfold Cert.Tail.pool Cert.Tail.pooled
  refine congrArg₂ (· * ·) (Finset.sum_congr rfl fun k _ => congrArg₂ (· * ·) (congrArg₂ (· - ·) (congrArg₂ Ideal.div ?_ ?_) ?_) (hpw k)) hps
  · refine (acc4_at _ (fun q => ext U base q (Cert.Tail.gcol 1 k)) k (fun q hq => ?_) _ _ (by omega)).trans
      ((doubled4 (fun q => ext U base q (Cert.Tail.gcol 1 k)) (16 + r.val)).trans (ext_trail U 4 base r.val (by omega) hp (Cert.Tail.gcol 1 k)))
    have hc : (⟨128 + k.val, by omega⟩ : Fin 512) = Cert.Tail.gcol 1 k := Fin.ext (by show 128 + k.val = 1 * 128 + k.val; omega)
    pointwise
    exact (pay3_at i v2 v5 U base hbase hu hh q hq _).trans (congrArg (ext U base q) hc)
  · pointwise [lens, k0_pay4]
    exact (Cert.Tail.ker_cnt 4 (by decide) (i 0) r).trans (congrArg (fun n => Cert.Tail.cnt 4 (n + r.val)) hbase.symm)
  · pointwise [k0_pay2]
    exact u_at i v2 v5 U base hbase hu hh r hp _ _ (by show 128 + k.val = 1 * 128 + k.val; omega)

theorem pool1_at (r : Fin 512) (hp : base + r.val < 8192) (d : Fin 128) (W : FVec Ideal S1x128x128 .bf16) (b : FVec Ideal S1x128 .f32)
    (hpw : ∀ k, W (ix3 0 k d) = pw 1 k d) (hps : b (ix2 0 d) = ps (Cert.Tail.gcol 1 d)) :
    k0_pay8 (F := Ideal) (k0_pay2 v2) (k0_pay4 i) (k0_pay6 i v2 v5) k0_pay7 W b (ix2 r d) = Cert.Tail.pool U pw ps ⟨base + r.val, hp⟩ 1 d :=
  group1_at i v2 v5 U base hbase hu hh pw ps r hp d W b hpw hps

theorem group2_at (r : Fin 512) (hp : base + r.val < 8192) (d : Fin 128) (W : FVec Ideal S1x128x128 .bf16) (b : FVec Ideal S1x128 .f32)
    (hpw : ∀ k, W (ix3 0 k d) = pw 2 k d) (hps : b (ix2 0 d) = ps (Cert.Tail.gcol 2 d)) :
    grp (acc8 (extractStridedSlice S528x128 ![0, 256] (k0_pay3 (F := Ideal) i v2 v5) slices_S528x512_o0_256_S528x128)) (lens (k0_pay4 i) 8#32)
      (extractStridedSlice S512x128 ![0, 256] (k0_pay2 (F := Ideal) v2) slices_S512x512_o0_256_S512x128) W b (ix2 r d)
      = Cert.Tail.pool U pw ps ⟨base + r.val, hp⟩ 2 d := by
  have hr := r.isLt
  rw [grp_at]
  unfold Cert.Tail.pool Cert.Tail.pooled
  refine congrArg₂ (· * ·) (Finset.sum_congr rfl fun k _ => congrArg₂ (· * ·) (congrArg₂ (· - ·) (congrArg₂ Ideal.div ?_ ?_) ?_) (hpw k)) hps
  · refine (acc8_at _ (fun q => ext U base q (Cert.Tail.gcol 2 k)) k (fun q hq => ?_) _ _ (by omega)).trans
      ((doubled8 (fun q => ext U base q (Cert.Tail.gcol 2 k)) (16 + r.val)).trans (ext_trail U 8 base r.val (by omega) hp (Cert.Tail.gcol 2 k)))
    have hc : (⟨256 + k.val, by omega⟩ : Fin 512) = Cert.Tail.gcol 2 k := Fin.ext (by show 256 + k.val = 2 * 128 + k.val; omega)
    pointwise
    exact (pay3_at i v2 v5 U base hbase hu hh q hq _).trans (congrArg (ext U base q) hc)
  · pointwise [lens, k0_pay4]
    exact (Cert.Tail.ker_cnt 8 (by decide) (i 0) r).trans (congrArg (fun n => Cert.Tail.cnt 8 (n + r.val)) hbase.symm)
  · pointwise [k0_pay2]
    exact u_at i v2 v5 U base hbase hu hh r hp _ _ (by show 256 + k.val = 2 * 128 + k.val; omega)

theorem pool2_at (r : Fin 512) (hp : base + r.val < 8192) (d : Fin 128) (W : FVec Ideal S1x128x128 .bf16) (b : FVec Ideal S1x128 .f32)
    (hpw : ∀ k, W (ix3 0 k d) = pw 2 k d) (hps : b (ix2 0 d) = ps (Cert.Tail.gcol 2 d)) :
    k0_pay9 (F := Ideal) (k0_pay2 v2) (k0_pay3 i v2 v5) (k0_pay4 i) W b (ix2 r d) = Cert.Tail.pool U pw ps ⟨base + r.val, hp⟩ 2 d :=
  group2_at i v2 v5 U base hbase hu hh pw ps r hp d W b hpw hps

theorem group3_at (r : Fin 512) (hp : base + r.val < 8192) (d : Fin 128) (W : FVec Ideal S1x128x128 .bf16) (b : FVec Ideal S1x128 .f32)
    (hpw : ∀ k, W (ix3 0 k d) = pw 3 k d) (hps : b (ix2 0 d) = ps (Cert.Tail.gcol 3 d)) :
    grp (acc16 (extractStridedSlice S528x128 ![0, 384] (k0_pay3 (F := Ideal) i v2 v5) slices_S528x512_o0_384_S528x128)) (lens (k0_pay4 i) 16#32)
      (extractStridedSlice S512x128 ![0, 384] (k0_pay2 (F := Ideal) v2) slices_S512x512_o0_384_S512x128) W b (ix2 r d)
      = Cert.Tail.pool U pw ps ⟨base + r.val, hp⟩ 3 d := by
  have hr := r.isLt
  rw [grp_at]
  unfold Cert.Tail.pool Cert.Tail.pooled
  refine congrArg₂ (· * ·) (Finset.sum_congr rfl fun k _ => congrArg₂ (· * ·) (congrArg₂ (· - ·) (congrArg₂ Ideal.div ?_ ?_) ?_) (hpw k)) hps
  · refine (acc16_at _ (fun q => ext U base q (Cert.Tail.gcol 3 k)) k (fun q hq => ?_) _ _ (by omega)).trans
      ((doubled16 (fun q => ext U base q (Cert.Tail.gcol 3 k)) (16 + r.val)).trans (ext_trail U 16 base r.val (by omega) hp (Cert.Tail.gcol 3 k)))
    have hc : (⟨384 + k.val, by omega⟩ : Fin 512) = Cert.Tail.gcol 3 k := Fin.ext (by show 384 + k.val = 3 * 128 + k.val; omega)
    pointwise
    exact (pay3_at i v2 v5 U base hbase hu hh q hq _).trans (congrArg (ext U base q) hc)
  · pointwise [lens, k0_pay4]
    exact (Cert.Tail.ker_cnt 16 (by decide) (i 0) r).trans (congrArg (fun n => Cert.Tail.cnt 16 (n + r.val)) hbase.symm)
  · pointwise [k0_pay2]
    exact u_at i v2 v5 U base hbase hu hh r hp _ _ (by show 384 + k.val = 3 * 128 + k.val; omega)

end
end Cert.KernelIdeal.Tail
-- ==== Proof.KerRead.lean ====
module

public import proofs.«01_k».proof.Proof.Gen.KernelIdeal.Value
public import proofs.«01_k».proof.Proof.KerPool
public import Idealize.ShloMosaic.Lib.Pipeline.ValueKit
public import Idealize.ShloMosaic.Lib.Claim
public import Idealize.ShloMosaic.Lib.Pointwise

@[expose] public section

set_option maxRecDepth 16384
/- The blocks the kernel's body reads at one grid point, as elements of the arguments. -/
noncomputable section
open Idealize.ShloMosaic Idealize.ShloMosaic.TcCoe Idealize.SL.Sem
open Idealize.ShloMosaic.Pipeline (Dat)
namespace Cert.KernelIdeal.Tail
open Cert.KernelIdeal Cert.KernelIdeal.Gen
variable (m : (ℓ : Loc nD τ sig) → Buf (Elt Ideal) ℓ)

/-- Each window's block index at grid point `t`. -/
theorem idx : ∀ t : Fin cfg0.N, win0_0.index t = ![t.val, 0] ∧ win0_1.index t = ![max (t.val * 32 - 1) 0, 0] ∧ win0_2.index t = ![t.val, 3] ∧ win0_3.index t = ![t.val, 4]
    ∧ win0_4.index t = ![t.val, 0] ∧ win0_5.index t = ![t.val, 0] ∧ win0_6.index t = ![0, 0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![t.val, 0] :=
  (by decide +kernel : ∀ t : Fin grid0.N, _)

theorem N32 : cfg0.N = 32 := by decide +kernel
theorem coord : ∀ t : Fin cfg0.N, (grid0.coords t 0).val = t.val := (by decide +kernel : ∀ t : Fin grid0.N, _)

abbrev A0 (c : Dev nD) : FVec Ideal S16384x5248 .bf16 := m ((c : Thread nD τ).loc main_arg0)
abbrev A1 (c : Dev nD) : FVec Ideal S2x8192x1024 .bf16 := m ((c : Thread nD τ).loc main_arg1)
abbrev A2 (c : Dev nD) : FVec Ideal S2x8192x1024 .f32 := m ((c : Thread nD τ).loc main_arg2)
abbrev A3 (c : Dev nD) : FVec Ideal S4x128x128 .f32 := m ((c : Thread nD τ).loc main_arg3)
abbrev A4 (c : Dev nD) : FVec Ideal S512 .f32 := m ((c : Thread nD τ).loc main_arg4)
abbrev A5 (c : Dev nD) : FVec Ideal S512x1024 .f32 := m ((c : Thread nD τ).loc main_arg5)
abbrev A6 (c : Dev nD) : FVec Ideal S1024x1024 .f32 := m ((c : Thread nD τ).loc main_arg6)
abbrev A7 (c : Dev nD) : FVec Ideal S1024x1024 .f32 := m ((c : Thread nD τ).loc main_arg7)
abbrev A8 (c : Dev nD) : FVec Ideal S1024 .f32 := m ((c : Thread nD τ).loc main_arg8)
abbrev A9 (c : Dev nD) : FVec Ideal S1024x2816 .f32 := m ((c : Thread nD τ).loc main_arg9)
abbrev A10 (c : Dev nD) : FVec Ideal S1024x2816 .f32 := m ((c : Thread nD τ).loc main_arg10)
abbrev A11 (c : Dev nD) : FVec Ideal S2816x1024 .f32 := m ((c : Thread nD τ).loc main_arg11)
abbrev A12 (c : Dev nD) : FVec Ideal S1024 .f32 := m ((c : Thread nD τ).loc main_arg12)

theorem X0_at (c : Dev nD) (t : Fin cfg0.N) (ht : t.val < 32) (r : Fin 512) (q : Fin 512) :
    X0_0 m c t (ix2 r q) = A0 m c (ix2 ⟨t.val * 512 + r.val, by omega⟩ ⟨q.val, by omega⟩) := by
  unfold X0_0 Pipeline.Window.fill
  rw [dif_pos (moved0_0 t _)]
  blk_point [iblk, V, idx t]
theorem X2_at (c : Dev nD) (t : Fin cfg0.N) (ht : t.val < 32) (r : Fin 512) (q : Fin 1024) :
    X0_2 m c t (ix2 r q) = A0 m c (ix2 ⟨t.val * 512 + r.val, by omega⟩ ⟨3072 + q.val, by omega⟩) := by
  unfold X0_2 Pipeline.Window.fill
  rw [dif_pos (moved0_2 t _)]
  blk_point [iblk, V, idx t]
theorem X3_at (c : Dev nD) (t : Fin cfg0.N) (ht : t.val < 32) (r : Fin 512) (q : Fin 1024) :
    X0_3 m c t (ix2 r q) = A0 m c (ix2 ⟨t.val * 512 + r.val, by omega⟩ ⟨4096 + q.val, by omega⟩) := by
  unfold X0_3 Pipeline.Window.fill
  rw [dif_pos (moved0_3 t _)]
  blk_point [iblk, V, idx t]
theorem X1_at (c : Dev nD) (t : Fin cfg0.N) (ht : t.val < 32) (h0 : 0 < t.val) (r : Fin 16) (q : Fin 512) :
    X0_1 m c t (ix2 r q) = A0 m c (ix2 ⟨t.val * 512 + r.val - 16, by omega⟩ ⟨q.val, by omega⟩) := by
  unfold X0_1 Pipeline.Window.fill
  rw [dif_pos (moved0_1 t _)]
  blk_point [iblk, V, idx t]
theorem b4_at (c : Dev nD) (t : Fin cfg0.N) (ht : t.val < 32) (r : Fin 512) (q : Fin 1024) :
    iblk m c 4 t (ix2 r q) = A1 m c (ix3 ⟨t.val / 16, by omega⟩ ⟨t.val % 16 * 512 + r.val, by omega⟩ q) := by
  blk_simp [iblk, idx t]
  entry_read
  pointwise
  refine congrArg (m ((c : Thread nD τ).loc main_arg1)) ?_
  blk_ext [idx t]
theorem b5_at (c : Dev nD) (t : Fin cfg0.N) (ht : t.val < 32) (r : Fin 512) (q : Fin 1024) :
    iblk m c 5 t (ix2 r q) = A2 m c (ix3 ⟨t.val / 16, by omega⟩ ⟨t.val % 16 * 512 + r.val, by omega⟩ q) := by
  blk_simp [iblk, idx t]
  entry_read
  pointwise
  refine congrArg (m ((c : Thread nD τ).loc main_arg2)) ?_
  blk_ext [idx t]
theorem b6_at (c : Dev nD) (t : Fin cfg0.N) (g : Fin 4) (k d : Fin 128) :
    iblk m c 6 t (ix3 g k d) = A3 m c (ix3 g k d) := by
  blk_simp [iblk, idx t]
  entry_read
  pointwise
  blk_ext [idx t]
theorem b8_at (c : Dev nD) (t : Fin cfg0.N) (k : Fin 512) (e : Fin 1024) :
    iblk m c 8 t (ix2 k e) = A5 m c (ix2 k e) := by
  blk_simp [iblk, idx t]
  entry_read
  pointwise
  blk_ext [idx t]
theorem b9_at (c : Dev nD) (t : Fin cfg0.N) (k : Fin 1024) (e : Fin 1024) :
    iblk m c 9 t (ix2 k e) = A6 m c (ix2 k e) := by
  blk_simp [iblk, idx t]
  entry_read
  pointwise
  blk_ext [idx t]
theorem b10_at (c : Dev nD) (t : Fin cfg0.N) (k : Fin 1024) (e : Fin 1024) :
    iblk m c 10 t (ix2 k e) = A7 m c (ix2 k e) := by
  blk_simp [iblk, idx t]
  entry_read
  pointwise
  blk_ext [idx t]
theorem b12_at (c : Dev nD) (t : Fin cfg0.N) (k : Fin 1024) (e : Fin 2816) :
    iblk m c 12 t (ix2 k e) = A9 m c (ix2 k e) := by
  blk_simp [iblk, idx t]
  entry_read
  pointwise
  blk_ext [idx t]
theorem b13_at (c : Dev nD) (t : Fin cfg0.N) (k : Fin 1024) (e : Fin 2816) :
    iblk m c 13 t (ix2 k e) = A10 m c (ix2 k e) := by
  blk_simp [iblk, idx t]
  entry_read
  pointwise
  blk_ext [idx t]
theorem b14_at (c : Dev nD) (t : Fin cfg0.N) (k : Fin 2816) (e : Fin 1024) :
    iblk m c 14 t (ix2 k e) = A11 m c (ix2 k e) := by
  blk_simp [iblk, idx t]
  entry_read
  pointwise
  blk_ext [idx t]
theorem b7_at (c : Dev nD) (t : Fin cfg0.N) (k : Fin 512) :
    iblk m c 7 t (ix2 0 k) = A4 m c (ix1 k) := by
  blk_simp [iblk, idx t]
  entry_read
  pointwise
  refine congrArg (m ((c : Thread nD τ).loc main_arg4)) ?_
  blk_ext [idx t]
theorem b11_at (c : Dev nD) (t : Fin cfg0.N) (k : Fin 1024) :
    iblk m c 11 t (ix2 0 k) = A8 m c (ix1 k) := by
  blk_simp [iblk, idx t]
  entry_read
  pointwise
  refine congrArg (m ((c : Thread nD τ).loc main_arg8)) ?_
  blk_ext [idx t]
theorem b15_at (c : Dev nD) (t : Fin cfg0.N) (k : Fin 1024) :
    iblk m c 15 t (ix2 0 k) = A12 m c (ix1 k) := by
  blk_simp [iblk, idx t]
  entry_read
  pointwise
  refine congrArg (m ((c : Thread nD τ).loc main_arg12)) ?_
  blk_ext [idx t]
end Cert.KernelIdeal.Tail
-- ==== Proof.KerRow.lean ====
module

public import proofs.«01_k».proof.Proof.KerPool

@[expose] public section

set_option maxRecDepth 16384
/- The kernel's stages after the pool, on one tile of 512 rows, read at one row. -/
noncomputable section
open Idealize.ShloMosaic Idealize.ShloMosaic.TcCoe Idealize.SL.Sem
namespace Cert.KernelIdeal.Tail
open Cert.KernelIdeal Cert.KernelIdeal.Gen

/-- The four groups side by side, times the projection. -/
def cat (p0 p1 p2 p3 : FVec Ideal S512x128 .f32) (w : FVec Ideal S512x1024 .bf16) : FVec Ideal S512x1024 .f32 :=
  matmul dot_S512x512_S512x1024_S512x1024_1_0_0_1_n_n none (truncf .bf16 (concatenate S512x512 1 [⟨S512x128, p0⟩, ⟨S512x128, p1⟩, ⟨S512x128, p2⟩, ⟨S512x128, p3⟩] concatenates_S512x128_S512x128_S512x128_S512x128_S512x512_d1) bitsLt_bf16_f32)
    (shapeCast S512x1024 w shapeCasts_S512x1024_S512x1024) (constant S512x1024 .f32 0x00000000#32)

theorem cat_at (p0 p1 p2 p3 : FVec Ideal S512x128 .f32) (w : FVec Ideal S512x1024 .bf16) (r : Fin 512) (e : Fin 1024)
    (pl : Fin 4 → Fin 128 → EReal) (wpp : Fin 512 → Fin 1024 → EReal) (h0 : ∀ d, p0 (ix2 r d) = pl 0 d) (h1 : ∀ d, p1 (ix2 r d) = pl 1 d)
    (h2 : ∀ d, p2 (ix2 r d) = pl 2 d) (h3 : ∀ d, p3 (ix2 r d) = pl 3 d) (hw : ∀ c, w (ix2 c e) = wpp c e) :
    cat p0 p1 p2 p3 w (ix2 r e) = ∑ g : Fin 4, ∑ d : Fin 128, pl g d * wpp (Cert.Tail.gcol g d) e := by
  pointwise [cat]
  simp only [h0, h1, h2, h3, hw]
  rw [Cert.Tail.sum_gcol, Fin.sum_univ_four, Fin.sum_univ_four]
  refine congrArg₂ (· + ·) (congrArg₂ (· + ·) (congrArg₂ (· + ·) ?_ ?_) ?_) ?_
  · refine Finset.sum_congr rfl fun d _ => congrArg₂ (· * ·) ?_ rfl
    have hd := d.isLt
    have hv : ((Cert.Tail.gcol 0 d : Fin 512) : ℕ) = 0 * 128 + d.val := rfl
    rw [dif_pos (by omega)]
    exact congrArg (pl 0) (Fin.ext (by dsimp only; omega))
  · refine Finset.sum_congr rfl fun d _ => congrArg₂ (· * ·) ?_ rfl
    have hd := d.isLt
    have hv : ((Cert.Tail.gcol 1 d : Fin 512) : ℕ) = 1 * 128 + d.val := rfl
    rw [dif_neg (by omega), dif_pos (by omega)]
    exact congrArg (pl 1) (Fin.ext (by dsimp only; omega))
  · refine Finset.sum_congr rfl fun d _ => congrArg₂ (· * ·) ?_ rfl
    have hd := d.isLt
    have hv : ((Cert.Tail.gcol 2 d : Fin 512) : ℕ) = 2 * 128 + d.val := rfl
    rw [dif_neg (by omega), dif_neg (by omega), dif_pos (by omega)]
    exact congrArg (pl 2) (Fin.ext (by dsimp only; omega))
  · refine Finset.sum_congr rfl fun d _ => congrArg₂ (· * ·) ?_ rfl
    have hd := d.isLt
    have hv : ((Cert.Tail.gcol 3 d : Fin 512) : ℕ) = 3 * 128 + d.val := rfl
    rw [dif_neg (by omega), dif_neg (by omega), dif_neg (by omega)]
    exact congrArg (pl 3) (Fin.ext (by dsimp only; omega))

theorem pay11_eq (v3 : FVec Ideal S512x512 .f32) (v9 : FVec Ideal S528x512 .f32) (v12 : IVec S512x128 32) (p0 p1 p2 : FVec Ideal S512x128 .f32)
    (W : FVec Ideal S1x128x128 .bf16) (b : FVec Ideal S1x128 .f32) (w : FVec Ideal S512x1024 .bf16) :
    k0_pay11 (F := Ideal) v3 v12 p0 p1 p2 (k0_pay10 v9) 1#32 W b w = cat p0 p1 p2
      (grp (acc16 (extractStridedSlice S528x128 ![0, 384] v9 slices_S528x512_o0_384_S528x128)) (lens v12 16#32)
        (extractStridedSlice S512x128 ![0, 384] v3 slices_S512x512_o0_384_S512x128) W b) w := rfl

theorem pay12_at (v : FVec Ideal S512x1024 .bf16) (w : FVec Ideal S1024x1024 .bf16) (r : Fin 512) (e : Fin 1024) :
    k0_pay12 (F := Ideal) v w (ix2 r e) = ∑ k : Fin 1024, v (ix2 r k) * w (ix2 k e) := by
  pointwise [k0_pay12]

theorem pay15_at (pp pa gp ga x : FVec Ideal S512x1024 .f32) (w : FVec Ideal S1024x1024 .bf16) (r : Fin 512) (e : Fin 1024) :
    k0_pay15 (F := Ideal) pp pa (k0_pay13 gp) k0_pay14 ga x w (ix2 r e) = x (ix2 r e)
      + ∑ k : Fin 1024, (Cert.Tail.sig (gp (ix2 r k)) * pp (ix2 r k) + Cert.Tail.sig (ga (ix2 r k)) * pa (ix2 r k)) * w (ix2 k e) := by
  pointwise [k0_pay15, k0_pay13, k0_pay14]
  simp only [Cert.Tail.ereal_zero_sub]
  rfl

theorem pay16_at (pp pa gp z ga x : FVec Ideal S512x1024 .f32) (w : FVec Ideal S1024x1024 .bf16) (n2 : FVec Ideal S1x1024 .f32) (r : Fin 512) (e : Fin 1024)
    (v : Fin 1024 → EReal) (hv : ∀ e, k0_pay15 (F := Ideal) pp pa gp z ga x w (ix2 r e) = v e) :
    k0_pay16 (F := Ideal) pp pa gp z ga x w n2 (ix2 r e) = Cert.Tail.rms v (fun k => n2 (ix2 0 k)) e := by
  pointwise [k0_pay16]
  simp only [hv]
  rfl

/-- One gated product from the two columns of a piece of the weights. -/
def act1 (h a b : Fin 1024 → EReal) : EReal := (∑ k : Fin 1024, h k * a k) * Cert.Tail.sig (∑ k : Fin 1024, h k * a k) * ∑ k : Fin 1024, h k * b k

section
variable (H : FVec Ideal S512x1024 .bf16) (X A : FVec Ideal S512x1024 .f32) (wa wb wa' wb' : FVec Ideal S1024x512 .bf16)
  (wc wd wd' : FVec Ideal S1024x256 .bf16) (wo wo' : FVec Ideal S512x1024 .bf16) (wl : FVec Ideal S256x1024 .bf16) (nf : FVec Ideal S1x1024 .f32)
  (r : Fin 512) (e : Fin 1024)

theorem pay17_at : k0_pay17 (F := Ideal) X H wa wb wo (ix2 r e) = X (ix2 r e)
    + ∑ l : Fin 512, act1 (fun k => H (ix2 r k)) (fun k => wa (ix2 k l)) (fun k => wb (ix2 k l)) * wo (ix2 l e) := by
  pointwise [k0_pay17]
  simp only [Cert.Tail.ereal_zero_sub]
  rfl
theorem pay18_at : k0_pay18 (F := Ideal) H wa wb wo (ix2 r e)
    = ∑ l : Fin 512, act1 (fun k => H (ix2 r k)) (fun k => wa (ix2 k l)) (fun k => wb (ix2 k l)) * wo (ix2 l e) := by
  pointwise [k0_pay18]
  simp only [Cert.Tail.ereal_zero_sub]
  rfl
theorem pay19_at : k0_pay19 (F := Ideal) H X A wa wb wo (ix2 r e) = X (ix2 r e) + A (ix2 r e)
    + ∑ l : Fin 512, act1 (fun k => H (ix2 r k)) (fun k => wa (ix2 k l)) (fun k => wb (ix2 k l)) * wo (ix2 l e) := by
  pointwise [k0_pay19]
  simp only [Cert.Tail.ereal_zero_sub]
  rfl
theorem pay21_at : k0_pay21 (F := Ideal) H X (k0_pay20 H wa wb) wo wa' wb' wo' (ix2 r e) = X (ix2 r e)
    + (∑ l : Fin 512, act1 (fun k => H (ix2 r k)) (fun k => wa (ix2 k l)) (fun k => wb (ix2 k l)) * wo (ix2 l e))
    + ∑ l : Fin 512, act1 (fun k => H (ix2 r k)) (fun k => wa' (ix2 k l)) (fun k => wb' (ix2 k l)) * wo' (ix2 l e) := by
  pointwise [k0_pay21, k0_pay20]
  simp only [Cert.Tail.ereal_zero_sub]
  rfl
theorem pay1_at (v : Fin 1024 → EReal) (hv : ∀ e, X (ix2 r e)
    + (∑ l : Fin 256, act1 (fun k => H (ix2 r k)) (fun k => wc (ix2 k l)) (fun k => wd (ix2 k l)) * wl (ix2 l e)) = v e) :
    k0_pay1 (F := Ideal) X (k0_pay22 H wd) (k0_pay23 H wc) wl nf (ix2 r e) = Cert.Tail.rms v (fun k => nf (ix2 0 k)) e := by
  unfold act1 Cert.Tail.sig at hv
  pointwise [k0_pay1, k0_pay22, k0_pay23]
  simp only [Cert.Tail.ereal_zero_sub, hv]
  rfl
end
end Cert.KernelIdeal.Tail
-- ==== Proof.KerBody.lean ====
module

public import proofs.«01_k».proof.Proof.KerRow

@[expose] public section

set_option maxRecDepth 16384
/- The kernel's body at one row of one block: the pieces put together. -/
noncomputable section
open Idealize.ShloMosaic Idealize.ShloMosaic.TcCoe Idealize.SL.Sem
namespace Cert.KernelIdeal.Tail
open Cert.KernelIdeal Cert.KernelIdeal.Gen

section
variable (i : grid0.Coords) (v2 : FVec Ideal S512x512 .bf16) (v5 : FVec Ideal S16x512 .bf16)
  (U : Fin 8192 → Fin 512 → EReal) (base : ℕ) (hbase : base = (i 0).val % 16 * 512)
  (hu : ∀ (r : Fin 512) (c : Fin 512), v2 (ix2 r c) = ext U base (16 + r.val) c)
  (hh : 0 < base → ∀ (q : Fin 16) (c : Fin 512), v5 (ix2 q c) = ext U base q.val c)
  (pw : Fin 4 → Fin 128 → Fin 128 → EReal) (ps : Fin 512 → EReal)
include hbase hu hh

/-- The pool branch's row. -/
theorem pp_at (r : Fin 512) (hp : base + r.val < 8192) (wpp : Fin 512 → Fin 1024 → EReal) (wppB : FVec Ideal S512x1024 .bf16) (hwpp : ∀ c e, wppB (ix2 c e) = wpp c e)
    (W0 : FVec Ideal S1x128x128 .bf16) (b0 : FVec Ideal S1x128 .f32) (hW0 : ∀ k d, W0 (ix3 0 k d) = pw 0 k d) (hb0 : ∀ d : Fin 128, b0 (ix2 0 d) = ps (Cert.Tail.gcol 0 d))
    (W1 : FVec Ideal S1x128x128 .bf16) (b1 : FVec Ideal S1x128 .f32) (hW1 : ∀ k d, W1 (ix3 0 k d) = pw 1 k d) (hb1 : ∀ d, b1 (ix2 0 d) = ps (Cert.Tail.gcol 1 d))
    (W2 : FVec Ideal S1x128x128 .bf16) (b2 : FVec Ideal S1x128 .f32) (hW2 : ∀ k d, W2 (ix3 0 k d) = pw 2 k d) (hb2 : ∀ d, b2 (ix2 0 d) = ps (Cert.Tail.gcol 2 d))
    (W3 : FVec Ideal S1x128x128 .bf16) (b3 : FVec Ideal S1x128 .f32) (hW3 : ∀ k d, W3 (ix3 0 k d) = pw 3 k d) (hb3 : ∀ d, b3 (ix2 0 d) = ps (Cert.Tail.gcol 3 d))
    (e : Fin 1024) :
    (k0_pay11 (F := Ideal) (k0_pay2 v2) (k0_pay4 i) (k0_pay5 i v2 v5 W0 b0)
      (k0_pay8 (k0_pay2 v2) (k0_pay4 i) (k0_pay6 i v2 v5) k0_pay7 W1 b1) (k0_pay9 (k0_pay2 v2) (k0_pay3 i v2 v5) (k0_pay4 i) W2 b2)
      (k0_pay10 (k0_pay3 i v2 v5)) 1#32 W3 b3 wppB) (ix2 r e)
      = ∑ g : Fin 4, ∑ d : Fin 128, Cert.Tail.pool U pw ps ⟨base + r.val, hp⟩ g d * wpp (Cert.Tail.gcol g d) e := by
  rw [pay11_eq]
  exact cat_at _ _ _ _ _ r e (fun g d => Cert.Tail.pool U pw ps ⟨base + r.val, hp⟩ g d) wpp
    (fun d => pool0_at i v2 v5 U base hbase hu hh pw ps r hp d W0 b0 (fun k => hW0 k d) (hb0 d))
    (fun d => pool1_at i v2 v5 U base hbase hu hh pw ps r hp d W1 b1 (fun k => hW1 k d) (hb1 d))
    (fun d => pool2_at i v2 v5 U base hbase hu hh pw ps r hp d W2 b2 (fun k => hW2 k d) (hb2 d))
    (fun d => group3_at i v2 v5 U base hbase hu hh pw ps r hp d W3 b3 (fun k => hW3 k d) (hb3 d))
    (fun c => hwpp c e)
end

/-- Position `l` of the piece that starts at `o`. -/
def pc (o n : ℕ) (h : o + n ≤ 2816) (l : Fin n) : Fin 2816 := ⟨o + l.val, by omega⟩

theorem act_eq (h : Fin 1024 → EReal) (wg wu : Fin 1024 → Fin 2816 → EReal) (j : Fin 2816) :
    Cert.Tail.act h wg wu j = act1 h (fun k => wg k j) (fun k => wu k j) := rfl

/-- The channel mixer and the final normalisation of one row, from the residual row and its normalised form. -/
theorem mix_at (H : FVec Ideal S512x1024 .bf16) (X : FVec Ideal S512x1024 .f32) (r : Fin 512) (x h : Fin 1024 → EReal)
    (hX : ∀ e, X (ix2 r e) = x e) (hH : ∀ k, H (ix2 r k) = h k)
    (wg wu : Fin 1024 → Fin 2816 → EReal) (wd : Fin 2816 → Fin 1024 → EReal)
    (g0 u0 : FVec Ideal S1024x512 .bf16) (d0 : FVec Ideal S512x1024 .bf16) (hg0 : ∀ (k : Fin 1024) (l : Fin 512), g0 (ix2 k l) = wg k (pc 0 512 (by decide) l)) (hu0 : ∀ (k : Fin 1024) (l : Fin 512), u0 (ix2 k l) = wu k (pc 0 512 (by decide) l))
    (hd0 : ∀ (l : Fin 512) (e : Fin 1024), d0 (ix2 l e) = wd (pc 0 512 (by decide) l) e)
    (g1 u1 : FVec Ideal S1024x512 .bf16) (d1 : FVec Ideal S512x1024 .bf16) (hg1 : ∀ (k : Fin 1024) (l : Fin 512), g1 (ix2 k l) = wg k (pc 512 512 (by decide) l)) (hu1 : ∀ (k : Fin 1024) (l : Fin 512), u1 (ix2 k l) = wu k (pc 512 512 (by decide) l))
    (hd1 : ∀ (l : Fin 512) (e : Fin 1024), d1 (ix2 l e) = wd (pc 512 512 (by decide) l) e)
    (g2 u2 : FVec Ideal S1024x512 .bf16) (d2 : FVec Ideal S512x1024 .bf16) (hg2 : ∀ (k : Fin 1024) (l : Fin 512), g2 (ix2 k l) = wg k (pc 1024 512 (by decide) l)) (hu2 : ∀ (k : Fin 1024) (l : Fin 512), u2 (ix2 k l) = wu k (pc 1024 512 (by decide) l))
    (hd2 : ∀ (l : Fin 512) (e : Fin 1024), d2 (ix2 l e) = wd (pc 1024 512 (by decide) l) e)
    (g3 u3 : FVec Ideal S1024x512 .bf16) (d3 : FVec Ideal S512x1024 .bf16) (hg3 : ∀ (k : Fin 1024) (l : Fin 512), g3 (ix2 k l) = wg k (pc 1536 512 (by decide) l)) (hu3 : ∀ (k : Fin 1024) (l : Fin 512), u3 (ix2 k l) = wu k (pc 1536 512 (by decide) l))
    (hd3 : ∀ (l : Fin 512) (e : Fin 1024), d3 (ix2 l e) = wd (pc 1536 512 (by decide) l) e)
    (g4 u4 : FVec Ideal S1024x512 .bf16) (d4 : FVec Ideal S512x1024 .bf16) (hg4 : ∀ (k : Fin 1024) (l : Fin 512), g4 (ix2 k l) = wg k (pc 2048 512 (by decide) l)) (hu4 : ∀ (k : Fin 1024) (l : Fin 512), u4 (ix2 k l) = wu k (pc 2048 512 (by decide) l))
    (hd4 : ∀ (l : Fin 512) (e : Fin 1024), d4 (ix2 l e) = wd (pc 2048 512 (by decide) l) e)
    (g5 u5 : FVec Ideal S1024x256 .bf16) (d5 : FVec Ideal S256x1024 .bf16) (hg5 : ∀ (k : Fin 1024) (l : Fin 256), g5 (ix2 k l) = wg k (pc 2560 256 (by decide) l)) (hu5 : ∀ (k : Fin 1024) (l : Fin 256), u5 (ix2 k l) = wu k (pc 2560 256 (by decide) l))
    (hd5 : ∀ (l : Fin 256) (e : Fin 1024), d5 (ix2 l e) = wd (pc 2560 256 (by decide) l) e)
    (nfB : FVec Ideal S1x1024 .f32) (nf : Fin 1024 → EReal) (hnf : ∀ k, nfB (ix2 0 k) = nf k) (e : Fin 1024) :
    k0_pay1 (F := Ideal) (k0_pay21 H (k0_pay19 H (k0_pay17 X H g0 u0 d0) (k0_pay18 H g1 u1 d1) g2 u2 d2) (k0_pay20 H g3 u3) d3 g4 u4 d4)
      (k0_pay22 H u5) (k0_pay23 H g5) d5 nfB (ix2 r e) = Cert.Tail.rms (Cert.Tail.x2 x h wg wu wd) nf e := by
  have hnf' : (fun k => nfB (ix2 0 k)) = nf := funext hnf
  refine (pay1_at H _ _ _ _ _ r e (Cert.Tail.x2 x h wg wu wd) (fun e => ?_)).trans (by rw [hnf'])
  rw [pay21_at, pay19_at, pay17_at, pay18_at]
  unfold Cert.Tail.x2
  rw [Cert.Tail.sum_2816]
  simp only [hX, hH, hg0, hg1, hg2, hg3, hg4, hg5, hu0, hu1, hu2, hu3, hu4, hu5, hd0, hd1, hd2, hd3, hd4, hd5, act_eq, add_assoc]
  rfl

end Cert.KernelIdeal.Tail
-- ==== Proof.KerBody2.lean ====
module

public import proofs.«01_k».proof.Proof.KerBody

@[expose] public section

set_option maxRecDepth 16384
/- The residual row of one token and its normalised form. -/
noncomputable section
open Idealize.ShloMosaic Idealize.ShloMosaic.TcCoe Idealize.SL.Sem
namespace Cert.KernelIdeal.Tail
open Cert.KernelIdeal Cert.KernelIdeal.Gen

section
variable (r : Fin 512) (PP : FVec Ideal S512x1024 .f32) (pl : Fin 4 → Fin 128 → EReal) (wpp : Fin 512 → Fin 1024 → EReal)
    (hPP : ∀ e : Fin 1024, PP (ix2 r e) = ∑ g : Fin 4, ∑ d : Fin 128, pl g d * wpp (Cert.Tail.gcol g d) e)
    (gp ga at' xr n2 : Fin 1024 → EReal) (wpa wo : Fin 1024 → Fin 1024 → EReal) (gpB gaB atB : FVec Ideal S512x1024 .bf16) (xB : FVec Ideal S512x1024 .f32)
    (wpaB woB : FVec Ideal S1024x1024 .bf16) (n2B : FVec Ideal S1x1024 .f32)
    (hgp : ∀ k : Fin 1024, gpB (ix2 r k) = gp k) (hga : ∀ k : Fin 1024, gaB (ix2 r k) = ga k) (hat : ∀ k : Fin 1024, atB (ix2 r k) = at' k) (hx : ∀ k : Fin 1024, xB (ix2 r k) = xr k)
    (hwpa : ∀ k e : Fin 1024, wpaB (ix2 k e) = wpa k e) (hwo : ∀ k e : Fin 1024, woB (ix2 k e) = wo k e) (hn2 : ∀ k : Fin 1024, n2B (ix2 0 k) = n2 k)
include hPP hgp hga hat hx hwpa hwo

theorem x1_at (e : Fin 1024) : k0_pay15 (F := Ideal) PP (k0_pay12 atB wpaB) (k0_pay13 gpB) k0_pay14 gaB xB woB (ix2 r e)
      = Cert.Tail.x1 xr (Cert.Tail.merged pl gp ga at' wpp wpa) wo e := by
  refine (pay15_at PP (k0_pay12 atB wpaB) gpB gaB xB woB r e).trans ?_
  unfold Cert.Tail.x1 Cert.Tail.merged
  refine congrArg₂ (· + ·) (hx e) (Finset.sum_congr rfl fun k _ => ?_)
  rw [hgp, hga, hPP, hwo, pay12_at]
  simp only [hat, hwpa]

include hn2
theorem h_at (e : Fin 1024) : k0_pay16 (F := Ideal) PP (k0_pay12 atB wpaB) (k0_pay13 gpB) k0_pay14 gaB xB woB n2B (ix2 r e)
      = Cert.Tail.rms (Cert.Tail.x1 xr (Cert.Tail.merged pl gp ga at' wpp wpa) wo) n2 e := by
  have hn2' : (fun k : Fin 1024 => n2B (ix2 0 k)) = n2 := funext hn2
  refine (pay16_at PP (k0_pay12 atB wpaB) (k0_pay13 gpB) k0_pay14 gaB xB woB n2B r e _
    (fun e => x1_at r PP pl wpp hPP gp ga at' xr wpa wo gpB gaB atB xB wpaB woB hgp hga hat hx hwpa hwo e)).trans (by rw [hn2'])
end
end Cert.KernelIdeal.Tail
-- ==== Proof.KerOut.lean ====
module

public import proofs.«01_k».proof.Proof.KerRead
public import proofs.«01_k».proof.Proof.KerBody2

@[expose] public section

set_option maxRecDepth 16384
/- The kernel's result array as the layer's tail of the argument arrays. -/
noncomputable section
open Idealize.ShloMosaic Idealize.ShloMosaic.TcCoe Idealize.SL.Sem
open Idealize.ShloMosaic.Pipeline (Dat)
namespace Cert.KernelIdeal.Tail
open Cert.KernelIdeal Cert.KernelIdeal.Gen
variable (m : (ℓ : Loc nD τ sig) → Buf (Elt Ideal) ℓ)

/-- The result array. -/
def G (c : Dev nD) (j : S16384x1024.Idx) : EReal :=
  Cert.Tail.outAt (A0 m c) (A1 m c) (A2 m c) (A3 m c) (A4 m c) (A5 m c) (A6 m c) (A7 m c) (A8 m c) (A9 m c) (A10 m c) (A11 m c) (A12 m c) ⟨(j 0).val / 8192, by have := (j 0).isLt; simp at this; omega⟩ ⟨(j 0).val % 8192, by omega⟩ ⟨(j 1).val, (j 1).isLt⟩

/-- The pool columns of grid point `t`'s sequence. -/
def UU (c : Dev nD) (t : ℕ) (ht : t < 32) (q : Fin 8192) (k : Fin 512) : EReal := A0 m c (ix2 ⟨t / 16 * 8192 + q.val, by omega⟩ ⟨k.val, by omega⟩)

theorem hu (c : Dev nD) (t : Fin cfg0.N) (ht : t.val < 32) (r : Fin 512) (q : Fin 512) :
    X0_0 m c t (ix2 r q) = ext (UU m c t.val ht) (t.val % 16 * 512) (16 + r.val) q := by
  unfold ext UU
  rw [dif_pos (by omega), X0_at m c t ht]
  exact congrArg (A0 m c) ((ix2_inj ..).2 ⟨Fin.ext (by dsimp only; omega), rfl⟩)

theorem hh (c : Dev nD) (t : Fin cfg0.N) (ht : t.val < 32) (h : 0 < t.val % 16 * 512) (r : Fin 16) (q : Fin 512) :
    X0_1 m c t (ix2 r q) = ext (UU m c t.val ht) (t.val % 16 * 512) r.val q := by
  unfold ext UU
  rw [dif_pos (by omega), X1_at m c t ht (by omega)]
  exact congrArg (A0 m c) ((ix2_inj ..).2 ⟨Fin.ext (by dsimp only; omega), rfl⟩)

theorem G_at (c : Dev nD) (t : ℕ) (ht : t < 32) (r : Fin 512) (e : Fin 1024) :
    G m c (ix2 ⟨t * 512 + r.val, by omega⟩ e) = Cert.Tail.out (UU m c t ht) ⟨t % 16 * 512 + r.val, by omega⟩
      (fun k => A0 m c (ix2 ⟨t * 512 + r.val, by omega⟩ ⟨3072 + k.val, by omega⟩)) (fun k => A0 m c (ix2 ⟨t * 512 + r.val, by omega⟩ ⟨4096 + k.val, by omega⟩))
      (fun k => A1 m c (ix3 ⟨t / 16, by omega⟩ ⟨t % 16 * 512 + r.val, by omega⟩ k)) (fun k => A2 m c (ix3 ⟨t / 16, by omega⟩ ⟨t % 16 * 512 + r.val, by omega⟩ k))
      (fun g k d => A3 m c (ix3 g k d)) (fun k => A4 m c (ix1 k)) (fun k l => A5 m c (ix2 k l)) (fun k l => A6 m c (ix2 k l)) (fun k l => A7 m c (ix2 k l))
      (fun k => A8 m c (ix1 k)) (fun k j => A9 m c (ix2 k j)) (fun k j => A10 m c (ix2 k j)) (fun j k => A11 m c (ix2 j k)) (fun k => A12 m c (ix1 k)) e := by
  have h1 : (⟨(t * 512 + r.val) / 8192, by omega⟩ : Fin 2) = ⟨t / 16, by omega⟩ := Fin.ext (by dsimp only; omega)
  have h2 : (⟨(t * 512 + r.val) % 8192, by omega⟩ : Fin 8192) = ⟨t % 16 * 512 + r.val, by omega⟩ := Fin.ext (by dsimp only; omega)
  have h3 : Cert.Tail.row ⟨t / 16, by omega⟩ ⟨t % 16 * 512 + r.val, by omega⟩ = ⟨t * 512 + r.val, by omega⟩ := Fin.ext (by unfold Cert.Tail.row; dsimp only; omega)
  show Cert.Tail.outAt (A0 m c) (A1 m c) (A2 m c) (A3 m c) (A4 m c) (A5 m c) (A6 m c) (A7 m c) (A8 m c) (A9 m c) (A10 m c) (A11 m c) (A12 m c) ⟨(t * 512 + r.val) / 8192, _⟩ ⟨(t * 512 + r.val) % 8192, _⟩ e = _
  rw [h1, h2]
  unfold Cert.Tail.outAt
  rw [h3]
  rfl

set_option maxHeartbeats 2000000 in
theorem final (c : Dev nD) : (dats m 0 c).arrAt 16 cfg0.N = fun j => G m c j := by
  refine (dats m 0 c).arrAt_eq_of_covers 16 (fun j => G m c j) (by decide +kernel) fun t _ y => ?_
  have ht : t.val < 32 := lt_of_lt_of_eq t.isLt N32
  blk_simp
  rw [after0_16]
  unfold outsAt0
  frame_out
  have hy : y = ix2 (⟨(y 0).val, (y 0).isLt⟩ : Fin 512) (⟨(y 1).val, (y 1).isLt⟩ : Fin 1024) := eq_ix2 y
  generalize (⟨(y 0).val, (y 0).isLt⟩ : Fin 512) = r at hy
  generalize (⟨(y 1).val, (y 1).isLt⟩ : Fin 1024) = e at hy
  subst hy
  have hr := r.isLt
  have hPP := fun e => pp_at (grid0.coords t) (X0_0 m c t) (X0_1 m c t) (UU m c t.val ht) (t.val % 16 * 512) (by rw [coord t]) (hu m c t ht) (hh m c t ht)
      (fun g k d => A3 m c (ix3 g k d)) (fun k => A4 m c (ix1 k)) r (by omega) (fun k l => A5 m c (ix2 k l)) (iblk m c 8 t) (fun k e => b8_at m c t k e)
      (View.ld (iblk m c 6 t) (Rect.unit ![0, 0, 0] ![1, 128, 128] inb_S4x128x128_S1x128x128_0_0_0)) (View.ld (iblk m c 7 t) (Rect.unit ![0, 0] ![1, 128] inb_S1x512_S1x128_0_0)) (fun k d => by pointwise; exact b6_at m c t 0 k d) (fun d => by pointwise; exact (b7_at m c t _).trans (congrArg (A4 m c) (congrArg ix1 (Fin.ext (by simp [Cert.Tail.gcol])))))
      (View.ld (iblk m c 6 t) (Rect.unit ![1, 0, 0] ![1, 128, 128] inb_S4x128x128_S1x128x128_1_0_0)) (View.ld (iblk m c 7 t) (Rect.unit ![0, 128] ![1, 128] inb_S1x512_S1x128_0_128)) (fun k d => by pointwise; exact b6_at m c t 1 k d) (fun d => by pointwise; exact b7_at m c t _)
      (View.ld (iblk m c 6 t) (Rect.unit ![2, 0, 0] ![1, 128, 128] inb_S4x128x128_S1x128x128_2_0_0)) (View.ld (iblk m c 7 t) (Rect.unit ![0, 256] ![1, 128] inb_S1x512_S1x128_0_256)) (fun k d => by pointwise; exact b6_at m c t 2 k d) (fun d => by pointwise; exact b7_at m c t _)
      (View.ld (iblk m c 6 t) (Rect.unit ![3, 0, 0] ![1, 128, 128] inb_S4x128x128_S1x128x128_3_0_0)) (View.ld (iblk m c 7 t) (Rect.unit ![0, 384] ![1, 128] inb_S1x512_S1x128_0_384)) (fun k d => by pointwise; exact b6_at m c t 3 k d) (fun d => by pointwise; exact b7_at m c t _)
      e
  have hX := fun e => x1_at r _ (Cert.Tail.pool (UU m c t.val ht) (fun g k d => A3 m c (ix3 g k d)) (fun k => A4 m c (ix1 k)) ⟨t.val % 16 * 512 + r.val, by omega⟩) (fun k l => A5 m c (ix2 k l)) hPP
      _ _ _ _ _ _ _ _ _ _ _ _ (fun k => X2_at m c t ht r k) (fun k => X3_at m c t ht r k) (fun k => b4_at m c t ht r k) (fun k => b5_at m c t ht r k)
      (fun k e => b9_at m c t k e) (fun k e => b10_at m c t k e) e
  have hH := fun e => h_at r _ (Cert.Tail.pool (UU m c t.val ht) (fun g k d => A3 m c (ix3 g k d)) (fun k => A4 m c (ix1 k)) ⟨t.val % 16 * 512 + r.val, by omega⟩) (fun k l => A5 m c (ix2 k l)) hPP
      _ _ _ _ _ _ _ _ _ _ _ _ _ _ (fun k => X2_at m c t ht r k) (fun k => X3_at m c t ht r k) (fun k => b4_at m c t ht r k) (fun k => b5_at m c t ht r k)
      (fun k e => b9_at m c t k e) (fun k e => b10_at m c t k e) (fun k => b11_at m c t k) e
  refine (mix_at _ _ r _ _ hX hH
    (fun k j => A9 m c (ix2 k j)) (fun k j => A10 m c (ix2 k j)) (fun j k => A11 m c (ix2 j k))
      _ _ _ (fun k l => by pointwise; exact (b12_at m c t k _).trans (congrArg (A9 m c) (congrArg (ix2 k) (Fin.ext (Nat.zero_add _).symm))))
      (fun k l => by pointwise; exact (b13_at m c t k _).trans (congrArg (A10 m c) (congrArg (ix2 k) (Fin.ext (Nat.zero_add _).symm))))
      (fun l e => by pointwise; exact (b14_at m c t _ e).trans (congrArg (A11 m c) (congrArg (ix2 · e) (Fin.ext (Nat.zero_add _).symm))))
      _ _ _ (fun k l => by pointwise; exact b12_at m c t k _) (fun k l => by pointwise; exact b13_at m c t k _) (fun l e => by pointwise; exact b14_at m c t _ e)
      _ _ _ (fun k l => by pointwise; exact b12_at m c t k _) (fun k l => by pointwise; exact b13_at m c t k _) (fun l e => by pointwise; exact b14_at m c t _ e)
      _ _ _ (fun k l => by pointwise; exact b12_at m c t k _) (fun k l => by pointwise; exact b13_at m c t k _) (fun l e => by pointwise; exact b14_at m c t _ e)
      _ _ _ (fun k l => by pointwise; exact b12_at m c t k _) (fun k l => by pointwise; exact b13_at m c t k _) (fun l e => by pointwise; exact b14_at m c t _ e)
      _ _ _ (fun k l => by pointwise; exact b12_at m c t k _) (fun k l => by pointwise; exact b13_at m c t k _) (fun l e => by pointwise; exact b14_at m c t _ e)
    _ (fun k => A12 m c (ix1 k)) (fun k => b15_at m c t k) e).trans ?_
  refine (G_at m c t.val ht r e).symm.trans (congrArg (G m c) ?_)
  blk_ext [idx t]
end Cert.KernelIdeal.Tail
-- ==== Proof.RefPool.lean ====
module

public import proofs.«01_k».proof.Proof.Gen.ReferenceIdeal.Run
public import proofs.«01_k».proof.Proof.Spec
public import proofs.«01_k».proof.Proof.Count
public import Idealize.ShloMosaic.Lib.Pointwise

@[expose] public section

set_option maxRecDepth 16384
/- The reference's pool mixer, read at one token. -/
noncomputable section
open Idealize.ShloMosaic Idealize.ShloMosaic.TcCoe Idealize.SL.Sem
namespace Cert.ReferenceIdeal.Tail
open Cert.ReferenceIdeal Cert.ReferenceIdeal.Gen Cert.ReferenceIdeal.Value

theorem foldl_add_sum {n : ℕ} (g : Fin n → EReal) : (List.finRange n).foldl (fun r a => r + g a) 0 = ∑ a : Fin n, g a := by
  have h : ∀ (l : List (Fin n)) (z : EReal), l.foldl (fun r a => r + g a) z = z + (l.map g).sum := by
    intro l
    induction l with
    | nil => intro z; simp
    | cons a l ih => intro z; rw [List.foldl_cons, ih, List.map_cons, List.sum_cons, add_assoc]
  rw [h, zero_add, ← List.ofFn_eq_map, List.sum_ofFn]

/-- The window sum at a token: the trailing sum of the column. -/
theorem window_trail {w wm1 : ℕ} (hw : wm1 + 1 = w) (x : FVec Ideal S2x8192x128 .f32) (init : FVec Ideal S_ .f32)
    (hu : 0 < S_.numel) (hinit : init (Shape.Idx.first hu) = (0 : EReal))
    (h : S2x8192x128.ReduceWindows ![1, w, 1] ![1, 1, 1] ![0, wm1, 0] ![0, 0, 0] S2x8192x128)
    (b : Fin 2) (p : Fin 8192) (d : Fin 128) :
    Host.reduceWindowAdd (F := Ideal) ![1, w, 1] ![1, 1, 1] ![0, wm1, 0] ![0, 0, 0] x init h hu (ix3 b p d)
      = Cert.Tail.trail w (fun q => x (ix3 b q d)) p := by
  subst hw
  show Host.reduceWindow (α := EReal) (· + ·) (![1, wm1 + 1, 1] : Fin 3 → ℕ) ![1, 1, 1] ![0, wm1, 0] ![0, 0, 0] x
    (fun _ : (⟨0, ![]⟩ : Shape).Idx => init (Shape.Idx.first hu)) h (by decide) (ix3 b p d) = _
  unfold Host.reduceWindow
  rw [hinit]
  dsimp only
  rw [foldl_add_sum]
  rw [← Equiv.sum_comp (Shape.rowMajor ⟨3, ![1, wm1 + 1, 1]⟩)]
  simp only [Equiv.symm_apply_apply]
  rw [sum_idx3]
  rw [Fin.sum_univ_one]
  simp only [Fin.sum_univ_one]
  unfold Cert.Tail.trail
  rw [← Equiv.sum_comp Fin.revPerm]
  refine Finset.sum_congr rfl fun k _ => ?_
  have hk := k.isLt
  by_cases hc : k.val ≤ p.val
  · rw [if_pos hc]
    have hin : ∀ a : Fin 3, (![0, wm1, 0] : Fin 3 → ℕ) a ≤ ((ix3 b p d : S2x8192x128.Idx) a).val * (![1, 1, 1] : Fin 3 → ℕ) a + ((ix3 (0 : Fin 1) (Fin.rev k) (0 : Fin 1) : (⟨3, ![1, wm1 + 1, 1]⟩ : Shape).Idx) a).val
        ∧ ((ix3 b p d : S2x8192x128.Idx) a).val * (![1, 1, 1] : Fin 3 → ℕ) a + ((ix3 (0 : Fin 1) (Fin.rev k) (0 : Fin 1) : (⟨3, ![1, wm1 + 1, 1]⟩ : Shape).Idx) a).val - (![0, wm1, 0] : Fin 3 → ℕ) a < (![2, 8192, 128] : Fin 3 → ℕ) a := by
      intro a
      match a with
      | ⟨0, _⟩ => show 0 ≤ b.val * 1 + 0 ∧ b.val * 1 + 0 - 0 < 2; omega
      | ⟨1, _⟩ => show wm1 ≤ p.val * 1 + (Fin.rev k).val ∧ p.val * 1 + (Fin.rev k).val - wm1 < 8192; rw [Fin.val_rev]; omega
      | ⟨2, _⟩ => show 0 ≤ d.val * 1 + 0 ∧ d.val * 1 + 0 - 0 < 128; omega
    refine (dif_pos hin).trans (congrArg x (funext fun a => Fin.ext ?_))
    match a with
    | ⟨0, _⟩ => show b.val * 1 + 0 - 0 = b.val; omega
    | ⟨1, _⟩ => show p.val * 1 + (Fin.rev k).val - wm1 = p.val - k.val; rw [Fin.val_rev]; omega
    | ⟨2, _⟩ => show d.val * 1 + 0 - 0 = d.val; omega
  · rw [if_neg hc]
    refine dif_neg fun hin => hc ?_
    have h1 : wm1 ≤ p.val * 1 + (Fin.rev k).val := (hin 1).1
    rw [Fin.val_rev] at h1
    omega

/-- The pool columns of a sequence. -/
def colsU (V0 : Valuation τ sig (Elt Ideal)) (b : Fin 2) (q : Fin 8192) (c : Fin 512) : EReal :=
  (show FVec Ideal S16384x5248 .bf16 from V0 (Proc.devRef .tc main_arg0)) (ix2 (Cert.Tail.row b q) ⟨c.val, by omega⟩)

theorem slice0 (V0 : Valuation τ sig (Elt Ideal)) (b : Fin 2) (q : Fin 8192) (k : Fin 128) :
    res_main_v7 (F := Ideal) V0 (ix3 b q k) = colsU V0 b q (Cert.Tail.gcol 0 k) := by
  have hv : ((Cert.Tail.gcol 0 k : Fin 512) : ℕ) = 0 * 128 + k.val := rfl
  pointwise [res_main_v7, res_main_v2, res_main_v1, colsU]
  exact congrArg _ ((ix2_inj ..).2 ⟨rfl, Fin.ext (by dsimp only; omega)⟩)

theorem pool0 (V0 : Valuation τ sig (Elt Ideal)) (b : Fin 2) (p : Fin 8192) (d : Fin 128) :
    res_main_v85 (F := Ideal) V0 (ix3 b p (Cert.Tail.gcol 0 d)) = Cert.Tail.pool (colsU V0 b)
      (fun g k d => (show FVec Ideal S4x128x128 .f32 from V0 (Proc.devRef .tc main_arg3)) (ix3 g k d))
      (fun c => (show FVec Ideal S512 .f32 from V0 (Proc.devRef .tc main_arg4)) (ix1 c)) p 0 d := by
  have hd := d.isLt
  have hv : ((Cert.Tail.gcol 0 d : Fin 512) : ℕ) = 0 * 128 + d.val := rfl
  have hg : ((Cert.Tail.gcol 0 d : Fin 512) : ℕ) / 128 = 0 := by omega
  have hm : ((Cert.Tail.gcol 0 d : Fin 512) : ℕ) % 128 = d.val := by omega
  pointwise [res_main_v85, res_main_v6]
  simp only [hg, hm]
  unfold Cert.Tail.pool Cert.Tail.pooled
  refine congrArg₂ (· * ·) (Finset.sum_congr rfl fun k _ => ?_) rfl
  refine (mul_comm _ _).trans (congrArg₂ (· * ·) ?_ rfl)
  rw [dif_pos (by decide)]
  refine congrArg₂ (· - ·) (congrArg₂ Ideal.div ((window_trail rfl _ _ _ ?_ _ b p k).trans
    (congrArg (fun u => Cert.Tail.trail 2 u p) (funext fun q => slice0 V0 b q k))) (Cert.Tail.ref_cnt 2 (by decide) p)) (slice0 V0 b p k)
  pointwise

theorem slice1 (V0 : Valuation τ sig (Elt Ideal)) (b : Fin 2) (q : Fin 8192) (k : Fin 128) :
    res_main_v24 (F := Ideal) V0 (ix3 b q k) = colsU V0 b q (Cert.Tail.gcol 1 k) := by
  have hv : ((Cert.Tail.gcol 1 k : Fin 512) : ℕ) = 1 * 128 + k.val := rfl
  pointwise [res_main_v24, res_main_v2, res_main_v1, colsU]
  exact congrArg _ ((ix2_inj ..).2 ⟨rfl, Fin.ext (by dsimp only; omega)⟩)

theorem pool1 (V0 : Valuation τ sig (Elt Ideal)) (b : Fin 2) (p : Fin 8192) (d : Fin 128) :
    res_main_v85 (F := Ideal) V0 (ix3 b p (Cert.Tail.gcol 1 d)) = Cert.Tail.pool (colsU V0 b)
      (fun g k d => (show FVec Ideal S4x128x128 .f32 from V0 (Proc.devRef .tc main_arg3)) (ix3 g k d))
      (fun c => (show FVec Ideal S512 .f32 from V0 (Proc.devRef .tc main_arg4)) (ix1 c)) p 1 d := by
  have hd := d.isLt
  have hv : ((Cert.Tail.gcol 1 d : Fin 512) : ℕ) = 1 * 128 + d.val := rfl
  have hg : ((Cert.Tail.gcol 1 d : Fin 512) : ℕ) / 128 = 1 := by omega
  have hm : ((Cert.Tail.gcol 1 d : Fin 512) : ℕ) % 128 = d.val := by omega
  pointwise [res_main_v85, res_main_v6]
  simp only [hg, hm]
  unfold Cert.Tail.pool Cert.Tail.pooled
  refine congrArg₂ (· * ·) (Finset.sum_congr rfl fun k _ => ?_) rfl
  refine (mul_comm _ _).trans (congrArg₂ (· * ·) ?_ rfl)
  rw [dif_neg (by decide), dif_pos (by decide)]
  refine congrArg₂ (· - ·) (congrArg₂ Ideal.div ((window_trail rfl _ _ _ ?_ _ b p k).trans
    (congrArg (fun u => Cert.Tail.trail 4 u p) (funext fun q => slice1 V0 b q k))) (Cert.Tail.ref_cnt 4 (by decide) p)) (slice1 V0 b p k)
  pointwise

theorem slice2 (V0 : Valuation τ sig (Elt Ideal)) (b : Fin 2) (q : Fin 8192) (k : Fin 128) :
    res_main_v41 (F := Ideal) V0 (ix3 b q k) = colsU V0 b q (Cert.Tail.gcol 2 k) := by
  have hv : ((Cert.Tail.gcol 2 k : Fin 512) : ℕ) = 2 * 128 + k.val := rfl
  pointwise [res_main_v41, res_main_v2, res_main_v1, colsU]
  exact congrArg _ ((ix2_inj ..).2 ⟨rfl, Fin.ext (by dsimp only; omega)⟩)

theorem pool2 (V0 : Valuation τ sig (Elt Ideal)) (b : Fin 2) (p : Fin 8192) (d : Fin 128) :
    res_main_v85 (F := Ideal) V0 (ix3 b p (Cert.Tail.gcol 2 d)) = Cert.Tail.pool (colsU V0 b)
      (fun g k d => (show FVec Ideal S4x128x128 .f32 from V0 (Proc.devRef .tc main_arg3)) (ix3 g k d))
      (fun c => (show FVec Ideal S512 .f32 from V0 (Proc.devRef .tc main_arg4)) (ix1 c)) p 2 d := by
  have hd := d.isLt
  have hv : ((Cert.Tail.gcol 2 d : Fin 512) : ℕ) = 2 * 128 + d.val := rfl
  have hg : ((Cert.Tail.gcol 2 d : Fin 512) : ℕ) / 128 = 2 := by omega
  have hm : ((Cert.Tail.gcol 2 d : Fin 512) : ℕ) % 128 = d.val := by omega
  pointwise [res_main_v85, res_main_v6]
  simp only [hg, hm]
  unfold Cert.Tail.pool Cert.Tail.pooled
  refine congrArg₂ (· * ·) (Finset.sum_congr rfl fun k _ => ?_) rfl
  refine (mul_comm _ _).trans (congrArg₂ (· * ·) ?_ rfl)
  rw [dif_neg (by decide), dif_neg (by decide), dif_pos (by decide)]
  refine congrArg₂ (· - ·) (congrArg₂ Ideal.div ((window_trail rfl _ _ _ ?_ _ b p k).trans
    (congrArg (fun u => Cert.Tail.trail 8 u p) (funext fun q => slice2 V0 b q k))) (Cert.Tail.ref_cnt 8 (by decide) p)) (slice2 V0 b p k)
  pointwise

theorem slice3 (V0 : Valuation τ sig (Elt Ideal)) (b : Fin 2) (q : Fin 8192) (k : Fin 128) :
    res_main_v58 (F := Ideal) V0 (ix3 b q k) = colsU V0 b q (Cert.Tail.gcol 3 k) := by
  have hv : ((Cert.Tail.gcol 3 k : Fin 512) : ℕ) = 3 * 128 + k.val := rfl
  pointwise [res_main_v58, res_main_v2, res_main_v1, colsU]
  exact congrArg _ ((ix2_inj ..).2 ⟨rfl, Fin.ext (by dsimp only; omega)⟩)

theorem pool3 (V0 : Valuation τ sig (Elt Ideal)) (b : Fin 2) (p : Fin 8192) (d : Fin 128) :
    res_main_v85 (F := Ideal) V0 (ix3 b p (Cert.Tail.gcol 3 d)) = Cert.Tail.pool (colsU V0 b)
      (fun g k d => (show FVec Ideal S4x128x128 .f32 from V0 (Proc.devRef .tc main_arg3)) (ix3 g k d))
      (fun c => (show FVec Ideal S512 .f32 from V0 (Proc.devRef .tc main_arg4)) (ix1 c)) p 3 d := by
  have hd := d.isLt
  have hv : ((Cert.Tail.gcol 3 d : Fin 512) : ℕ) = 3 * 128 + d.val := rfl
  have hg : ((Cert.Tail.gcol 3 d : Fin 512) : ℕ) / 128 = 3 := by omega
  have hm : ((Cert.Tail.gcol 3 d : Fin 512) : ℕ) % 128 = d.val := by omega
  pointwise [res_main_v85, res_main_v6]
  simp only [hg, hm]
  unfold Cert.Tail.pool Cert.Tail.pooled
  refine congrArg₂ (· * ·) (Finset.sum_congr rfl fun k _ => ?_) rfl
  refine (mul_comm _ _).trans (congrArg₂ (· * ·) ?_ rfl)
  rw [dif_neg (by decide), dif_neg (by decide), dif_neg (by decide)]
  refine congrArg₂ (· - ·) (congrArg₂ Ideal.div ((window_trail rfl _ _ _ ?_ _ b p k).trans
    (congrArg (fun u => Cert.Tail.trail 16 u p) (funext fun q => slice3 V0 b q k))) (Cert.Tail.ref_cnt 16 (by decide) p)) (slice3 V0 b p k)
  pointwise

end Cert.ReferenceIdeal.Tail
-- ==== Proof.RefOut.lean ====
module

public import proofs.«01_k».proof.Proof.RefPool

@[expose] public section

set_option maxRecDepth 16384
/- The reference's result, read at one token. -/
noncomputable section
open Idealize.ShloMosaic Idealize.ShloMosaic.TcCoe Idealize.SL.Sem
namespace Cert.ReferenceIdeal.Tail
open Cert.ReferenceIdeal Cert.ReferenceIdeal.Gen Cert.ReferenceIdeal.Value
variable (V0 : Valuation τ sig (Elt Ideal))

/-- The arguments at their literal types. -/
def a0 : FVec Ideal S16384x5248 .bf16 := V0 (Proc.devRef .tc main_arg0)
def a1 : FVec Ideal S2x8192x1024 .bf16 := V0 (Proc.devRef .tc main_arg1)
def a2 : FVec Ideal S2x8192x1024 .f32 := V0 (Proc.devRef .tc main_arg2)
def a3 : FVec Ideal S4x128x128 .f32 := V0 (Proc.devRef .tc main_arg3)
def a4 : FVec Ideal S512 .f32 := V0 (Proc.devRef .tc main_arg4)
def a5 : FVec Ideal S512x1024 .f32 := V0 (Proc.devRef .tc main_arg5)
def a6 : FVec Ideal S1024x1024 .f32 := V0 (Proc.devRef .tc main_arg6)
def a7 : FVec Ideal S1024x1024 .f32 := V0 (Proc.devRef .tc main_arg7)
def a8 : FVec Ideal S1024 .f32 := V0 (Proc.devRef .tc main_arg8)
def a9 : FVec Ideal S1024x2816 .f32 := V0 (Proc.devRef .tc main_arg9)
def a10 : FVec Ideal S1024x2816 .f32 := V0 (Proc.devRef .tc main_arg10)
def a11 : FVec Ideal S2816x1024 .f32 := V0 (Proc.devRef .tc main_arg11)
def a12 : FVec Ideal S1024 .f32 := V0 (Proc.devRef .tc main_arg12)

/-- The pool mixer's row, the merged row, the two residual rows and the normalised row of a token. -/
def rPool (b : Fin 2) (p : Fin 8192) : Fin 4 → Fin 128 → EReal :=
  Cert.Tail.pool (colsU V0 b) (fun g k d => a3 V0 (ix3 g k d)) (fun c => a4 V0 (ix1 c)) p
def rMerged (b : Fin 2) (p : Fin 8192) : Fin 1024 → EReal :=
  Cert.Tail.merged (rPool V0 b p) (fun k => a0 V0 (ix2 (Cert.Tail.row b p) ⟨3072 + k.val, by omega⟩))
    (fun k => a0 V0 (ix2 (Cert.Tail.row b p) ⟨4096 + k.val, by omega⟩)) (fun k => a1 V0 (ix3 b p k))
    (fun c k => a5 V0 (ix2 c k)) (fun c k => a6 V0 (ix2 c k))
def rX1 (b : Fin 2) (p : Fin 8192) : Fin 1024 → EReal :=
  Cert.Tail.x1 (fun k => a2 V0 (ix3 b p k)) (rMerged V0 b p) (fun c k => a7 V0 (ix2 c k))
def rH (b : Fin 2) (p : Fin 8192) : Fin 1024 → EReal := Cert.Tail.rms (rX1 V0 b p) (fun k => a8 V0 (ix1 k))
def rX2 (b : Fin 2) (p : Fin 8192) : Fin 1024 → EReal :=
  Cert.Tail.x2 (rX1 V0 b p) (rH V0 b p) (fun k j => a9 V0 (ix2 k j)) (fun k j => a10 V0 (ix2 k j)) (fun j k => a11 V0 (ix2 j k))

theorem pool_at (b : Fin 2) (p : Fin 8192) (g : Fin 4) (d : Fin 128) :
    res_main_v85 (F := Ideal) V0 (ix3 b p (Cert.Tail.gcol g d)) = rPool V0 b p g d :=
  match g with
  | 0 => pool0 V0 b p d
  | 1 => pool1 V0 b p d
  | 2 => pool2 V0 b p d
  | 3 => pool3 V0 b p d

theorem x1_at (b : Fin 2) (p : Fin 8192) (e : Fin 1024) : res_main_v104 (F := Ideal) V0 (ix3 b p e) = rX1 V0 b p e := by
  pointwise [res_main_v104, res_main_v1]
  unfold rX1 Cert.Tail.x1 rMerged Cert.Tail.merged
  refine congrArg₂ (· + ·) rfl (Finset.sum_congr rfl fun x _ => congrArg₂ (· * ·) (congrArg₂ (· + ·) (congrArg₂ (· * ·) rfl ?_) rfl) rfl)
  rw [Cert.Tail.sum_gcol]
  exact Finset.sum_congr rfl fun g _ => Finset.sum_congr rfl fun d _ => congrArg₂ (· * ·) (pool_at V0 b p g d) rfl

theorem h_at (b : Fin 2) (p : Fin 8192) (e : Fin 1024) : res_main_v117 (F := Ideal) V0 (ix3 b p e) = rH V0 b p e := by
  pointwise [res_main_v117, x1_at]
  rfl

theorem x2_at (b : Fin 2) (p : Fin 8192) (e : Fin 1024) : res_main_v123 (F := Ideal) V0 (ix3 b p e) = rX2 V0 b p e := by
  pointwise [res_main_v123, res_main_v118, x1_at, h_at]
  rfl

/-- The reference's result is the token's result at every row and column. -/
theorem out_at (b : Fin 2) (p : Fin 8192) (e : Fin 1024) :
    shapeCast S16384x1024 (mulf (mulf (res_main_v123 (F := Ideal) V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v123 V0) (res_main_v123 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (a12 V0)))) shapeCasts_S2x8192x1024_S16384x1024
      (ix2 (Cert.Tail.row b p) e)
    = Cert.Tail.outAt (a0 V0) (a1 V0) (a2 V0) (a3 V0) (a4 V0) (a5 V0) (a6 V0) (a7 V0) (a8 V0) (a9 V0) (a10 V0) (a11 V0) (a12 V0) b p e := by
  have hv : ((Cert.Tail.row b p : Fin 16384) : ℕ) = b.val * 8192 + p.val := rfl
  have hb : ((Cert.Tail.row b p : Fin 16384) : ℕ) / 8192 = b.val := by omega
  have hp : ((Cert.Tail.row b p : Fin 16384) : ℕ) % 8192 = p.val := by omega
  pointwise
  simp only [hb, hp, x2_at]
  rfl

end Cert.ReferenceIdeal.Tail
-- ==== Proof.Tail.lean ====
module

public import proofs.«01_k».proof.Defs
public import proofs.«01_k».proof.Proof.KerOut
public import proofs.«01_k».proof.Proof.RefOut

@[expose] public section

set_option maxRecDepth 16384
/- The value claim about the layer's tail: the kernel's result array and the reference's are one function of the arguments. -/
noncomputable section
open Idealize.ShloMosaic Idealize.ShloMosaic.TcCoe Idealize.SL.Sem
namespace Cert.Tail
open Idealize.ShloMosaic.StableHlo

theorem algebraic : Cert.algebraic_KernelIdeal_ReferenceIdeal (hKernelIdeal := Cert.KernelIdeal.Gen.facts) (hReferenceIdeal := Cert.ReferenceIdeal.Gen.facts) :=
  fun m ρ m' ρ' _ hag => ⟨fun c j => Cert.KernelIdeal.Tail.G m c j,
    (θ_run _ _ _).mono (fun _ h c => ⟨(h c).1.trans (Cert.KernelIdeal.Tail.final m c), (h c).2⟩) (Cert.KernelIdeal.Value.run_blocks (F := Ideal) m ρ),
    (θ_run _ _ _).mono (fun _ h c => ⟨(h c).1.trans (funext fun j => by
      obtain ⟨h0, h1, h2, h3, h4, h5, h6, h7, h8, h9, h10, h11, h12⟩ := hag c
      have e0 : Cert.ReferenceIdeal.Tail.a0 (launchContents m' c) = Cert.KernelIdeal.Tail.A0 m c := h0
      have e1 : Cert.ReferenceIdeal.Tail.a1 (launchContents m' c) = Cert.KernelIdeal.Tail.A1 m c := h1
      have e2 : Cert.ReferenceIdeal.Tail.a2 (launchContents m' c) = Cert.KernelIdeal.Tail.A2 m c := h2
      have e3 : Cert.ReferenceIdeal.Tail.a3 (launchContents m' c) = Cert.KernelIdeal.Tail.A3 m c := h3
      have e4 : Cert.ReferenceIdeal.Tail.a4 (launchContents m' c) = Cert.KernelIdeal.Tail.A4 m c := h4
      have e5 : Cert.ReferenceIdeal.Tail.a5 (launchContents m' c) = Cert.KernelIdeal.Tail.A5 m c := h5
      have e6 : Cert.ReferenceIdeal.Tail.a6 (launchContents m' c) = Cert.KernelIdeal.Tail.A6 m c := h6
      have e7 : Cert.ReferenceIdeal.Tail.a7 (launchContents m' c) = Cert.KernelIdeal.Tail.A7 m c := h7
      have e8 : Cert.ReferenceIdeal.Tail.a8 (launchContents m' c) = Cert.KernelIdeal.Tail.A8 m c := h8
      have e9 : Cert.ReferenceIdeal.Tail.a9 (launchContents m' c) = Cert.KernelIdeal.Tail.A9 m c := h9
      have e10 : Cert.ReferenceIdeal.Tail.a10 (launchContents m' c) = Cert.KernelIdeal.Tail.A10 m c := h10
      have e11 : Cert.ReferenceIdeal.Tail.a11 (launchContents m' c) = Cert.KernelIdeal.Tail.A11 m c := h11
      have e12 : Cert.ReferenceIdeal.Tail.a12 (launchContents m' c) = Cert.KernelIdeal.Tail.A12 m c := h12
      have hj0 : (j 0).val < 16384 := (j 0).isLt
      have hj : j = ix2 (Cert.Tail.row ⟨(j 0).val / 8192, by omega⟩ ⟨(j 0).val % 8192, by omega⟩) (⟨(j 1).val, (j 1).isLt⟩ : Fin 1024) :=
        (eq_ix2 j).trans ((ix2_inj ..).2 ⟨Fin.ext (by unfold Cert.Tail.row; dsimp only; omega), rfl⟩)
      refine (congrArg _ hj).trans ((Cert.ReferenceIdeal.Tail.out_at (launchContents m' c) _ _ _).trans ?_)
      rw [e0, e1, e2, e3, e4, e5, e6, e7, e8, e9, e10, e11, e12]
      rfl), (h c).2⟩) (Cert.ReferenceIdeal.Value.run (F := Ideal) m' ρ')⟩

end Cert.Tail
-- ==== Proof.InSpec.lean ====
module

public import proofs.«01_k».proof.Proof.Spec

@[expose] public section

set_option maxRecDepth 16384
/- The layer's input projection for one token, over the extended reals: the normalised row times the projection matrix,
   with the columns in the order the later calls read them. -/
noncomputable section
open Idealize.ShloMosaic
namespace Cert.Inproj

/-- Row `k` of the projection matrix with its columns laid out anew: the first 3072, then the last 2048 (the two gates),
    then the 48 columns between them, then zeros. -/
def laid (w : Fin 5168 → EReal) (j : ℕ) : EReal :=
  if h : j < 3072 then w ⟨j, by omega⟩ else if h : j < 5120 then w ⟨j + 48, by omega⟩ else if h : j < 5168 then w ⟨j - 2048, by omega⟩ else 0

/-- Entry `j` of a token's laid out projection. -/
def proj (x nw : Fin 1024 → EReal) (w : Fin 1024 → Fin 5168 → EReal) (j : ℕ) : EReal :=
  ∑ k : Fin 1024, Cert.Tail.rms x nw k * laid (w k) j

theorem laid_a (w : Fin 5168 → EReal) (j : ℕ) (h : j < 3072) : laid w j = w ⟨j, by omega⟩ := dif_pos h
theorem laid_b (w : Fin 5168 → EReal) (j : ℕ) (h : j < 2048) : laid w (3072 + j) = w ⟨3120 + j, by omega⟩ := by
  unfold laid
  rw [dif_neg (by omega), dif_pos (by omega)]
  exact congrArg w (Fin.ext (by dsimp only; omega))
theorem laid_c (w : Fin 5168 → EReal) (j : ℕ) : laid w (5120 + j) = if h : j < 48 then w ⟨3072 + j, by omega⟩ else 0 := by
  unfold laid
  rw [dif_neg (by omega), dif_neg (by omega)]
  by_cases h : j < 48
  · rw [dif_pos (by omega), dif_pos h]
    exact congrArg w (Fin.ext (by dsimp only; omega))
  · rw [dif_neg (by omega), dif_neg h]

end Cert.Inproj
-- ==== Proof.InRead.lean ====
module

public import proofs.«01_k».proof.Proof.Gen.Kernel2Ideal.Value
public import proofs.«01_k».proof.Proof.InSpec
public import Idealize.ShloMosaic.Lib.Pipeline.ValueKit
public import Idealize.ShloMosaic.Lib.Claim
public import Idealize.ShloMosaic.Lib.Pointwise

@[expose] public section

set_option maxRecDepth 16384
/- The blocks the projection's body reads at one grid point, as elements of the arguments, and its normalised rows. -/
noncomputable section
open Idealize.ShloMosaic Idealize.ShloMosaic.TcCoe Idealize.SL.Sem
open Idealize.ShloMosaic.Pipeline (Dat)
namespace Cert.Kernel2Ideal.Inproj
open Cert.Kernel2Ideal Cert.Kernel2Ideal.Gen
variable (m : (ℓ : Loc nD τ sig) → Buf (Elt Ideal) ℓ)

/-- Each window's block index at grid point `t`. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![0, t.val, 0] :=
  (by decide +kernel : ∀ t : Fin grid0.N, _)

theorem N32 : cfg0.N = 32 := by decide +kernel

abbrev A0 (c : Dev nD) : FVec Ideal S2x8192x1024 .f32 := m ((c : Thread nD τ).loc main_arg0)
abbrev A1 (c : Dev nD) : FVec Ideal S1024 .f32 := m ((c : Thread nD τ).loc main_arg1)
abbrev A2 (c : Dev nD) : FVec Ideal S1024x5168 .f32 := m ((c : Thread nD τ).loc main_arg2)

theorem V1 (c : Dev nD) : V m c main_v1 = truncf .bf16 (extractStridedSlice S1024x3072 ![0, 0] (A2 m c) slices_S1024x5168_S1024x3072_0_0) bitsLt_bf16_f32 := rfl
theorem V3 (c : Dev nD) : V m c main_v3 = truncf .bf16 (extractStridedSlice S1024x2048 ![0, 3120] (A2 m c) slices_S1024x5168_S1024x2048_0_3120) bitsLt_bf16_f32 := rfl
theorem V6 (c : Dev nD) : V m c main_v6 = truncf .bf16 (pad S1024x128 ![0, 0] ![0, 80] ![0, 0] (extractStridedSlice S1024x48 ![0, 3072] (A2 m c) slices_S1024x5168_S1024x48_0_3072)
    (sitofp .f32 (constantI S_ 32 0#32)) pads_S1024x48_S1024x128_000_0800 h_S_) bitsLt_bf16_f32 := rfl
theorem V7 (c : Dev nD) : V m c main_v7 = shapeCast S16384x1024 (A0 m c) shapeCasts_S2x8192x1024_S16384x1024 := rfl
theorem V8 (c : Dev nD) : V m c main_v8 = shapeCast S1x1024 (A1 m c) shapeCasts_S1024_S1x1024 := rfl

theorem b0_at (c : Dev nD) (t : Fin cfg0.N) (ht : t.val < 32) (r : Fin 512) (q : Fin 1024) :
    iblk m c 0 t (ix2 r q) = A0 m c (ix3 ⟨t.val / 16, by omega⟩ ⟨t.val % 16 * 512 + r.val, by omega⟩ q) := by
  blk_simp [iblk, idx t]
  refine (congrFun (V7 m c) _).trans ?_
  pointwise
  refine congrArg (m ((c : Thread nD τ).loc main_arg0)) ?_
  blk_ext [idx t]
theorem b1_at (c : Dev nD) (t : Fin cfg0.N) (q : Fin 1024) : iblk m c 1 t (ix2 0 q) = A1 m c (ix1 q) := by
  blk_simp [iblk, idx t]
  refine (congrFun (V8 m c) _).trans ?_
  pointwise
  refine congrArg (m ((c : Thread nD τ).loc main_arg1)) ?_
  blk_ext [idx t]
theorem b2_at (c : Dev nD) (t : Fin cfg0.N) (k : Fin 1024) (j : Fin 3072) : iblk m c 2 t (ix2 k j) = A2 m c (ix2 k ⟨j.val, by omega⟩) := by
  blk_simp [iblk, idx t]
  refine (congrFun (V1 m c) _).trans ?_
  pointwise
  refine congrArg (m ((c : Thread nD τ).loc main_arg2)) ?_
  blk_ext [idx t]
theorem b3_at (c : Dev nD) (t : Fin cfg0.N) (k : Fin 1024) (j : Fin 2048) : iblk m c 3 t (ix2 k j) = A2 m c (ix2 k ⟨3120 + j.val, by omega⟩) := by
  blk_simp [iblk, idx t]
  refine (congrFun (V3 m c) _).trans ?_
  pointwise
  refine congrArg (m ((c : Thread nD τ).loc main_arg2)) ?_
  blk_ext [idx t]
theorem b4_at (c : Dev nD) (t : Fin cfg0.N) (k : Fin 1024) (j : Fin 128) :
    iblk m c 4 t (ix2 k j) = if h : j.val < 48 then A2 m c (ix2 k ⟨3072 + j.val, by omega⟩) else 0 := by
  blk_simp [iblk, idx t]
  have e : ((View.whole main_v6).slice (win0_4.rect t)).emb (ix2 k j) = ix2 k j := by blk_ext [idx t]
  refine (congrArg _ e).trans ((congrFun (V6 m c) _).trans ?_)
  pointwise
  have z : FloatOps.sitofp (F := Ideal) FTy.f32 0#32 = (0 : EReal) := by show (((0#32 : BitVec 32).toInt : ℝ) : EReal) = 0; simp
  rw [z]

theorem h_at (X : Vec Ideal S512x1024 .f32) (nw : Vec Ideal S1x1024 .f32) (r : Fin 512) (k : Fin 1024) :
    k0_pay3 X nw (ix2 r k) = Cert.Tail.rms (fun q => X (ix2 r q)) (fun q => nw (ix2 0 q)) k := by
  pointwise [k0_pay3]
  rfl

end Cert.Kernel2Ideal.Inproj
-- ==== Proof.InOut.lean ====
module

public import proofs.«01_k».proof.Proof.InRead

@[expose] public section

set_option maxRecDepth 16384
/- The projection's two result arrays as the specification of the argument arrays. -/
noncomputable section
open Idealize.ShloMosaic Idealize.ShloMosaic.TcCoe Idealize.SL.Sem
open Idealize.ShloMosaic.Pipeline (Dat)
namespace Cert.Kernel2Ideal.Inproj
open Cert.Kernel2Ideal Cert.Kernel2Ideal.Gen
variable (m : (ℓ : Loc nD τ sig) → Buf (Elt Ideal) ℓ)

/-- Entry `j` of row `r`'s projection. -/
def P (c : Dev nD) (r : Fin 16384) (j : ℕ) : EReal :=
  Cert.Inproj.proj (fun q => A0 m c (ix3 ⟨r.val / 8192, by omega⟩ ⟨r.val % 8192, by omega⟩ q)) (fun q => A1 m c (ix1 q)) (fun k l => A2 m c (ix2 k l)) j
def G5 (c : Dev nD) (j : S16384x5248.Idx) : EReal := P m c ⟨(j 0).val, (j 0).isLt⟩ (j 1).val
def G6 (c : Dev nD) (j : S8x16384x64.Idx) : EReal := P m c ⟨(j 1).val, (j 1).isLt⟩ (1536 + ((j 0).val * 64 + (j 2).val))

/-- The normalised row times a row of weights is the projection's entry, once each weight is the laid out matrix's. -/
theorem sum_at (c : Dev nD) (t : Fin cfg0.N) (ht : t.val < 32) (r : Fin 512) (R : Fin 16384) (hR : R.val = t.val * 512 + r.val) (j : ℕ) (w : Fin 1024 → EReal)
    (hw : ∀ k, w k = Cert.Inproj.laid (fun l => A2 m c (ix2 k l)) j) :
    ∑ k : Fin 1024, Cert.Tail.rms (fun q => iblk m c 0 t (ix2 r q)) (fun q => iblk m c 1 t (ix2 0 q)) k * w k = P m c R j := by
  unfold P Cert.Inproj.proj
  refine Finset.sum_congr rfl fun k _ => congrArg₂ (· * ·) ?_ (hw k)
  rw [funext fun q => b0_at m c t ht r q, funext fun q => b1_at m c t q]
  have e1 : (⟨t.val / 16, by omega⟩ : Fin 2) = ⟨R.val / 8192, by omega⟩ := Fin.ext (by dsimp only; omega)
  have e2 : (⟨t.val % 16 * 512 + r.val, by omega⟩ : Fin 8192) = ⟨R.val % 8192, by omega⟩ := Fin.ext (by dsimp only; omega)
  rw [e1, e2]

theorem w2_at (c : Dev nD) (t : Fin cfg0.N) (k : Fin 1024) (i : Fin 3072) (j : ℕ) (h : j = i.val) :
    iblk m c 2 t (ix2 k i) = Cert.Inproj.laid (fun l => A2 m c (ix2 k l)) j := by
  subst h
  exact (b2_at m c t k i).trans (Cert.Inproj.laid_a (fun l => A2 m c (ix2 k l)) i.val i.isLt).symm
theorem w3_at (c : Dev nD) (t : Fin cfg0.N) (k : Fin 1024) (i : Fin 2048) (j : ℕ) (h : j = 3072 + i.val) :
    iblk m c 3 t (ix2 k i) = Cert.Inproj.laid (fun l => A2 m c (ix2 k l)) j := by
  subst h
  exact (b3_at m c t k i).trans (Cert.Inproj.laid_b (fun l => A2 m c (ix2 k l)) i.val i.isLt).symm
theorem w4_at (c : Dev nD) (t : Fin cfg0.N) (k : Fin 1024) (i : Fin 128) (j : ℕ) (h : j = 5120 + i.val) :
    iblk m c 4 t (ix2 k i) = Cert.Inproj.laid (fun l => A2 m c (ix2 k l)) j := by
  subst h
  exact (b4_at m c t k i).trans (Cert.Inproj.laid_c (fun l => A2 m c (ix2 k l)) i.val).symm

set_option maxHeartbeats 4000000 in
theorem final5 (c : Dev nD) : (dats m 0 c).arrAt 5 cfg0.N = fun j => G5 m c j := by
  refine (dats m 0 c).arrAt_eq_of_covers 5 (fun j => G5 m c j) (by decide +kernel) fun t _ y => ?_
  have ht : t.val < 32 := lt_of_lt_of_eq t.isLt N32
  have y0 : (y 0).val < 512 := (y 0).isLt
  have eG : G5 m c (((View.whole main_v9_0).slice (win0_5.rect t)).emb y) = P m c ⟨t.val * 512 + (y 0).val, by omega⟩ (y 1).val := by
    unfold G5
    refine congrArg₂ (P m c) (Fin.ext ?_) ?_
    · blk_simp [idx t]
    · blk_simp [idx t]
  blk_simp
  refine Eq.trans ?_ eG.symm
  rw [after0_5]
  unfold outsAt0
  frame_out
  canon_tiles x e using View.cover_of_tiledBy _ ![512, 128] (by sl_kernel_rfl) y
  case piece0 =>
    open_payloads; pointwise
    exact sum_at m c t ht (x 0) _ (by dsimp only; omega) _ _ (fun k => w4_at m c t k _ _ (by omega))
  all_goals (
    open_payloads; pointwise
    first
      | exact sum_at m c t ht (x 0) _ (by dsimp only; omega) _ _ (fun k => w3_at m c t k _ _ (by dsimp only; omega))
      | exact sum_at m c t ht (x 0) _ (by dsimp only; omega) _ _ (fun k => w2_at m c t k _ _ (by dsimp only; omega)))

set_option maxHeartbeats 4000000 in
theorem final6 (c : Dev nD) : (dats m 0 c).arrAt 6 cfg0.N = fun j => G6 m c j := by
  refine (dats m 0 c).arrAt_eq_of_covers 6 (fun j => G6 m c j) (by decide +kernel) fun t _ y => ?_
  have ht : t.val < 32 := lt_of_lt_of_eq t.isLt N32
  have y1 : (y 1).val < 512 := (y 1).isLt
  have eG : G6 m c (((View.whole main_v9_1).slice (win0_6.rect t)).emb y) = P m c ⟨t.val * 512 + (y 1).val, by omega⟩ (1536 + ((y 0).val * 64 + (y 2).val)) := by
    unfold G6
    refine congrArg₂ (P m c) (Fin.ext ?_) ?_
    · blk_simp [idx t]
    · blk_simp [idx t]
  blk_simp
  refine Eq.trans ?_ eG.symm
  rw [after0_6]
  unfold outsAt0
  frame_out
  canon_tiles x e
  all_goals (
    open_payloads; pointwise
    exact sum_at m c t ht (x 1) _ (by dsimp only; omega) _ _ (fun k => w2_at m c t k _ _ (by dsimp only; omega)))
end Cert.Kernel2Ideal.Inproj
-- ==== Proof.InRef.lean ====
module

public import proofs.«01_k».proof.Proof.Gen.Reference2Ideal.Run
public import proofs.«01_k».proof.Proof.InSpec
public import Idealize.ShloMosaic.Lib.Pointwise

@[expose] public section

set_option maxRecDepth 16384
/- The reference's two results of the input projection, read at an index. -/
noncomputable section
open Idealize.ShloMosaic Idealize.ShloMosaic.TcCoe Idealize.SL.Sem
namespace Cert.Reference2Ideal.Inproj
open Cert.Reference2Ideal Cert.Reference2Ideal.Facts₀ Cert.Reference2Ideal.Facts Cert.Reference2Ideal.Value
variable (m : (ℓ : Loc nD τ sig) → Buf (Elt Ideal) ℓ)

abbrev A0 (c : Dev nD) : FVec Ideal S2x8192x1024 .f32 := m ((c.tc : Thread nD τ).loc main_arg0)
abbrev A1 (c : Dev nD) : FVec Ideal S1024 .f32 := m ((c.tc : Thread nD τ).loc main_arg1)
abbrev A2 (c : Dev nD) : FVec Ideal S1024x5168 .f32 := m ((c.tc : Thread nD τ).loc main_arg2)

theorem out_at (c : Dev nD) (r : Fin 16384) (j : Fin 5248) :
    res_main_v28 (F := Ideal) m c (ix2 r j) = Cert.Inproj.proj (fun q => A0 m c (ix3 ⟨r.val / 8192, by omega⟩ ⟨r.val % 8192, by omega⟩ q)) (fun q => A1 m c (ix1 q)) (fun k l => A2 m c (ix2 k l)) j.val := by
  pointwise [res_main_v28]
  unfold Cert.Inproj.proj Cert.Inproj.laid
  change @Eq EReal _ _
  by_cases h1 : j.val < 3072
  · simp only [dif_pos h1]
    rfl
  · by_cases h2 : j.val < 4096
    · simp only [dif_neg h1, dif_pos (show j.val - 3072 < 1024 by omega), dif_pos (show j.val < 5120 by omega)]
      exact Finset.sum_congr rfl fun k _ => congrArg₂ (· * ·) rfl (congrArg (A2 m c) (congrArg (ix2 k) (Fin.ext (by dsimp only; omega))))
    · by_cases h3 : j.val < 5120
      · simp only [dif_neg h1, dif_neg (show ¬ j.val - 3072 < 1024 by omega), dif_pos (show j.val - 3072 - 1024 < 1024 by omega), dif_pos h3]
        exact Finset.sum_congr rfl fun k _ => congrArg₂ (· * ·) rfl (congrArg (A2 m c) (congrArg (ix2 k) (Fin.ext (by dsimp only; omega))))
      · by_cases h4 : j.val < 5168
        · simp only [dif_neg h1, dif_neg (show ¬ j.val - 3072 < 1024 by omega), dif_neg (show ¬ j.val - 3072 - 1024 < 1024 by omega), dif_pos (show j.val - 3072 - 1024 - 1024 < 48 by omega), dif_neg h3, dif_pos h4]
          exact Finset.sum_congr rfl fun k _ => congrArg₂ (· * ·) rfl (congrArg (A2 m c) (congrArg (ix2 k) (Fin.ext (by dsimp only; omega))))
        · simp only [dif_neg h1, dif_neg (show ¬ j.val - 3072 < 1024 by omega), dif_neg (show ¬ j.val - 3072 - 1024 < 1024 by omega), dif_neg (show ¬ j.val - 3072 - 1024 - 1024 < 48 by omega), dif_neg h3, dif_neg h4, mul_zero]
          exact (Finset.sum_const_zero (M := EReal)).symm

/-- The second result as the reference writes it: the key and value columns, a group at a time. -/
def kvc (c : Dev nD) : FVec Ideal S8x16384x64 .bf16 := truncf .bf16 (concatenate S8x16384x64 0 [⟨S4x16384x64, (transpose S4x16384x64 [1, 0, 2] (shapeCast _ (extractStridedSlice S2x8192x256 ![0, 0, 1536] (Host.dotGeneral dot_S2x8192x1024_S1024x5168_S2x8192x5168_2_0_01_1_n_n none (mulf (mulf (A0 m c) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (A0 m c) (A0 m c)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (A1 m c)))) (A2 m c)) slices_S2x8192x5168_S2x8192x256_0_0_1536) shapeCasts_S2x8192x256_S16384x4x64) transposes_S16384x4x64_S4x16384x64_1_0_2)⟩, ⟨S4x16384x64, (transpose S4x16384x64 [1, 0, 2] (shapeCast _ (extractStridedSlice S2x8192x256 ![0, 0, 1792] (Host.dotGeneral dot_S2x8192x1024_S1024x5168_S2x8192x5168_2_0_01_1_n_n none (mulf (mulf (A0 m c) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (A0 m c) (A0 m c)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (A1 m c)))) (A2 m c)) slices_S2x8192x5168_S2x8192x256_0_0_1792) shapeCasts_S2x8192x256_S16384x4x64) transposes_S16384x4x64_S4x16384x64_1_0_2)⟩] concatenates_S4x16384x64_S4x16384x64_S8x16384x64_d0) bitsLt_bf16_f32

theorem kvc_at (c : Dev nD) (g : Fin 8) (r : Fin 16384) (d : Fin 64) :
    kvc m c (ix3 g r d) = Cert.Inproj.proj (fun q => A0 m c (ix3 ⟨r.val / 8192, by omega⟩ ⟨r.val % 8192, by omega⟩ q)) (fun q => A1 m c (ix1 q)) (fun k l => A2 m c (ix2 k l)) (1536 + (g.val * 64 + d.val)) := by
  unfold kvc
  pointwise
  unfold Cert.Inproj.proj
  by_cases h : g.val < 4
  · simp only [dif_pos h]
    exact Finset.sum_congr rfl fun k _ => congrArg₂ (· * ·) rfl (Cert.Inproj.laid_a (fun l => A2 m c (ix2 k l)) _ (by omega)).symm
  · simp only [dif_neg h]
    exact Finset.sum_congr rfl fun k _ => congrArg₂ (· * ·) rfl ((congrArg (A2 m c) (congrArg (ix2 k) (Fin.ext (by dsimp only; omega)))).trans
      (Cert.Inproj.laid_a (fun l => A2 m c (ix2 k l)) (1536 + (g.val * 64 + d.val)) (by omega)).symm)

end Cert.Reference2Ideal.Inproj
-- ==== Proof.InProj.lean ====
module

public import proofs.«01_k».proof.Defs
public import proofs.«01_k».proof.Proof.InOut
public import proofs.«01_k».proof.Proof.InRef

@[expose] public section

set_option maxRecDepth 16384
/- The value claim about the input projection: the kernel's two result arrays and the reference's are the same functions of the arguments. -/
noncomputable section
open Idealize.ShloMosaic Idealize.ShloMosaic.TcCoe Idealize.SL.Sem
namespace Cert.Inproj

theorem algebraic : Cert.algebraic_Kernel2Ideal_Reference2Ideal (hKernel2Ideal := Cert.Kernel2Ideal.Gen.facts) (hReference2Ideal := Cert.Reference2Ideal.Gen.facts) :=
  fun m ρ m' ρ' _ hag => ⟨fun c j => Cert.Kernel2Ideal.Inproj.G5 m c j, fun c j => Cert.Kernel2Ideal.Inproj.G6 m c j,
    (θ_run _ _ _).mono (fun _ h c => ⟨(h c).1.trans (Cert.Kernel2Ideal.Inproj.final5 m c), (h c).2.1.trans (Cert.Kernel2Ideal.Inproj.final6 m c), (h c).2.2⟩)
      (Cert.Kernel2Ideal.Value.run_blocks (F := Ideal) m ρ),
    (θ_run _ _ _).mono (fun _ h c => by
      obtain ⟨h0, h1, h2⟩ := hag c
      have e0 : Cert.Reference2Ideal.Inproj.A0 m' c = Cert.Kernel2Ideal.Inproj.A0 m c := h0
      have e1 : Cert.Reference2Ideal.Inproj.A1 m' c = Cert.Kernel2Ideal.Inproj.A1 m c := h1
      have e2 : Cert.Reference2Ideal.Inproj.A2 m' c = Cert.Kernel2Ideal.Inproj.A2 m c := h2
      refine ⟨(h c).1.trans (funext fun j => ?_), (h c).2.1.trans (funext fun j => ?_), (h c).2.2⟩
      · have hj : j = ix2 (⟨(j 0).val, (j 0).isLt⟩ : Fin 16384) (⟨(j 1).val, (j 1).isLt⟩ : Fin 5248) := eq_ix2 j
        refine (congrArg _ hj).trans ((Cert.Reference2Ideal.Inproj.out_at m' c _ _).trans ?_)
        rw [e0, e1, e2]
        rfl
      · have hj : j = ix3 (⟨(j 0).val, (j 0).isLt⟩ : Fin 8) (⟨(j 1).val, (j 1).isLt⟩ : Fin 16384) (⟨(j 2).val, (j 2).isLt⟩ : Fin 64) := eq_ix3 j
        refine (congrArg _ hj).trans ((Cert.Reference2Ideal.Inproj.kvc_at m' c _ _ _).trans ?_)
        rw [e0, e1, e2]
        rfl) (Cert.Reference2Ideal.Value.run (F := Ideal) m' ρ')⟩

end Cert.Inproj
-- ==== Proof.CmpSpec.lean ====
module

public import proofs.«01_k».proof.Proof.Spec

@[expose] public section

set_option maxRecDepth 16384
/- The compression of one group's keys or values, over the extended reals: a token's block of 32 rows plus the position's
   rows, flattened, through a two-layer perceptron. The last block goes on at the sequence's start. -/
noncomputable section
open Idealize.ShloMosaic
namespace Cert.Compress

/-- Entry `q` of compressed token `n`'s flattened block. -/
def blk (x : Fin 8192 → Fin 64 → EReal) (n : Fin 512) (q : Fin 2048) : EReal :=
  x ⟨(n.val * 16 + q.val / 64) % 8192, by omega⟩ ⟨q.val % 64, by omega⟩

/-- Entry `j` of the hidden layer before its activation. -/
def hid (x : Fin 8192 → Fin 64 → EReal) (pe : Fin 32 → Fin 64 → EReal) (w : Fin 2048 → Fin 256 → EReal) (b : Fin 256 → EReal) (n : Fin 512) (j : Fin 256) : EReal :=
  (∑ q : Fin 2048, (blk x n q + pe ⟨q.val / 64, by omega⟩ ⟨q.val % 64, by omega⟩) * w q j) + b j

/-- A value that is neither infinity. -/
def Fin' (a : EReal) : Prop := a ≠ ⊤ ∧ a ≠ ⊥

theorem distrib {a p w : EReal} (ha : Fin' a) (hw : Fin' w) : (a + p) * w = a * w + p * w := by
  lift a to ℝ using ha
  lift w to ℝ using hw
  induction p using EReal.rec with
  | coe p => rw [← EReal.coe_add, ← EReal.coe_mul, ← EReal.coe_mul, ← EReal.coe_mul, ← EReal.coe_add, add_mul]
  | top =>
    rw [EReal.coe_add_top, ← EReal.coe_mul]
    rcases lt_trichotomy w 0 with h | h | h
    · rw [EReal.top_mul_coe_of_neg h, EReal.add_bot]
    · simp [h]
    · rw [EReal.top_mul_coe_of_pos h, EReal.coe_add_top]
  | bot =>
    rw [EReal.add_bot, ← EReal.coe_mul]
    rcases lt_trichotomy w 0 with h | h | h
    · rw [EReal.bot_mul_coe_of_neg h, EReal.coe_add_top]
    · simp [h]
    · rw [EReal.bot_mul_coe_of_pos h, EReal.add_bot]

/-- Block `n`'s 16 rows through the first half of the first layer's matrix. -/
def top (x : Fin 8192 → Fin 64 → EReal) (w : Fin 2048 → Fin 256 → EReal) (n : Fin 512) (j : Fin 256) : EReal :=
  ∑ q : Fin 1024, x ⟨n.val * 16 + q.val / 64, by omega⟩ ⟨q.val % 64, by omega⟩ * w ⟨q.val, by omega⟩ j
/-- Block `n`'s 16 rows through the second half. -/
def bot (x : Fin 8192 → Fin 64 → EReal) (w : Fin 2048 → Fin 256 → EReal) (n : Fin 512) (j : Fin 256) : EReal :=
  ∑ q : Fin 1024, x ⟨n.val * 16 + q.val / 64, by omega⟩ ⟨q.val % 64, by omega⟩ * w ⟨1024 + q.val, by omega⟩ j

/-- The block's two halves and the position's part summed apart. -/
theorem hid_split (x : Fin 8192 → Fin 64 → EReal) (pe : Fin 32 → Fin 64 → EReal) (w : Fin 2048 → Fin 256 → EReal) (b : Fin 256 → EReal) (n n' : Fin 512) (j : Fin 256)
    (hn : n'.val = (n.val + 1) % 512) (hx : ∀ i d, Fin' (x i d)) (hw : ∀ q j, Fin' (w q j)) :
    (top x w n j + bot x w n' j) + ((∑ q : Fin 2048, pe ⟨q.val / 64, by omega⟩ ⟨q.val % 64, by omega⟩ * w q j) + b j) = hid x pe w b n j := by
  have e : hid x pe w b n j = (∑ q : Fin 2048, (blk x n q * w q j + pe ⟨q.val / 64, by omega⟩ ⟨q.val % 64, by omega⟩ * w q j)) + b j :=
    congrArg (· + b j) (Finset.sum_congr rfl fun q _ => distrib (hx _ _) (hw q j))
  rw [e, Finset.sum_add_distrib, ← add_assoc]
  refine congrArg (· + b j) (congrArg (· + _) ?_)
  refine Eq.trans ?_ (Fin.sum_univ_add (a := 1024) (b := 1024) (fun q : Fin 2048 => blk x n q * w q j)).symm
  unfold blk top bot
  refine congrArg₂ (· + ·) ?_ ?_
  · refine Finset.sum_congr rfl fun q _ => ?_
    refine congrArg₂ (· * ·) (congrArg₂ x (Fin.ext ?_) (Fin.ext ?_)) (congrArg₂ w (Fin.ext ?_) rfl)
    · simp only [Fin.val_castAdd]; omega
    · simp only [Fin.val_castAdd]
    · simp only [Fin.val_castAdd]
  · refine Finset.sum_congr rfl fun q _ => ?_
    refine congrArg₂ (· * ·) (congrArg₂ x (Fin.ext ?_) (Fin.ext ?_)) (congrArg₂ w (Fin.ext ?_) rfl)
    · simp only [Fin.val_natAdd]; omega
    · simp only [Fin.val_natAdd]; omega
    · simp only [Fin.val_natAdd]

/-- The activation (the tangent's approximation of the Gaussian error linear unit). -/
def gelu (h : EReal) : EReal :=
  h * (Ideal.ofBits .f32 0x3F000000#32 * (1 + Ideal.tanh (Ideal.ofBits .f32 0x3F4C422A#32 * (h + Ideal.ofBits .f32 0x3D372713#32 * (h * h * h)))))

/-- Entry `d` of compressed token `n`. -/
def token (x : Fin 8192 → Fin 64 → EReal) (pe : Fin 32 → Fin 64 → EReal) (w : Fin 2048 → Fin 256 → EReal) (b : Fin 256 → EReal) (w2 : Fin 256 → Fin 64 → EReal) (n : Fin 512) (d : Fin 64) : EReal :=
  ∑ j : Fin 256, gelu (hid x pe w b n j) * w2 j d

end Cert.Compress
-- ==== Proof.CmpBody.lean ====
module

public import proofs.«01_k».proof.Proof.Gen.Kernel3Ideal.Skeleton
public import proofs.«01_k».proof.Proof.CmpSpec
public import Idealize.ShloMosaic.Lib.Claim
public import Idealize.ShloMosaic.Lib.Pointwise

@[expose] public section

set_option maxRecDepth 16384
/- One half of the compression's body (the keys' or the values'), as a function of the blocks it reads. -/
noncomputable section
open Idealize.ShloMosaic Idealize.ShloMosaic.TcCoe Idealize.SL.Sem
namespace Cert.Kernel3Ideal.Compress
open Cert.Kernel3Ideal Cert.Kernel3Ideal.Gen

/-- One product of 128 rows with half of the first layer's matrix. -/
def mm (X : Vec Ideal S1x1x128x1024 .bf16) (W : Vec Ideal S1024x256 .bf16) : FVec Ideal S128x256 .f32 :=
  matmul (φ₁ := .bf16) (φ₂ := .bf16) dot_S128x1024_S1024x256_S128x256_1_0_0_1_n_n none (shapeCast S128x1024 X shapeCasts_S1x1x128x1024_S128x1024) (shapeCast S1024x256 W shapeCasts_S1024x256_S1024x256) (constant S128x256 .f32 0x00000000#32)

/-- The hidden layer before its activation. -/
def pre (X0 X1 X2 X3 : Vec Ideal S1x1x128x1024 .bf16) (Wt Wb : Vec Ideal S1024x256 .bf16) (pe : Vec Ideal S8x2048 .bf16) (W : Vec Ideal S2048x256 .bf16) (b : Vec Ideal S1x256 .f32) : FVec Ideal S512x256 .f32 :=
  addf (concatenate S512x256 0 [⟨S128x256, addf (mm X0 Wt) (mm X1 Wb)⟩, ⟨S128x256, addf (mm X1 Wt) (mm X2 Wb)⟩, ⟨S128x256, addf (mm X2 Wt) (mm X3 Wb)⟩,
      ⟨S128x256, addf (mm X3 Wt) (dynamicRotate 0 127#32 none (mm X0 Wb) rotates_S128x256_d0)⟩] concatenates_S128x256_S128x256_S128x256_S128x256_S512x256_d0)
    (broadcastTo S512x256 (addf (extractStridedSlice S1x256 ![0, 0] (matmul (φ₁ := .bf16) (φ₂ := .bf16) dot_S8x2048_S2048x256_S8x256_1_0_0_1_n_n none (shapeCast S8x2048 pe shapeCasts_S8x2048_S8x2048)
      (shapeCast S2048x256 W shapeCasts_S2048x256_S2048x256) (constant S8x256 .f32 0x00000000#32)) slices_S8x256_o0_0_S1x256) (shapeCast S1x256 b shapeCasts_S1x256_S1x256)) broadcasts_S1x256_S512x256)

/-- The activation of an array. -/
def gl (h : FVec Ideal S512x256 .f32) : FVec Ideal S512x256 .bf16 :=
  truncf .bf16 (mulf (mulf (broadcast S512x256 (Scalar.ofBits .f32 0x3F000000#32)) h) (addf (broadcast S512x256 (Scalar.ofBits .f32 0x3F800000#32)) (tanh (mulf (broadcast S512x256 (Scalar.ofBits .f32 0x3F4C422A#32))
    (addf h (mulf (broadcast S512x256 (Scalar.ofBits .f32 0x3D372713#32)) (mulf (mulf h h) h))))))) bitsLt_bf16_f32

theorem pay13_eq (X0 X1 X2 X3 : Vec Ideal S1x1x128x1024 .bf16) (Wt Wb : Vec Ideal S1024x256 .bf16) (pe : Vec Ideal S8x2048 .bf16) (W : Vec Ideal S2048x256 .bf16) (b : Vec Ideal S1x256 .f32) :
    k0_pay13 (k0_pay4 X1) (k0_pay5 X2) (k0_pay6 X3) (k0_pay7 X0 Wt) (k0_pay8 X1 Wt) (k0_pay9 X2 Wt) (k0_pay10 X3 Wt) (k0_pay11 X0 Wb) (k0_pay12 Wb) Wb Wb pe W b = gl (pre X0 X1 X2 X3 Wt Wb pe W b) := rfl
theorem pay24_eq (X0 X1 X2 X3 : Vec Ideal S1x1x128x1024 .bf16) (Wt Wb : Vec Ideal S1024x256 .bf16) (pe : Vec Ideal S8x2048 .bf16) (W : Vec Ideal S2048x256 .bf16) (b : Vec Ideal S1x256 .f32) :
    k0_pay24 (k0_pay16 X1) (k0_pay17 X2) (k0_pay18 X3) (k0_pay19 X0 Wt) (k0_pay20 X1 Wt) (k0_pay21 X2 Wt) (k0_pay22 X3 Wt) (k0_pay23 X0 Wb) Wb Wb Wb pe W b = gl (pre X0 X1 X2 X3 Wt Wb pe W b) := rfl

theorem mm_at (X : Vec Ideal S1x1x128x1024 .bf16) (W : Vec Ideal S1024x256 .bf16) (s : Fin 128) (j : Fin 256) :
    mm X W (ix2 s j) = ∑ q : Fin 1024, X (ix4 0 0 s q) * W (ix2 q j) := by
  pointwise [mm]

theorem gl_at (h : FVec Ideal S512x256 .f32) (R : Fin 512) (j : Fin 256) :
    gl h (ix2 R j) = Cert.Compress.gelu (h (ix2 R j)) := by
  pointwise [gl]
  unfold Cert.Compress.gelu
  change @Eq EReal _ _
  rw [mul_comm (Ideal.ofBits .f32 0x3F000000#32) (h (ix2 R j)), mul_assoc]

theorem mm_top (X : Vec Ideal S1x1x128x1024 .bf16) (W : Vec Ideal S1024x256 .bf16) (x : Fin 8192 → Fin 64 → EReal) (w : Fin 2048 → Fin 256 → EReal) (s : Fin 128) (j : Fin 256) (n : Fin 512)
    (hX : ∀ q : Fin 1024, X (ix4 0 0 s q) = x ⟨n.val * 16 + q.val / 64, by omega⟩ ⟨q.val % 64, by omega⟩) (hW : ∀ q : Fin 1024, W (ix2 q j) = w ⟨q.val, by omega⟩ j) :
    mm X W (ix2 s j) = Cert.Compress.top x w n j :=
  (mm_at X W s j).trans (Finset.sum_congr rfl fun q _ => congrArg₂ (· * ·) (hX q) (hW q))
theorem mm_bot (X : Vec Ideal S1x1x128x1024 .bf16) (W : Vec Ideal S1024x256 .bf16) (x : Fin 8192 → Fin 64 → EReal) (w : Fin 2048 → Fin 256 → EReal) (s : Fin 128) (j : Fin 256) (n : Fin 512)
    (hX : ∀ q : Fin 1024, X (ix4 0 0 s q) = x ⟨n.val * 16 + q.val / 64, by omega⟩ ⟨q.val % 64, by omega⟩) (hW : ∀ q : Fin 1024, W (ix2 q j) = w ⟨1024 + q.val, by omega⟩ j) :
    mm X W (ix2 s j) = Cert.Compress.bot x w n j :=
  (mm_at X W s j).trans (Finset.sum_congr rfl fun q _ => congrArg₂ (· * ·) (hX q) (hW q))

/-- What a half of the body reads: the four column pieces of the rows, the two halves of the first matrix, and the rest. -/
structure Reads (x : Fin 8192 → Fin 64 → EReal) (pf : Fin 32 → Fin 64 → EReal) (w : Fin 2048 → Fin 256 → EReal) (bf : Fin 256 → EReal)
    (X0 X1 X2 X3 : Vec Ideal S1x1x128x1024 .bf16) (Wt Wb : Vec Ideal S1024x256 .bf16) (pe : Vec Ideal S8x2048 .bf16) (W : Vec Ideal S2048x256 .bf16) (b : Vec Ideal S1x256 .f32) : Prop where
  r0 : ∀ (s : Fin 128) (q : Fin 1024), X0 (ix4 0 0 s q) = x ⟨(4 * s.val) * 16 + q.val / 64, by omega⟩ ⟨q.val % 64, by omega⟩
  r1 : ∀ (s : Fin 128) (q : Fin 1024), X1 (ix4 0 0 s q) = x ⟨(4 * s.val + 1) * 16 + q.val / 64, by omega⟩ ⟨q.val % 64, by omega⟩
  r2 : ∀ (s : Fin 128) (q : Fin 1024), X2 (ix4 0 0 s q) = x ⟨(4 * s.val + 2) * 16 + q.val / 64, by omega⟩ ⟨q.val % 64, by omega⟩
  r3 : ∀ (s : Fin 128) (q : Fin 1024), X3 (ix4 0 0 s q) = x ⟨(4 * s.val + 3) * 16 + q.val / 64, by omega⟩ ⟨q.val % 64, by omega⟩
  wt : ∀ (q : Fin 1024) (j : Fin 256), Wt (ix2 q j) = w ⟨q.val, by omega⟩ j
  wb : ∀ (q : Fin 1024) (j : Fin 256), Wb (ix2 q j) = w ⟨1024 + q.val, by omega⟩ j
  ws : ∀ (q : Fin 2048) (j : Fin 256), W (ix2 q j) = w q j
  ps : ∀ q : Fin 2048, pe (ix2 0 q) = pf ⟨q.val / 64, by omega⟩ ⟨q.val % 64, by omega⟩
  bs : ∀ j : Fin 256, b (ix2 0 j) = bf j

/-- Row `R` of the body's 512 holds compressed token `4 · (R mod 128) + R / 128`. -/
def tok (R : Fin 512) : Fin 512 := ⟨4 * (R.val % 128) + R.val / 128, by omega⟩

theorem pre_at {x : Fin 8192 → Fin 64 → EReal} {pf : Fin 32 → Fin 64 → EReal} {w : Fin 2048 → Fin 256 → EReal} {bf : Fin 256 → EReal}
    {X0 X1 X2 X3 : Vec Ideal S1x1x128x1024 .bf16} {Wt Wb : Vec Ideal S1024x256 .bf16} {pe : Vec Ideal S8x2048 .bf16} {W : Vec Ideal S2048x256 .bf16} {b : Vec Ideal S1x256 .f32}
    (rd : Reads x pf w bf X0 X1 X2 X3 Wt Wb pe W b)
    (hx : ∀ i d, Cert.Compress.Fin' (x i d)) (hw : ∀ q j, Cert.Compress.Fin' (w q j)) (R : Fin 512) (j : Fin 256) :
    pre X0 X1 X2 X3 Wt Wb pe W b (ix2 R j) = Cert.Compress.hid x pf w bf (tok R) j := by
  pointwise [pre]
  change @Eq EReal _ _
  refine Eq.trans ?_ (Cert.Compress.hid_split x pf w bf (tok R) ⟨((tok R).val + 1) % 512, by omega⟩ j rfl hx hw)
  refine congrArg₂ (· + ·) ?_ (congrArg₂ (· + ·) (Finset.sum_congr rfl fun q _ => congrArg₂ (· * ·) (rd.ps q) (rd.ws q j)) (rd.bs j))
  unfold tok
  by_cases h1 : R.val < 128
  · simp only [dif_pos h1]
    have q1 : R.val / 128 = 0 := by omega
    have e : (4 * (R.val % 128) + R.val / 128 + 1) % 512 = 4 * R.val + 1 := by omega
    exact congrArg₂ (· + ·) (mm_top X0 Wt x w _ j _ (fun q => (rd.r0 _ q).trans (congrArg₂ x (Fin.ext (by dsimp only; omega)) rfl)) (fun q => rd.wt q j))
      (mm_bot X1 Wb x w _ j _ (fun q => (rd.r1 _ q).trans (congrArg₂ x (Fin.ext (by dsimp only; omega)) rfl)) (fun q => rd.wb q j))
  · by_cases h2 : R.val - 128 < 128
    · simp only [dif_neg h1, dif_pos h2]
      have q1 : R.val / 128 = 1 := by omega
      have e : (4 * (R.val % 128) + R.val / 128 + 1) % 512 = 4 * (R.val - 128) + 2 := by omega
      exact congrArg₂ (· + ·) (mm_top X1 Wt x w _ j _ (fun q => (rd.r1 _ q).trans (congrArg₂ x (Fin.ext (by dsimp only; omega)) rfl)) (fun q => rd.wt q j))
        (mm_bot X2 Wb x w _ j _ (fun q => (rd.r2 _ q).trans (congrArg₂ x (Fin.ext (by dsimp only; omega)) rfl)) (fun q => rd.wb q j))
    · by_cases h3 : R.val - 128 - 128 < 128
      · simp only [dif_neg h1, dif_neg h2, dif_pos h3]
        have q1 : R.val / 128 = 2 := by omega
        have e : (4 * (R.val % 128) + R.val / 128 + 1) % 512 = 4 * (R.val - 128 - 128) + 3 := by omega
        exact congrArg₂ (· + ·) (mm_top X2 Wt x w _ j _ (fun q => (rd.r2 _ q).trans (congrArg₂ x (Fin.ext (by dsimp only; omega)) rfl)) (fun q => rd.wt q j))
          (mm_bot X3 Wb x w _ j _ (fun q => (rd.r3 _ q).trans (congrArg₂ x (Fin.ext (by dsimp only; omega)) rfl)) (fun q => rd.wb q j))
      · simp only [dif_neg h1, dif_neg h2, dif_neg h3]
        have q1 : R.val / 128 = 3 := by omega
        have e : (4 * (R.val % 128) + R.val / 128 + 1) % 512 = 4 * ((R.val - 128 - 128 - 128 + 128 - 127) % 128) := by omega
        exact congrArg₂ (· + ·) (mm_top X3 Wt x w _ j _ (fun q => (rd.r3 _ q).trans (congrArg₂ x (Fin.ext (by dsimp only; omega)) rfl)) (fun q => rd.wt q j))
          (mm_bot X0 Wb x w _ j _ (fun q => (rd.r0 _ q).trans (congrArg₂ x (Fin.ext (by dsimp only; omega)) rfl)) (fun q => rd.wb q j))

/-- The second layer's product, as both halves of the body write it. -/
theorem tok_at {x : Fin 8192 → Fin 64 → EReal} {pf : Fin 32 → Fin 64 → EReal} {w : Fin 2048 → Fin 256 → EReal} {bf : Fin 256 → EReal} {w2 : Fin 256 → Fin 64 → EReal}
    {X0 X1 X2 X3 : Vec Ideal S1x1x128x1024 .bf16} {Wt Wb : Vec Ideal S1024x256 .bf16} {pe : Vec Ideal S8x2048 .bf16} {W : Vec Ideal S2048x256 .bf16} {b : Vec Ideal S1x256 .f32} {W2 : Vec Ideal S256x64 .bf16}
    (rd : Reads x pf w bf X0 X1 X2 X3 Wt Wb pe W b) (h2 : ∀ j d, W2 (ix2 j d) = w2 j d)
    (hx : ∀ i d, Cert.Compress.Fin' (x i d)) (hw : ∀ q j, Cert.Compress.Fin' (w q j)) (R : Fin 512) (d : Fin 64) :
    k0_pay14 (F := Ideal) (gl (pre X0 X1 X2 X3 Wt Wb pe W b)) W2 (ix2 R d) = Cert.Compress.token x pf w bf w2 (tok R) d := by
  pointwise [k0_pay14]
  unfold Cert.Compress.token
  change @Eq EReal _ _
  exact Finset.sum_congr rfl fun j _ => congrArg₂ (· * ·) ((gl_at _ R j).trans (congrArg Cert.Compress.gelu (pre_at rd hx hw R j))) (h2 j d)

/-- The keys' piece of the result: the scaled tokens, then zeros. -/
theorem pay1_at (T : FVec Ideal S512x64 .f32) (R : Fin 512) (d : Fin 128) :
    k0_pay1 T (ix4 0 0 R d) = if h : d.val < 64 then T (ix2 R ⟨d.val, h⟩) * Ideal.ofBits .f32 0x3E38AA3B#32 else 0 := by
  pointwise [k0_pay1]

/-- The values' piece of the result: the second product, transposed. -/
theorem pay2_at (T : FVec Ideal S512x64 .f32) (h : FVec Ideal S512x256 .bf16) (W2 : Vec Ideal S256x64 .bf16) (R : Fin 512) (d : Fin 64) :
    k0_pay2 T h W2 (ix4 0 0 d R) = k0_pay14 (F := Ideal) h W2 (ix2 R d) := by
  pointwise [k0_pay2, k0_pay14]

end Cert.Kernel3Ideal.Compress
-- ==== Proof.CmpRead.lean ====
module

public import proofs.«01_k».proof.Proof.Gen.Kernel3Ideal.Value
public import proofs.«01_k».proof.Proof.CmpBody
public import Idealize.ShloMosaic.Lib.Pipeline.ValueKit

@[expose] public section

set_option maxRecDepth 16384
/- The blocks the compression's body reads at one grid point, as elements of the arguments. -/
noncomputable section
open Idealize.ShloMosaic Idealize.ShloMosaic.TcCoe Idealize.SL.Sem
open Idealize.ShloMosaic.Pipeline (Dat)
namespace Cert.Kernel3Ideal.Compress
open Cert.Kernel3Ideal Cert.Kernel3Ideal.Gen
variable (m : (ℓ : Loc nD τ sig) → Buf (Elt Ideal) ℓ)

/-- Each window's block index at grid point `t`. -/
theorem idx : ∀ t : Fin cfg0.N, win0_0.index t = ![t.val % 4, t.val / 4, 0, 0] ∧ win0_1.index t = ![4 + t.val % 4, t.val / 4, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val / 4, t.val % 4, 0, 0] ∧ win0_11.index t = ![t.val / 4, t.val % 4, 0, 0] :=
  (by decide +kernel : ∀ t : Fin grid0.N, _)

theorem N8 : cfg0.N = 8 := by decide +kernel

abbrev A0 (c : Dev nD) : FVec Ideal S8x16384x64 .bf16 := m ((c : Thread nD τ).loc main_arg0)
abbrev A1 (c : Dev nD) : FVec Ideal S32x64 .f32 := m ((c : Thread nD τ).loc main_arg1)
abbrev A2 (c : Dev nD) : FVec Ideal S2048x256 .f32 := m ((c : Thread nD τ).loc main_arg2)
abbrev A3 (c : Dev nD) : FVec Ideal S256 .f32 := m ((c : Thread nD τ).loc main_arg3)
abbrev A4 (c : Dev nD) : FVec Ideal S256x64 .f32 := m ((c : Thread nD τ).loc main_arg4)
abbrev A5 (c : Dev nD) : FVec Ideal S32x64 .f32 := m ((c : Thread nD τ).loc main_arg5)
abbrev A6 (c : Dev nD) : FVec Ideal S2048x256 .f32 := m ((c : Thread nD τ).loc main_arg6)
abbrev A7 (c : Dev nD) : FVec Ideal S256 .f32 := m ((c : Thread nD τ).loc main_arg7)
abbrev A8 (c : Dev nD) : FVec Ideal S256x64 .f32 := m ((c : Thread nD τ).loc main_arg8)

theorem V0 (c : Dev nD) : V m c main_v0 = shapeCast S8x2x128x4096 (A0 m c) shapeCasts_S8x16384x64_S8x2x128x4096 := rfl
theorem V3 (c : Dev nD) : V m c main_v3 = truncf .bf16 (broadcastInDim S8x2048 ![0, 1] bcast_S1x2048_S8x2048_0_1 (shapeCast S1x2048 (A1 m c) shapeCasts_S32x64_S1x2048)) bitsLt_bf16_f32 := rfl
theorem V4 (c : Dev nD) : V m c main_v4 = truncf .bf16 (A2 m c) bitsLt_bf16_f32 := rfl
theorem V5 (c : Dev nD) : V m c main_v5 = shapeCast S1x256 (A3 m c) shapeCasts_S256_S1x256 := rfl
theorem V6 (c : Dev nD) : V m c main_v6 = truncf .bf16 (A4 m c) bitsLt_bf16_f32 := rfl
theorem V9 (c : Dev nD) : V m c main_v9 = truncf .bf16 (broadcastInDim S8x2048 ![0, 1] bcast_S1x2048_S8x2048_0_1 (shapeCast S1x2048 (A5 m c) shapeCasts_S32x64_S1x2048)) bitsLt_bf16_f32 := rfl
theorem V10 (c : Dev nD) : V m c main_v10 = truncf .bf16 (A6 m c) bitsLt_bf16_f32 := rfl
theorem V11 (c : Dev nD) : V m c main_v11 = shapeCast S1x256 (A7 m c) shapeCasts_S256_S1x256 := rfl
theorem V12 (c : Dev nD) : V m c main_v12 = truncf .bf16 (A8 m c) bitsLt_bf16_f32 := rfl

/-- Row `p` of batch `e` of group `g`. -/
def xs (c : Dev nD) (g : Fin 8) (e : Fin 2) (p : Fin 8192) (d : Fin 64) : EReal := A0 m c (ix3 g ⟨e.val * 8192 + p.val, by omega⟩ d)

theorem b0_at (c : Dev nD) (t : Fin cfg0.N) (ht : t.val < 8) (s : Fin 128) (k : Fin 4096) :
    iblk m c 0 t (ix4 0 0 s k) = xs m c ⟨t.val % 4, by omega⟩ ⟨t.val / 4, by omega⟩ ⟨s.val * 64 + k.val / 64, by omega⟩ ⟨k.val % 64, by omega⟩ := by
  blk_simp [iblk, idx t]
  refine (congrFun (V0 m c) _).trans ?_
  pointwise
  unfold xs
  refine congrArg (m ((c : Thread nD τ).loc main_arg0)) ?_
  blk_ext [idx t]
theorem b1_at (c : Dev nD) (t : Fin cfg0.N) (ht : t.val < 8) (s : Fin 128) (k : Fin 4096) :
    iblk m c 1 t (ix4 0 0 s k) = xs m c ⟨4 + t.val % 4, by omega⟩ ⟨t.val / 4, by omega⟩ ⟨s.val * 64 + k.val / 64, by omega⟩ ⟨k.val % 64, by omega⟩ := by
  blk_simp [iblk, idx t]
  refine (congrFun (V0 m c) _).trans ?_
  pointwise
  unfold xs
  refine congrArg (m ((c : Thread nD τ).loc main_arg0)) ?_
  blk_ext [idx t]
theorem b2_at (c : Dev nD) (t : Fin cfg0.N) (q : Fin 2048) : iblk m c 2 t (ix2 0 q) = A1 m c (ix2 ⟨q.val / 64, by omega⟩ ⟨q.val % 64, by omega⟩) := by
  blk_simp [iblk, idx t]
  refine (congrFun (V3 m c) _).trans ?_
  pointwise
  refine congrArg (m ((c : Thread nD τ).loc main_arg1)) ?_
  blk_ext [idx t]
theorem b3_at (c : Dev nD) (t : Fin cfg0.N) (q : Fin 2048) (j : Fin 256) : iblk m c 3 t (ix2 q j) = A2 m c (ix2 q j) := by
  blk_simp [iblk, idx t]
  refine (congrFun (V4 m c) _).trans ?_
  pointwise
  refine congrArg (m ((c : Thread nD τ).loc main_arg2)) ?_
  blk_ext [idx t]
theorem b4_at (c : Dev nD) (t : Fin cfg0.N) (j : Fin 256) : iblk m c 4 t (ix2 0 j) = A3 m c (ix1 j) := by
  blk_simp [iblk, idx t]
  refine (congrFun (V5 m c) _).trans ?_
  pointwise
  refine congrArg (m ((c : Thread nD τ).loc main_arg3)) ?_
  blk_ext [idx t]
theorem b5_at (c : Dev nD) (t : Fin cfg0.N) (j : Fin 256) (d : Fin 64) : iblk m c 5 t (ix2 j d) = A4 m c (ix2 j d) := by
  blk_simp [iblk, idx t]
  refine (congrFun (V6 m c) _).trans ?_
  pointwise
  refine congrArg (m ((c : Thread nD τ).loc main_arg4)) ?_
  blk_ext [idx t]
theorem b6_at (c : Dev nD) (t : Fin cfg0.N) (q : Fin 2048) : iblk m c 6 t (ix2 0 q) = A5 m c (ix2 ⟨q.val / 64, by omega⟩ ⟨q.val % 64, by omega⟩) := by
  blk_simp [iblk, idx t]
  refine (congrFun (V9 m c) _).trans ?_
  pointwise
  refine congrArg (m ((c : Thread nD τ).loc main_arg5)) ?_
  blk_ext [idx t]
theorem b7_at (c : Dev nD) (t : Fin cfg0.N) (q : Fin 2048) (j : Fin 256) : iblk m c 7 t (ix2 q j) = A6 m c (ix2 q j) := by
  blk_simp [iblk, idx t]
  refine (congrFun (V10 m c) _).trans ?_
  pointwise
  refine congrArg (m ((c : Thread nD τ).loc main_arg6)) ?_
  blk_ext [idx t]
theorem b8_at (c : Dev nD) (t : Fin cfg0.N) (j : Fin 256) : iblk m c 8 t (ix2 0 j) = A7 m c (ix1 j) := by
  blk_simp [iblk, idx t]
  refine (congrFun (V11 m c) _).trans ?_
  pointwise
  refine congrArg (m ((c : Thread nD τ).loc main_arg7)) ?_
  blk_ext [idx t]
theorem b9_at (c : Dev nD) (t : Fin cfg0.N) (j : Fin 256) (d : Fin 64) : iblk m c 9 t (ix2 j d) = A8 m c (ix2 j d) := by
  blk_simp [iblk, idx t]
  refine (congrFun (V12 m c) _).trans ?_
  pointwise
  refine congrArg (m ((c : Thread nD τ).loc main_arg8)) ?_
  blk_ext [idx t]

end Cert.Kernel3Ideal.Compress
-- ==== Proof.CmpBlock.lean ====
module

public import proofs.«01_k».proof.Proof.CmpRead

@[expose] public section

set_option maxRecDepth 16384
/- The compression's body over one grid point's blocks, whatever they hold. -/
noncomputable section
open Idealize.ShloMosaic Idealize.ShloMosaic.TcCoe Idealize.SL.Sem
open Idealize.ShloMosaic.Pipeline (Dat)
namespace Cert.Kernel3Ideal.Compress
open Cert.Kernel3Ideal Cert.Kernel3Ideal.Gen

theorem ld0 (b : Vec Ideal S1x1x128x4096 .bf16) (s : Fin 128) (q : Fin 1024) : View.ld b r0_0 (ix4 0 0 s q) = b (ix4 0 0 s ⟨q.val, by omega⟩) := by
  pointwise
theorem ld1 (b : Vec Ideal S1x1x128x4096 .bf16) (s : Fin 128) (q : Fin 1024) : View.ld b r0_1 (ix4 0 0 s q) = b (ix4 0 0 s ⟨1024 + q.val, by omega⟩) := by
  pointwise
theorem ld2 (b : Vec Ideal S1x1x128x4096 .bf16) (s : Fin 128) (q : Fin 1024) : View.ld b r0_2 (ix4 0 0 s q) = b (ix4 0 0 s ⟨2048 + q.val, by omega⟩) := by
  pointwise
theorem ld3 (b : Vec Ideal S1x1x128x4096 .bf16) (s : Fin 128) (q : Fin 1024) : View.ld b r0_3 (ix4 0 0 s q) = b (ix4 0 0 s ⟨3072 + q.val, by omega⟩) := by
  pointwise
theorem ld4 (b : Vec Ideal S2048x256 .bf16) (q : Fin 1024) (j : Fin 256) : View.ld b r0_4 (ix2 q j) = b (ix2 ⟨q.val, by omega⟩ j) := by
  pointwise
theorem ld5 (b : Vec Ideal S2048x256 .bf16) (q : Fin 1024) (j : Fin 256) : View.ld b r0_5 (ix2 q j) = b (ix2 ⟨1024 + q.val, by omega⟩ j) := by
  pointwise
theorem ld6 (b : Vec Ideal S8x2048 .bf16) (q : Fin 2048) : View.ld b r0_6 (ix2 0 q) = b (ix2 0 q) := by
  pointwise
theorem ld7 (b : Vec Ideal S2048x256 .bf16) (q : Fin 2048) (j : Fin 256) : View.ld b r0_7 (ix2 q j) = b (ix2 q j) := by
  pointwise
theorem ld8 (b : Vec Ideal S1x256 .f32) (j : Fin 256) : View.ld b r0_8 (ix2 0 j) = b (ix2 0 j) := by
  pointwise
theorem ld9 (b : Vec Ideal S256x64 .bf16) (j : Fin 256) (d : Fin 64) : View.ld b r0_9 (ix2 j d) = b (ix2 j d) := by
  pointwise

/-- What the loads read, of blocks that hold the arguments' elements. -/
theorem reads_of (x : Fin 8192 → Fin 64 → EReal) (pf : Fin 32 → Fin 64 → EReal) (w : Fin 2048 → Fin 256 → EReal) (bf : Fin 256 → EReal)
    (X : Vec Ideal S1x1x128x4096 .bf16) (pe : Vec Ideal S8x2048 .bf16) (W : Vec Ideal S2048x256 .bf16) (b : Vec Ideal S1x256 .f32)
    (hX : ∀ (s : Fin 128) (k : Fin 4096), X (ix4 0 0 s k) = x ⟨s.val * 64 + k.val / 64, by omega⟩ ⟨k.val % 64, by omega⟩)
    (hP : ∀ q : Fin 2048, pe (ix2 0 q) = pf ⟨q.val / 64, by omega⟩ ⟨q.val % 64, by omega⟩) (hW : ∀ q j, W (ix2 q j) = w q j) (hB : ∀ j, b (ix2 0 j) = bf j) :
    Reads x pf w bf (View.ld X r0_0) (View.ld X r0_1) (View.ld X r0_2) (View.ld X r0_3) (View.ld W r0_4) (View.ld W r0_5) (View.ld pe r0_6) (View.ld W r0_7) (View.ld b r0_8) where
  r0 s q := (ld0 X s q).trans ((hX s _).trans (congrArg₂ x (Fin.ext (by dsimp only; omega)) (Fin.ext (by dsimp only))))
  r1 s q := (ld1 X s q).trans ((hX s _).trans (congrArg₂ x (Fin.ext (by dsimp only; omega)) (Fin.ext (by dsimp only; omega))))
  r2 s q := (ld2 X s q).trans ((hX s _).trans (congrArg₂ x (Fin.ext (by dsimp only; omega)) (Fin.ext (by dsimp only; omega))))
  r3 s q := (ld3 X s q).trans ((hX s _).trans (congrArg₂ x (Fin.ext (by dsimp only; omega)) (Fin.ext (by dsimp only; omega))))
  wt q j := (ld4 W q j).trans (hW _ j)
  wb q j := (ld5 W q j).trans (hW _ j)
  ws q j := (ld7 W q j).trans (hW q j)
  ps q := (ld6 pe q).trans (hP q)
  bs j := (ld8 b j).trans (hB j)

/-- The keys' payload over the blocks. -/
theorem out10_at (x : Fin 8192 → Fin 64 → EReal) (pf : Fin 32 → Fin 64 → EReal) (w : Fin 2048 → Fin 256 → EReal) (bf : Fin 256 → EReal) (w2 : Fin 256 → Fin 64 → EReal)
    (X : Vec Ideal S1x1x128x4096 .bf16) (x1 : Vec Ideal S1x1x128x4096 .bf16) (pe : Vec Ideal S8x2048 .bf16) (W : Vec Ideal S2048x256 .bf16) (b : Vec Ideal S1x256 .f32) (W2 : Vec Ideal S256x64 .bf16)
    (x6 : Vec Ideal S8x2048 .bf16) (x7 : Vec Ideal S2048x256 .bf16) (x8 : Vec Ideal S1x256 .f32) (x9 : Vec Ideal S256x64 .bf16)
    (hX : ∀ (s : Fin 128) (k : Fin 4096), X (ix4 0 0 s k) = x ⟨s.val * 64 + k.val / 64, by omega⟩ ⟨k.val % 64, by omega⟩)
    (hP : ∀ q : Fin 2048, pe (ix2 0 q) = pf ⟨q.val / 64, by omega⟩ ⟨q.val % 64, by omega⟩) (hW : ∀ q j, W (ix2 q j) = w q j) (hB : ∀ j, b (ix2 0 j) = bf j) (h2 : ∀ j d, W2 (ix2 j d) = w2 j d)
    (fx : ∀ i d, Cert.Compress.Fin' (x i d)) (fw : ∀ q j, Cert.Compress.Fin' (w q j)) (R : Fin 512) (d : Fin 128) :
    k0_pay1 (k0_pay25 X x1 pe W b W2 x6 x7 x8 x9) (ix4 0 0 R d) = if h : d.val < 64 then Cert.Compress.token x pf w bf w2 (tok R) ⟨d.val, h⟩ * Ideal.ofBits .f32 0x3E38AA3B#32 else 0 := by
  refine (pay1_at _ _ _).trans ?_
  by_cases hd : d.val < 64
  · rw [dif_pos hd, dif_pos hd]
    refine congrArg (· * Ideal.ofBits .f32 0x3E38AA3B#32) ?_
    unfold k0_pay25
    rw [pay13_eq]
    exact tok_at (reads_of x pf w bf X pe W b hX hP hW hB) (fun j d => (ld9 W2 j d).trans (h2 j d)) fx fw _ _
  · rw [dif_neg hd, dif_neg hd]

/-- The values' payload over the blocks. -/
theorem out11_at (x : Fin 8192 → Fin 64 → EReal) (pf : Fin 32 → Fin 64 → EReal) (w : Fin 2048 → Fin 256 → EReal) (bf : Fin 256 → EReal) (w2 : Fin 256 → Fin 64 → EReal)
    (T : FVec Ideal S512x64 .f32) (X : Vec Ideal S1x1x128x4096 .bf16) (pe : Vec Ideal S8x2048 .bf16) (W : Vec Ideal S2048x256 .bf16) (b : Vec Ideal S1x256 .f32) (W2 : Vec Ideal S256x64 .bf16)
    (hX : ∀ (s : Fin 128) (k : Fin 4096), X (ix4 0 0 s k) = x ⟨s.val * 64 + k.val / 64, by omega⟩ ⟨k.val % 64, by omega⟩)
    (hP : ∀ q : Fin 2048, pe (ix2 0 q) = pf ⟨q.val / 64, by omega⟩ ⟨q.val % 64, by omega⟩) (hW : ∀ q j, W (ix2 q j) = w q j) (hB : ∀ j, b (ix2 0 j) = bf j) (h2 : ∀ j d, W2 (ix2 j d) = w2 j d)
    (fx : ∀ i d, Cert.Compress.Fin' (x i d)) (fw : ∀ q j, Cert.Compress.Fin' (w q j)) (d : Fin 64) (R : Fin 512) :
    k0_pay2 T (k0_pay24 (k0_pay16 (View.ld X r0_1)) (k0_pay17 (View.ld X r0_2)) (k0_pay18 (View.ld X r0_3)) (k0_pay19 (View.ld X r0_0) (View.ld W r0_4)) (k0_pay20 (View.ld X r0_1) (View.ld W r0_4)) (k0_pay21 (View.ld X r0_2) (View.ld W r0_4)) (k0_pay22 (View.ld X r0_3) (View.ld W r0_4)) (k0_pay23 (View.ld X r0_0) (View.ld W r0_5)) (View.ld W r0_5) (View.ld W r0_5) (View.ld W r0_5) pe W b) W2 (ix4 0 0 d R)
      = Cert.Compress.token x pf w bf w2 (tok R) d := by
  rw [pay24_eq]
  have rd := reads_of x pf w bf X pe W b hX hP hW hB
  exact (pay2_at _ _ _ _ _).trans (tok_at ⟨rd.r0, rd.r1, rd.r2, rd.r3, rd.wt, rd.wb, hW, hP, hB⟩ h2 fx fw _ _)

end Cert.Kernel3Ideal.Compress
-- ==== Proof.CmpOut.lean ====
module

public import proofs.«01_k».proof.Proof.CmpBlock

@[expose] public section

set_option maxRecDepth 16384
/- The compression's two result arrays as the specification of the argument arrays. -/
noncomputable section
open Idealize.ShloMosaic Idealize.ShloMosaic.TcCoe Idealize.SL.Sem
open Idealize.ShloMosaic.Pipeline (Dat)
namespace Cert.Kernel3Ideal.Compress
open Cert.Kernel3Ideal Cert.Kernel3Ideal.Gen
variable (m : (ℓ : Loc nD τ sig) → Buf (Elt Ideal) ℓ)

/-- The arguments that must be finite. -/
structure Finite (c : Dev nD) : Prop where
  x : ∀ g e p d, Cert.Compress.Fin' (xs m c g e p d)
  wk : ∀ q j, Cert.Compress.Fin' (A2 m c (ix2 q j))
  wv : ∀ q j, Cert.Compress.Fin' (A6 m c (ix2 q j))

/-- Entry `d` of key token `n`, and of value token `n`. -/
def KT (c : Dev nD) (e : Fin 2) (g : Fin 4) (n : Fin 512) (d : Fin 64) : EReal :=
  Cert.Compress.token (xs m c ⟨g.val, by omega⟩ e) (fun i l => A1 m c (ix2 i l)) (fun q j => A2 m c (ix2 q j)) (fun j => A3 m c (ix1 j)) (fun j l => A4 m c (ix2 j l)) n d
def VT (c : Dev nD) (e : Fin 2) (g : Fin 4) (n : Fin 512) (d : Fin 64) : EReal :=
  Cert.Compress.token (xs m c ⟨4 + g.val, by omega⟩ e) (fun i l => A5 m c (ix2 i l)) (fun q j => A6 m c (ix2 q j)) (fun j => A7 m c (ix1 j)) (fun j l => A8 m c (ix2 j l)) n d
def K4 (c : Dev nD) (e : Fin 2) (g : Fin 4) (R : Fin 512) (d : Fin 128) : EReal := if h : d.val < 64 then KT m c e g (tok R) ⟨d.val, h⟩ * Ideal.ofBits .f32 0x3E38AA3B#32 else 0
theorem K4_eq (c : Dev nD) (e : Fin 2) (g : Fin 4) (R : Fin 512) (d : Fin 128) : K4 m c e g R d = if h : d.val < 64 then KT m c e g (tok R) ⟨d.val, h⟩ * Ideal.ofBits .f32 0x3E38AA3B#32 else 0 := rfl
def V4' (c : Dev nD) (e : Fin 2) (g : Fin 4) (d : Fin 64) (R : Fin 512) : EReal := VT m c e g (tok R) d
def G10 (c : Dev nD) (j : S2x4x512x128.Idx) : EReal := K4 m c ⟨(j 0).val, (j 0).isLt⟩ ⟨(j 1).val, (j 1).isLt⟩ ⟨(j 2).val, (j 2).isLt⟩ ⟨(j 3).val, (j 3).isLt⟩
def G11 (c : Dev nD) (j : S2x4x64x512.Idx) : EReal := V4' m c ⟨(j 0).val, (j 0).isLt⟩ ⟨(j 1).val, (j 1).isLt⟩ ⟨(j 2).val, (j 2).isLt⟩ ⟨(j 3).val, (j 3).isLt⟩

set_option maxHeartbeats 800000 in
theorem final10 (c : Dev nD) (fin : Finite m c) : (dats m 0 c).arrAt 10 cfg0.N = fun j => G10 m c j := by
  refine (dats m 0 c).arrAt_eq_of_covers 10 (fun j => G10 m c j) (by decide +kernel) fun t _ y => ?_
  have ht : t.val < 8 := lt_of_lt_of_eq t.isLt N8
  have y2 : (y 2).val < 512 := (y 2).isLt
  have y3 : (y 3).val < 128 := (y 3).isLt
  have eG : G10 m c (((View.whole main_v13_0).slice (win0_10.rect t)).emb y) = K4 m c ⟨t.val / 4, by omega⟩ ⟨t.val % 4, by omega⟩ ⟨(y 2).val, y2⟩ ⟨(y 3).val, y3⟩ := by
    unfold G10
    refine congr (congr (congrArg₂ (K4 m c) (Fin.ext ?_) (Fin.ext ?_)) (Fin.ext ?_)) (Fin.ext ?_)
    · blk_simp [idx t]
    · blk_simp [idx t]
    · blk_simp [idx t]
    · blk_simp [idx t]
  have y0 : (y 0).val < 1 := (y 0).isLt
  have y1 : (y 1).val < 1 := (y 1).isLt
  have hy : y = ix4 (0 : Fin 1) (0 : Fin 1) (⟨(y 2).val, y2⟩ : Fin 512) (⟨(y 3).val, y3⟩ : Fin 128) := by
    refine (eq_ix4 y).trans ?_
    have e0 : y 0 = (0 : Fin 1) := Fin.ext (Nat.lt_one_iff.mp y0)
    have e1 : y 1 = (0 : Fin 1) := Fin.ext (Nat.lt_one_iff.mp y1)
    exact congrArg₂ (fun a b => ix4 (n0 := 1) (n1 := 1) a b (⟨(y 2).val, y2⟩ : Fin 512) (⟨(y 3).val, y3⟩ : Fin 128)) e0 e1
  blk_simp
  refine Eq.trans ?_ eG.symm
  rw [after0_10]
  frame_out
  refine (congrArg _ hy).trans ?_
  exact out10_at (xs m c ⟨t.val % 4, by omega⟩ ⟨t.val / 4, by omega⟩) (fun i l => A1 m c (ix2 i l)) (fun q j => A2 m c (ix2 q j)) (fun j => A3 m c (ix1 j)) (fun j l => A4 m c (ix2 j l))
    _ _ _ _ _ _ _ _ _ _ (b0_at m c t ht) (b2_at m c t) (b3_at m c t) (b4_at m c t) (b5_at m c t) (fun i d => fin.x _ _ i d) (fun q j => fin.wk q j) _ _

set_option maxHeartbeats 800000 in
theorem final11 (c : Dev nD) (fin : Finite m c) : (dats m 0 c).arrAt 11 cfg0.N = fun j => G11 m c j := by
  refine (dats m 0 c).arrAt_eq_of_covers 11 (fun j => G11 m c j) (by decide +kernel) fun t _ y => ?_
  have ht : t.val < 8 := lt_of_lt_of_eq t.isLt N8
  have y2 : (y 2).val < 64 := (y 2).isLt
  have y3 : (y 3).val < 512 := (y 3).isLt
  have eG : G11 m c (((View.whole main_v13_1).slice (win0_11.rect t)).emb y) = V4' m c ⟨t.val / 4, by omega⟩ ⟨t.val % 4, by omega⟩ ⟨(y 2).val, y2⟩ ⟨(y 3).val, y3⟩ := by
    unfold G11
    refine congr (congr (congrArg₂ (V4' m c) (Fin.ext ?_) (Fin.ext ?_)) (Fin.ext ?_)) (Fin.ext ?_)
    · blk_simp [idx t]
    · blk_simp [idx t]
    · blk_simp [idx t]
    · blk_simp [idx t]
  have y0 : (y 0).val < 1 := (y 0).isLt
  have y1 : (y 1).val < 1 := (y 1).isLt
  have hy : y = ix4 (0 : Fin 1) (0 : Fin 1) (⟨(y 2).val, y2⟩ : Fin 64) (⟨(y 3).val, y3⟩ : Fin 512) := by
    refine (eq_ix4 y).trans ?_
    have e0 : y 0 = (0 : Fin 1) := Fin.ext (Nat.lt_one_iff.mp y0)
    have e1 : y 1 = (0 : Fin 1) := Fin.ext (Nat.lt_one_iff.mp y1)
    exact congrArg₂ (fun a b => ix4 (n0 := 1) (n1 := 1) a b (⟨(y 2).val, y2⟩ : Fin 64) (⟨(y 3).val, y3⟩ : Fin 512)) e0 e1
  blk_simp
  refine Eq.trans ?_ eG.symm
  rw [after0_11]
  frame_out
  refine (congrArg _ hy).trans ?_
  exact out11_at (xs m c ⟨4 + t.val % 4, by omega⟩ ⟨t.val / 4, by omega⟩) (fun i l => A5 m c (ix2 i l)) (fun q j => A6 m c (ix2 q j)) (fun j => A7 m c (ix1 j)) (fun j l => A8 m c (ix2 j l))
    _ _ _ _ _ _ (b1_at m c t ht) (b6_at m c t) (b7_at m c t) (b8_at m c t) (b9_at m c t) (fun i d => fin.x _ _ i d) (fun q j => fin.wv q j) _ _

end Cert.Kernel3Ideal.Compress
-- ==== Proof.CmpRef.lean ====
module

public import proofs.«01_k».proof.Proof.Gen.Reference3Ideal.Run
public import proofs.«01_k».proof.Proof.CmpSpec
public import Idealize.ShloMosaic.Lib.Pointwise

@[expose] public section

set_option maxRecDepth 16384
/- The reference's two results of the compression, read at an index. -/
noncomputable section
open Idealize.ShloMosaic Idealize.ShloMosaic.TcCoe Idealize.SL.Sem
namespace Cert.Reference3Ideal.Compress
open Cert.Reference3Ideal Cert.Reference3Ideal.Facts₀ Cert.Reference3Ideal.Facts Cert.Reference3Ideal.Value
variable (m : (ℓ : Loc nD τ sig) → Buf (Elt Ideal) ℓ)

abbrev A0 (c : Dev nD) : FVec Ideal S8x16384x64 .bf16 := m ((c.tc : Thread nD τ).loc main_arg0)
abbrev A1 (c : Dev nD) : FVec Ideal S32x64 .f32 := m ((c.tc : Thread nD τ).loc main_arg1)
abbrev A2 (c : Dev nD) : FVec Ideal S2048x256 .f32 := m ((c.tc : Thread nD τ).loc main_arg2)
abbrev A3 (c : Dev nD) : FVec Ideal S256 .f32 := m ((c.tc : Thread nD τ).loc main_arg3)
abbrev A4 (c : Dev nD) : FVec Ideal S256x64 .f32 := m ((c.tc : Thread nD τ).loc main_arg4)
abbrev A5 (c : Dev nD) : FVec Ideal S32x64 .f32 := m ((c.tc : Thread nD τ).loc main_arg5)
abbrev A6 (c : Dev nD) : FVec Ideal S2048x256 .f32 := m ((c.tc : Thread nD τ).loc main_arg6)
abbrev A7 (c : Dev nD) : FVec Ideal S256 .f32 := m ((c.tc : Thread nD τ).loc main_arg7)
abbrev A8 (c : Dev nD) : FVec Ideal S256x64 .f32 := m ((c.tc : Thread nD τ).loc main_arg8)

/-- One half of the groups, its rows sixteen at a time. -/
def half (x : FVec Ideal S4x2x8192x64 .f32) : FVec Ideal S4x2x512x16x64 .f32 := shapeCast _ x shapeCasts_S4x2x8192x64_S4x2x512x16x64
/-- The blocks of 32 rows: a piece of sixteen and the next. -/
def blocks (h : FVec Ideal S4x2x512x16x64 .f32) : FVec Ideal S4x2x512x32x64 .f32 :=
  concatenate S4x2x512x32x64 3 [⟨S4x2x512x16x64, h⟩, ⟨S4x2x512x16x64, (concatenate S4x2x512x16x64 2 [⟨S4x2x511x16x64, (extractStridedSlice S4x2x511x16x64 ![0, 0, 1, 0, 0] h slices_S4x2x512x16x64_S4x2x511x16x64_0_0_1_0_0)⟩, ⟨S4x2x1x16x64, (extractStridedSlice S4x2x1x16x64 ![0, 0, 0, 0, 0] h slices_S4x2x512x16x64_S4x2x1x16x64_0_0_0_0_0)⟩] concatenates_S4x2x511x16x64_S4x2x1x16x64_S4x2x512x16x64_d2)⟩] concatenates_S4x2x512x16x64_S4x2x512x16x64_S4x2x512x32x64_d3
/-- The blocks plus the position's rows, flattened. -/
def flat (k : FVec Ideal S4x2x512x32x64 .f32) (p : FVec Ideal S32x64 .f32) : FVec Ideal S4x2x512x2048 .f32 :=
  shapeCast _ (addf k (broadcastInDim S4x2x512x32x64 ![0, 1, 2, 3, 4] bcast_S1x1x1x32x64_S4x2x512x32x64_0_1_2_3_4 (broadcastInDim S1x1x1x32x64 ![3, 4] bcast_S32x64_S1x1x1x32x64_3_4 p))) shapeCasts_S4x2x512x32x64_S4x2x512x2048
/-- The hidden layer before its activation. -/
def hidden (f : FVec Ideal S4x2x512x2048 .f32) (w : FVec Ideal S2048x256 .f32) (b : FVec Ideal S256 .f32) : FVec Ideal S4x2x512x256 .f32 :=
  addf (Host.dotGeneral dot_S4x2x512x2048_S2048x256_S4x2x512x256_3_0_012_1_n_n none f w) (broadcastInDim S4x2x512x256 ![0, 1, 2, 3] bcast_S1x1x1x256_S4x2x512x256_0_1_2_3 (broadcastInDim S1x1x1x256 ![3] bcast_S256_S1x1x1x256_3 b))
/-- The activation. -/
def act (h : FVec Ideal S4x2x512x256 .f32) : FVec Ideal S4x2x512x256 .f32 :=
  mulf h (mulf (broadcastInDim S4x2x512x256 ![] bcast_S_S4x2x512x256 (constant S_ .f32 0x3F000000#32)) (addf (broadcastInDim S4x2x512x256 ![] bcast_S_S4x2x512x256 (constant S_ .f32 0x3F800000#32)) (Host.tanh (mulf (broadcastInDim S4x2x512x256 ![] bcast_S_S4x2x512x256 (constant S_ .f32 0x3F4C422A#32)) (addf h (mulf (broadcastInDim S4x2x512x256 ![] bcast_S_S4x2x512x256 (constant S_ .f32 0x3D372713#32)) (mulf (mulf h h) h)))))))
/-- The second layer's product. -/
def second (a : FVec Ideal S4x2x512x256 .f32) (w2 : FVec Ideal S256x64 .f32) : FVec Ideal S4x2x512x64 .f32 := Host.dotGeneral dot_S4x2x512x256_S256x64_S4x2x512x64_3_0_012_1_n_n none a w2
/-- The keys' half and the values' half of the groups. -/
def halfK (x : FVec Ideal S8x16384x64 .bf16) : FVec Ideal S4x2x8192x64 .f32 :=
  extractStridedSlice S4x2x8192x64 ![0, 0, 0, 0] (shapeCast _ (extf .f32 x bitsLt_bf16_f32) shapeCasts_S8x16384x64_S8x2x8192x64) slices_S8x2x8192x64_S4x2x8192x64_0_0_0_0
def halfV (x : FVec Ideal S8x16384x64 .bf16) : FVec Ideal S4x2x8192x64 .f32 :=
  extractStridedSlice S4x2x8192x64 ![4, 0, 0, 0] (shapeCast _ (extf .f32 x bitsLt_bf16_f32) shapeCasts_S8x16384x64_S8x2x8192x64) slices_S8x2x8192x64_S4x2x8192x64_4_0_0_0
/-- The two results' layouts of the tokens. -/
def outK (t : FVec Ideal S4x2x512x64 .f32) : FVec Ideal S2x4x512x128 .bf16 :=
  truncf .bf16 (concatenate S2x4x512x128 3 [⟨S2x4x512x64, (mulf (shapeCast _ (transpose S2x4x4x128x64 [1, 0, 3, 2, 4] (shapeCast _ t shapeCasts_S4x2x512x64_S4x2x128x4x64) transposes_S4x2x128x4x64_S2x4x4x128x64_1_0_3_2_4) shapeCasts_S2x4x4x128x64_S2x4x512x64) (broadcastInDim S2x4x512x64 ![] bcast_S_S2x4x512x64 (constant S_ .f32 0x3E38AA3B#32)))⟩, ⟨S2x4x512x64, (broadcastInDim S2x4x512x64 ![] bcast_S_S2x4x512x64 (constant S_ .f32 0x00000000#32))⟩] concatenates_S2x4x512x64_S2x4x512x64_S2x4x512x128_d3) bitsLt_bf16_f32
def outV (t : FVec Ideal S4x2x512x64 .f32) : FVec Ideal S2x4x64x512 .bf16 :=
  truncf .bf16 (shapeCast _ (transpose S2x4x64x4x128 [1, 0, 4, 3, 2] (shapeCast _ t shapeCasts_S4x2x512x64_S4x2x128x4x64) transposes_S4x2x128x4x64_S2x4x64x4x128_1_0_4_3_2) shapeCasts_S2x4x64x4x128_S2x4x64x512) bitsLt_bf16_f32

theorem resK (c : Dev nD) : res_main_v68 (F := Ideal) m c = outK (second (act (hidden (flat (blocks (half (halfK (A0 m c)))) (A1 m c)) (A2 m c) (A3 m c))) (A4 m c)) := rfl
theorem resV (c : Dev nD) : res_main_v69 (F := Ideal) m c = outV (second (act (hidden (flat (blocks (half (halfV (A0 m c)))) (A5 m c)) (A6 m c) (A7 m c))) (A8 m c)) := rfl

theorem half_at (x : FVec Ideal S4x2x8192x64 .f32) (g : Fin 4) (e : Fin 2) (n : Fin 512) (i : Fin 16) (d : Fin 64) :
    half x (ix5 g e n i d) = x (ix4 g e ⟨n.val * 16 + i.val, by omega⟩ d) := by
  pointwise [half]

theorem blocks_at (x : FVec Ideal S4x2x8192x64 .f32) (g : Fin 4) (e : Fin 2) (n : Fin 512) (i : Fin 32) (d : Fin 64) :
    blocks (half x) (ix5 g e n i d) = x (ix4 g e ⟨(n.val * 16 + i.val) % 8192, by omega⟩ d) := by
  generalize hh : half x = h
  pointwise [blocks]
  subst hh
  by_cases h1 : i.val < 16
  · simp only [dif_pos h1]
    refine (half_at x g e n _ d).trans (congrArg (fun p => x (ix4 g e p d)) (Fin.ext (by dsimp only; omega)))
  · simp only [dif_neg h1]
    by_cases h2 : n.val < 511
    · simp only [dif_pos h2]
      refine (half_at x g e _ _ d).trans (congrArg (fun p => x (ix4 g e p d)) (Fin.ext (by dsimp only; omega)))
    · simp only [dif_neg h2]
      refine (half_at x g e _ _ d).trans (congrArg (fun p => x (ix4 g e p d)) (Fin.ext (by dsimp only; omega)))

theorem flat_at (k : FVec Ideal S4x2x512x32x64 .f32) (p : FVec Ideal S32x64 .f32) (g : Fin 4) (e : Fin 2) (n : Fin 512) (q : Fin 2048) :
    flat k p (ix4 g e n q) = k (ix5 g e n ⟨q.val / 64, by omega⟩ ⟨q.val % 64, by omega⟩) + p (ix2 ⟨q.val / 64, by omega⟩ ⟨q.val % 64, by omega⟩) := by
  pointwise [flat]

theorem hidden_at (f : FVec Ideal S4x2x512x2048 .f32) (w : FVec Ideal S2048x256 .f32) (b : FVec Ideal S256 .f32) (g : Fin 4) (e : Fin 2) (n : Fin 512) (j : Fin 256) :
    hidden f w b (ix4 g e n j) = (∑ q : Fin 2048, f (ix4 g e n q) * w (ix2 q j)) + b (ix1 j) := by
  pointwise [hidden]

theorem act_at (h : FVec Ideal S4x2x512x256 .f32) (g : Fin 4) (e : Fin 2) (n : Fin 512) (j : Fin 256) : act h (ix4 g e n j) = Cert.Compress.gelu (h (ix4 g e n j)) := by
  pointwise [act]
  rfl

theorem second_at (a : FVec Ideal S4x2x512x256 .f32) (w2 : FVec Ideal S256x64 .f32) (g : Fin 4) (e : Fin 2) (n : Fin 512) (d : Fin 64) :
    second a w2 (ix4 g e n d) = ∑ j : Fin 256, a (ix4 g e n j) * w2 (ix2 j d) := by
  pointwise [second]

theorem halfK_at (x : FVec Ideal S8x16384x64 .bf16) (g : Fin 4) (e : Fin 2) (p : Fin 8192) (d : Fin 64) :
    halfK x (ix4 g e p d) = x (ix3 ⟨g.val, by omega⟩ ⟨e.val * 8192 + p.val, by omega⟩ d) := by
  pointwise [halfK]
theorem halfV_at (x : FVec Ideal S8x16384x64 .bf16) (g : Fin 4) (e : Fin 2) (p : Fin 8192) (d : Fin 64) :
    halfV x (ix4 g e p d) = x (ix3 ⟨4 + g.val, by omega⟩ ⟨e.val * 8192 + p.val, by omega⟩ d) := by
  pointwise [halfV]

/-- The row `R` of a result holds token `4 · (R mod 128) + R / 128`. -/
theorem outK_at (t : FVec Ideal S4x2x512x64 .f32) (e : Fin 2) (g : Fin 4) (R : Fin 512) (d : Fin 128) :
    outK t (ix4 e g R d) = if h : d.val < 64 then t (ix4 g e ⟨4 * (R.val % 128) + R.val / 128, by omega⟩ ⟨d.val, h⟩) * Ideal.ofBits .f32 0x3E38AA3B#32 else 0 := by
  have e1 : (⟨4 * (R.val % 128) + R.val / 128, by omega⟩ : Fin 512) = ⟨R.val % 128 * 4 + R.val / 128, by omega⟩ := Fin.ext (by dsimp only; omega)
  rw [e1]
  pointwise [outK]
theorem outV_at (t : FVec Ideal S4x2x512x64 .f32) (e : Fin 2) (g : Fin 4) (d : Fin 64) (R : Fin 512) :
    outV t (ix4 e g d R) = t (ix4 g e ⟨4 * (R.val % 128) + R.val / 128, by omega⟩ d) := by
  have e1 : (⟨4 * (R.val % 128) + R.val / 128, by omega⟩ : Fin 512) = ⟨R.val % 128 * 4 + R.val / 128, by omega⟩ := Fin.ext (by dsimp only; omega)
  rw [e1]
  pointwise [outV]

/-- The tokens of one half are the specification's. -/
theorem tokens_at (x : FVec Ideal S4x2x8192x64 .f32) (p : FVec Ideal S32x64 .f32) (w : FVec Ideal S2048x256 .f32) (b : FVec Ideal S256 .f32) (w2 : FVec Ideal S256x64 .f32)
    (g : Fin 4) (e : Fin 2) (n : Fin 512) (d : Fin 64) (xf : Fin 8192 → Fin 64 → EReal) (hx : ∀ i l, x (ix4 g e i l) = xf i l) :
    second (act (hidden (flat (blocks (half x)) p) w b)) w2 (ix4 g e n d)
      = Cert.Compress.token xf (fun i l => p (ix2 i l)) (fun q j => w (ix2 q j)) (fun j => b (ix1 j)) (fun j l => w2 (ix2 j l)) n d := by
  refine (second_at _ w2 g e n d).trans ?_
  unfold Cert.Compress.token
  refine Finset.sum_congr rfl fun j _ => congrArg (· * w2 (ix2 j d)) ?_
  refine (act_at _ g e n j).trans (congrArg Cert.Compress.gelu ?_)
  refine (hidden_at _ w b g e n j).trans ?_
  unfold Cert.Compress.hid
  refine congrArg (· + b (ix1 j)) (Finset.sum_congr rfl fun q _ => congrArg (· * w (ix2 q j)) ?_)
  refine (flat_at _ p g e n q).trans (congrArg (· + p (ix2 ⟨q.val / 64, by omega⟩ ⟨q.val % 64, by omega⟩)) ?_)
  exact (blocks_at x g e n _ _).trans (hx _ _)

end Cert.Reference3Ideal.Compress
-- ==== Proof.Compress.lean ====
module

public import proofs.«01_k».proof.Defs
public import proofs.«01_k».proof.Proof.Gen.Pre_finite
public import proofs.«01_k».proof.Proof.CmpOut
public import proofs.«01_k».proof.Proof.CmpRef

@[expose] public section

set_option maxRecDepth 16384
/- The value claim about the compression: where the kernel's rearranged sum is of finite values, its two result arrays and the
   reference's are the same functions of the arguments. -/
noncomputable section
open Idealize.ShloMosaic Idealize.ShloMosaic.TcCoe Idealize.SL.Sem
namespace Cert.Compress

theorem inf32 : Ideal.ofBits .f32 0x7F800000#32 = ⊤ := by
  simp [Ideal.ofBits, Ideal.ieee]
theorem inf16 : Ideal.ofBits .bf16 0x7F80#16 = ⊤ := by
  simp [Ideal.ofBits, Ideal.ieee]

/-- A magnitude below infinity is of a finite value. -/
theorem fin_of_abs {a : EReal} (ha : max a (-a) < ⊤) : Fin' a := by
  refine ⟨fun e => ?_, fun e => ?_⟩
  · rw [e] at ha
    exact absurd ha (not_lt.mpr (le_max_left _ _))
  · rw [e] at ha
    exact absurd ha (not_lt.mpr ((le_of_eq EReal.neg_bot.symm).trans (le_max_right _ _)))

theorem fin_of_olt {a t : EReal} (ht : t = ⊤) (e : Ideal.cmp .olt (max a (-a)) t = 1#1) : Fin' a := by
  refine fin_of_abs ?_
  rw [ht] at e
  by_contra hc
  simp [Ideal.cmp, hc] at e

/-- The precondition's three comparisons, an element at a time. -/
theorem finite_of (m : (ℓ : Loc Cert.Kernel3Ideal.nD Cert.Kernel3Ideal.τ Cert.Kernel3Ideal.sig) → Buf (Elt Ideal) ℓ)
    (hpre : Cert.Pre_Kernel3Ideal_finite (hPre_finite := Cert.Pre_finite.Gen.facts) m) (c : Dev Cert.Kernel3Ideal.nD) : Cert.Kernel3Ideal.Compress.Finite m c := by
  obtain ⟨p0, p2, p6⟩ := hpre c
  exact ⟨fun g e p d => fin_of_olt inf16 (congrFun p0 (ix3 g ⟨e.val * 8192 + p.val, by omega⟩ d)),
    fun q j => fin_of_olt inf32 (congrFun p2 (ix2 q j)), fun q j => fin_of_olt inf32 (congrFun p6 (ix2 q j))⟩

theorem algebraic : Cert.algebraic_Kernel3Ideal_Reference3Ideal_pre_finite (hKernel3Ideal := Cert.Kernel3Ideal.Gen.facts) (hReference3Ideal := Cert.Reference3Ideal.Gen.facts) (hPre_finite := Cert.Pre_finite.Gen.facts) :=
  fun m ρ m' ρ' hpre hag => ⟨fun c j => Cert.Kernel3Ideal.Compress.G10 m c j, fun c j => Cert.Kernel3Ideal.Compress.G11 m c j,
    (θ_run _ _ _).mono (fun _ h c => ⟨(h c).1.trans (Cert.Kernel3Ideal.Compress.final10 m c (finite_of m hpre c)), (h c).2.1.trans (Cert.Kernel3Ideal.Compress.final11 m c (finite_of m hpre c)), (h c).2.2⟩)
      (Cert.Kernel3Ideal.Value.run_blocks (F := Ideal) m ρ),
    (θ_run _ _ _).mono (fun _ h c => by
      obtain ⟨h0, h1, h2, h3, h4, h5, h6, h7, h8⟩ := hag c
      have e0 : Cert.Reference3Ideal.Compress.A0 m' c = Cert.Kernel3Ideal.Compress.A0 m c := h0
      have e1 : Cert.Reference3Ideal.Compress.A1 m' c = Cert.Kernel3Ideal.Compress.A1 m c := h1
      have e2 : Cert.Reference3Ideal.Compress.A2 m' c = Cert.Kernel3Ideal.Compress.A2 m c := h2
      have e3 : Cert.Reference3Ideal.Compress.A3 m' c = Cert.Kernel3Ideal.Compress.A3 m c := h3
      have e4 : Cert.Reference3Ideal.Compress.A4 m' c = Cert.Kernel3Ideal.Compress.A4 m c := h4
      have e5 : Cert.Reference3Ideal.Compress.A5 m' c = Cert.Kernel3Ideal.Compress.A5 m c := h5
      have e6 : Cert.Reference3Ideal.Compress.A6 m' c = Cert.Kernel3Ideal.Compress.A6 m c := h6
      have e7 : Cert.Reference3Ideal.Compress.A7 m' c = Cert.Kernel3Ideal.Compress.A7 m c := h7
      have e8 : Cert.Reference3Ideal.Compress.A8 m' c = Cert.Kernel3Ideal.Compress.A8 m c := h8
      refine ⟨(h c).1.trans ((Cert.Reference3Ideal.Compress.resK m' c).trans (funext fun j => ?_)), (h c).2.1.trans ((Cert.Reference3Ideal.Compress.resV m' c).trans (funext fun j => ?_)), (h c).2.2⟩
      · have hj : j = ix4 (⟨(j 0).val, (j 0).isLt⟩ : Fin 2) (⟨(j 1).val, (j 1).isLt⟩ : Fin 4) (⟨(j 2).val, (j 2).isLt⟩ : Fin 512) (⟨(j 3).val, (j 3).isLt⟩ : Fin 128) := eq_ix4 j
        rw [e0, e1, e2, e3, e4]
        refine (congrArg _ hj).trans ((Cert.Reference3Ideal.Compress.outK_at _ _ _ _ _).trans ?_)
        refine Eq.trans ?_ (Cert.Kernel3Ideal.Compress.K4_eq m c (⟨(j 0).val, (j 0).isLt⟩ : Fin 2) (⟨(j 1).val, (j 1).isLt⟩ : Fin 4) (⟨(j 2).val, (j 2).isLt⟩ : Fin 512) (⟨(j 3).val, (j 3).isLt⟩ : Fin 128)).symm
        exact dite_congr rfl (fun hd => congrArg (· * Ideal.ofBits .f32 0x3E38AA3B#32) (Cert.Reference3Ideal.Compress.tokens_at _ _ _ _ _ _ _ _ _ _ fun i l => Cert.Reference3Ideal.Compress.halfK_at _ _ _ i l)) (fun _ => rfl)
      · have hj : j = ix4 (⟨(j 0).val, (j 0).isLt⟩ : Fin 2) (⟨(j 1).val, (j 1).isLt⟩ : Fin 4) (⟨(j 2).val, (j 2).isLt⟩ : Fin 64) (⟨(j 3).val, (j 3).isLt⟩ : Fin 512) := eq_ix4 j
        rw [e0, e5, e6, e7, e8]
        refine (congrArg _ hj).trans ((Cert.Reference3Ideal.Compress.outV_at _ _ _ _ _).trans ?_)
        exact Cert.Reference3Ideal.Compress.tokens_at _ _ _ _ _ _ _ _ _ _ fun i l => Cert.Reference3Ideal.Compress.halfV_at _ _ _ i l) (Cert.Reference3Ideal.Value.run (F := Ideal) m' ρ')⟩

end Cert.Compress
-- ==== Proof.KpSpec.lean ====
module

public import Idealize.ShloMosaic.Lib.Pointwise

@[expose] public section

set_option maxRecDepth 16384
/- The prepared keys and values as functions of the laid out projection, and facts on sums over a row of groups. -/
noncomputable section
open Idealize.ShloMosaic
namespace Cert.Kprep

/-- The score's scale. -/
abbrev scale : EReal := Ideal.ofBits .f32 0x3E38AA3B#32
/-- A position, a frequency, and the angle's cosine and sine. -/
def pos (p : Fin 8192) : EReal := FloatOps.sitofp (F := Ideal) .f32 (BitVec.ofNat 32 p.val)
def freq (k : Fin 8) : EReal :=
  Ideal.div 1 (Ideal.pow (Ideal.ofBits .f32 1223959552#32) (Ideal.div (Ideal.ofBits .f32 1073741824#32 * FloatOps.sitofp (F := Ideal) .f32 (BitVec.ofNat 32 k.val)) (Ideal.ofBits .f32 1098907648#32)))
def cosT (p : Fin 8192) (k : Fin 8) : EReal := Ideal.cos (pos p * freq k)
def sinT (p : Fin 8192) (k : Fin 8) : EReal := Ideal.sin (pos p * freq k)

/-- A group's row with its first sixteen entries turned: eight pairs, eight apart. -/
def turn (x : Fin 64 → EReal) (c s : Fin 8 → EReal) (d : Fin 64) : EReal :=
  if h : d.val < 8 then x d * c ⟨d.val, h⟩ - x ⟨d.val + 8, by omega⟩ * s ⟨d.val, h⟩
  else if h : d.val - 8 < 8 then x d * c ⟨d.val - 8, h⟩ + x ⟨d.val - 8, by omega⟩ * s ⟨d.val - 8, h⟩ else x d
/-- The turned row with the score's scale. -/
def scaled (x : Fin 64 → EReal) (p : Fin 8192) (d : Fin 64) : EReal := turn x (cosT p) (sinT p) d * scale
/-- Its squared length. -/
def len (x : Fin 64 → EReal) (p : Fin 8192) : EReal := ∑ d : Fin 64, scaled x p d * scaled x p d

/-- Part `j`'s row of group `g` at position `p` of batch `e`: keys and values of the selection, keys and values of the window. -/
def row (A : Fin 16384 → Fin 5248 → EReal) (j : Fin 4) (e : Fin 2) (p : Fin 8192) (g : Fin 4) (d : Fin 64) : EReal :=
  A ⟨e.val * 8192 + p.val, by omega⟩ ⟨2048 + j.val * 256 + (g.val * 64 + d.val), by omega⟩
/-- The selection's keys with the position's block before them and the column of ones behind them. -/
def out0 (A : Fin 16384 → Fin 5248 → EReal) (e : Fin 2) (g : Fin 4) (p : Fin 8192) (n : Fin 256) : EReal :=
  if h : n.val < 128 then (if p.val / 64 = n.val then 1 else 0) else if h : n.val - 128 < 64 then scaled (row A 0 e p g) p ⟨n.val - 128, h⟩ else if n.val = 192 then 1 else 0
/-- The window's keys with the column of ones behind them. -/
def out2 (A : Fin 16384 → Fin 5248 → EReal) (e : Fin 2) (g : Fin 4) (p : Fin 8192) (n : Fin 128) : EReal :=
  if h : n.val < 64 then scaled (row A 2 e p g) p ⟨n.val, h⟩ else if n.val = 64 then 1 else 0
theorem out0_lo (A : Fin 16384 → Fin 5248 → EReal) (e : Fin 2) (g : Fin 4) (p : Fin 8192) (n : Fin 256) (h : n.val < 128) : out0 A e g p n = if p.val / 64 = n.val then 1 else 0 := by
  unfold out0
  rw [dif_pos h]
theorem out0_mid (A : Fin 16384 → Fin 5248 → EReal) (e : Fin 2) (g : Fin 4) (p : Fin 8192) (n : Fin 256) (d : Fin 64) (h : n.val = 128 + d.val) : out0 A e g p n = scaled (row A 0 e p g) p d := by
  unfold out0
  rw [dif_neg (by omega), dif_pos (by omega)]
  exact congrArg _ (Fin.ext (by dsimp only; omega))
theorem out0_hi (A : Fin 16384 → Fin 5248 → EReal) (e : Fin 2) (g : Fin 4) (p : Fin 8192) (n : Fin 256) (k : ℕ) (h : n.val = 192 + k) : out0 A e g p n = if k = 0 then 1 else 0 := by
  unfold out0
  rw [dif_neg (by omega), dif_neg (by omega)]
  split_ifs <;> first | rfl | omega
theorem out2_lo (A : Fin 16384 → Fin 5248 → EReal) (e : Fin 2) (g : Fin 4) (p : Fin 8192) (n : Fin 128) (d : Fin 64) (h : n.val = d.val) : out2 A e g p n = scaled (row A 2 e p g) p d := by
  unfold out2
  rw [dif_pos (by omega)]
  exact congrArg _ (Fin.ext (by dsimp only; omega))
theorem out2_hi (A : Fin 16384 → Fin 5248 → EReal) (e : Fin 2) (g : Fin 4) (p : Fin 8192) (n : Fin 128) (k : ℕ) (h : n.val = 64 + k) : out2 A e g p n = if k = 0 then 1 else 0 := by
  unfold out2
  rw [dif_neg (by omega)]
  split_ifs <;> first | rfl | omega
/-- The squared lengths of a position's keys, a group a column. -/
def lens (A : Fin 16384 → Fin 5248 → EReal) (e : Fin 2) (n : Fin 128) (p : Fin 8192) : EReal :=
  if h : n.val < 4 then len (row A 0 e p ⟨n.val, h⟩) p else if h : n.val - 4 < 4 then len (row A 2 e p ⟨n.val - 4, h⟩) p else 0
/-- The largest over all positions. -/
def out4 (A : Fin 16384 → Fin 5248 → EReal) (e : Fin 2) (n : Fin 128) : EReal := Finset.univ.sup (lens A e n)
theorem out4_le (A : Fin 16384 → Fin 5248 → EReal) (e : Fin 2) (n : Fin 128) (z : EReal) : out4 A e n ≤ z ↔ ∀ p, lens A e n p ≤ z := by
  unfold out4
  rw [Finset.sup_le_iff]
  exact ⟨fun h p => h p (Finset.mem_univ p), fun h p _ => h p⟩

/-- The matrix that takes a group's row to its rotated half. -/
def rotm (q l : Fin 256) : EReal :=
  if q.val / 64 = l.val / 64 ∧ l.val % 64 < 8 ∧ q.val % 64 = l.val % 64 + 8 then -1
  else if q.val / 64 = l.val / 64 ∧ l.val % 64 < 16 ∧ l.val % 64 = q.val % 64 + 8 then 1 else 0

theorem sum_rot (x : Fin 256 → EReal) (g : Fin 4) (d : Fin 64) :
    ∑ q : Fin 256, x q * rotm q ⟨g.val * 64 + d.val, by omega⟩ = if h : d.val < 8 then -x ⟨g.val * 64 + (d.val + 8), by omega⟩ else if h : d.val - 8 < 8 then x ⟨g.val * 64 + (d.val - 8), by omega⟩ else 0 := by
  have hl : (g.val * 64 + d.val) / 64 = g.val := by omega
  have hd : (g.val * 64 + d.val) % 64 = d.val := by omega
  by_cases h : d.val < 8
  · rw [dif_pos h]
    have e : rotm ⟨g.val * 64 + (d.val + 8), by omega⟩ ⟨g.val * 64 + d.val, by omega⟩ = -1 := by
      unfold rotm
      exact if_pos ⟨by dsimp only; omega, by dsimp only; omega, by dsimp only; omega⟩
    rw [Finset.sum_eq_single (⟨g.val * 64 + (d.val + 8), by omega⟩ : Fin 256) (fun q _ hq => ?_) (fun hn => absurd (Finset.mem_univ _) hn), e, mul_neg, mul_one]
    have : rotm q ⟨g.val * 64 + d.val, by omega⟩ = 0 := by
      unfold rotm
      have hne : q.val ≠ g.val * 64 + (d.val + 8) := fun hv => hq (Fin.ext hv)
      rw [if_neg (by dsimp only; omega), if_neg (by dsimp only; omega)]
    rw [this, mul_zero]
  · rw [dif_neg h]
    by_cases h2 : d.val - 8 < 8
    · rw [dif_pos h2]
      have e : rotm ⟨g.val * 64 + (d.val - 8), by omega⟩ ⟨g.val * 64 + d.val, by omega⟩ = 1 := by
        unfold rotm
        rw [if_neg (by dsimp only; omega)]
        exact if_pos ⟨by dsimp only; omega, by dsimp only; omega, by dsimp only; omega⟩
      rw [Finset.sum_eq_single (⟨g.val * 64 + (d.val - 8), by omega⟩ : Fin 256) (fun q _ hq => ?_) (fun hn => absurd (Finset.mem_univ _) hn), e, mul_one]
      have : rotm q ⟨g.val * 64 + d.val, by omega⟩ = 0 := by
        unfold rotm
        have hne : q.val ≠ g.val * 64 + (d.val - 8) := fun hv => hq (Fin.ext hv)
        rw [if_neg (by dsimp only; omega), if_neg (by dsimp only; omega)]
      rw [this, mul_zero]
    · rw [dif_neg h2]
      refine Finset.sum_eq_zero fun q _ => ?_
      have : rotm q ⟨g.val * 64 + d.val, by omega⟩ = 0 := by
        unfold rotm
        rw [if_neg (by dsimp only; omega), if_neg (by dsimp only; omega)]
      rw [this, mul_zero]

/-- The product with the tables and the rotated half is the turned row. -/
theorem turn_eq (x : Fin 256 → EReal) (g : Fin 4) (d : Fin 64) (c s : Fin 8 → EReal) (C S one zero : EReal) (h1 : one = 1) (h0 : zero = 0)
    (hC : C = if h : d.val < 8 then c ⟨d.val, h⟩ else if h : d.val - 8 < 8 then c ⟨d.val - 8, h⟩ else one)
    (hS : S = if h : d.val < 8 then s ⟨d.val, h⟩ else if h : d.val - 8 < 8 then s ⟨d.val - 8, h⟩ else zero) :
    x ⟨g.val * 64 + d.val, by omega⟩ * C + (∑ q : Fin 256, x q * rotm q ⟨g.val * 64 + d.val, by omega⟩) * S = turn (fun d => x ⟨g.val * 64 + d.val, by omega⟩) c s d := by
  subst h1 h0
  rw [sum_rot, hC, hS]
  unfold turn
  by_cases h : d.val < 8
  · rw [dif_pos h, dif_pos h, dif_pos h, dif_pos h, EReal.neg_mul, sub_eq_add_neg]
  · rw [dif_neg h, dif_neg h, dif_neg h, dif_neg h]
    by_cases h2 : d.val - 8 < 8
    · rw [dif_pos h2, dif_pos h2, dif_pos h2, dif_pos h2]
    · rw [dif_neg h2, dif_neg h2, dif_neg h2, dif_neg h2, mul_one, mul_zero, add_zero]

/-- A sum over a row that keeps one group. -/
theorem sum_group (f : Fin 256 → EReal) (n : ℕ) :
    ∑ l : Fin 256, (if n = l.val / 64 then f l else 0) = if h : n < 4 then ∑ d : Fin 64, f ⟨n * 64 + d.val, by omega⟩ else 0 := by
  by_cases h : n < 4
  · rw [dif_pos h]
    have := (finProdFinEquiv (m := 4) (n := 64)).sum_comp (fun l : Fin (4 * 64) => if n = l.val / 64 then f ⟨l.val, l.isLt⟩ else 0)
    refine (Eq.trans ?_ this.symm).trans ?_
    · rfl
    · rw [Fintype.sum_prod_type, Finset.sum_eq_single (⟨n, h⟩ : Fin 4) (fun g _ hg => ?_) (fun hn => absurd (Finset.mem_univ _) hn)]
      · refine Finset.sum_congr rfl fun d _ => ?_
        have hv : (finProdFinEquiv ((⟨n, h⟩ : Fin 4), d)).val = d.val + 64 * n := rfl
        rw [if_pos (by rw [hv]; omega)]
        exact congrArg f (Fin.ext (by dsimp only; rw [hv]; omega))
      · refine Finset.sum_eq_zero fun d _ => if_neg ?_
        have hv : (finProdFinEquiv (g, d)).val = d.val + 64 * g.val := rfl
        rw [hv]
        have : n ≠ g.val := fun e => hg (Fin.ext e.symm)
        omega
  · rw [dif_neg h]
    exact Finset.sum_eq_zero fun l _ => if_neg (by omega)

/-- The integer operations the masks are made of, on small naturals. -/
theorem shr6 : ∀ p : Fin 8192, IntOp.shrsi .vector (BitVec.ofNat 32 p.val) 6#32 = BitVec.ofNat 32 (p.val / 64) := by decide +kernel
theorem add4 (a : ℕ) : IntOp.addi (BitVec.ofNat 32 a) 4#32 = BitVec.ofNat 32 (a + 4) := by
  simp [IntOp.addi, BitVec.ofNat_add]
theorem place (a b : ℕ) : IntOp.addi (Scalar.muli (BitVec.ofNat 32 a) 1024#32) (BitVec.ofNat 32 b) = BitVec.ofNat 32 (a * 1024 + b) := by
  simp [IntOp.addi, Scalar.muli, IntOp.muli, BitVec.ofNat_add, BitVec.ofNat_mul]
theorem sel (a b : ℕ) (ha : a < 4294967296) (hb : b < 4294967296) (x y : EReal) :
    Scalar.select (IntOp.cmpi .eq (BitVec.ofNat 32 a) (BitVec.ofNat 32 b)) x y = if a = b then x else y := by
  by_cases h : a = b
  · subst h
    simp [Scalar.select, IntOp.cmpi]
  · have hn : BitVec.ofNat 32 a ≠ BitVec.ofNat 32 b := fun e => h (by
      have := congrArg BitVec.toNat e
      simpa [Nat.mod_eq_of_lt ha, Nat.mod_eq_of_lt hb] using this)
    simp only [Scalar.select, IntOp.cmpi, if_neg h, beq_eq_false_iff_ne.mpr hn]
    exact if_neg (by decide)

theorem ind (a b : ℕ) (ha : a < 4294967296) (hb : b < 4294967296) :
    FloatOps.uitofp (F := Ideal) .f32 (IntOp.cmpi .eq (BitVec.ofNat 32 a) (BitVec.ofNat 32 b)) = if a = b then 1 else 0 := by
  by_cases h : a = b
  · subst h
    simp [FloatOps.uitofp, IntOp.cmpi]
  · have hn : BitVec.ofNat 32 a ≠ BitVec.ofNat 32 b := fun e => h (by
      have := congrArg BitVec.toNat e
      simpa [Nat.mod_eq_of_lt ha, Nat.mod_eq_of_lt hb] using this)
    simp only [IntOp.cmpi, if_neg h, beq_eq_false_iff_ne.mpr hn]
    simp [FloatOps.uitofp]
theorem ninf : Ideal.ofBits .f32 0xFF800000#32 = ⊥ := by
  simp [Ideal.ofBits, Ideal.ieee]
theorem one32 : Ideal.ofBits .f32 0x3F800000#32 = 1 := by
  simp [Ideal.ofBits, Ideal.ieee]
  rw [← EReal.coe_mul]
  norm_num
theorem zero32 : Ideal.ofBits .f32 0x00000000#32 = 0 := by
  simp [Ideal.ofBits, Ideal.ieee]

end Cert.Kprep
-- ==== Proof.KpRead.lean ====
module

public import proofs.«01_k».proof.Proof.Gen.Kernel4Ideal.Value
public import Idealize.ShloMosaic.Lib.Pipeline.ValueKit
public import Idealize.ShloMosaic.Lib.Pointwise
public import proofs.«01_k».proof.Proof.KpSpec

@[expose] public section

set_option maxRecDepth 16384
/- The host's tables, and the blocks the key preparation's body reads at one grid point, as elements of the arguments. -/
noncomputable section
open Idealize.ShloMosaic Idealize.ShloMosaic.TcCoe Idealize.SL.Sem
open Idealize.ShloMosaic.Pipeline (Dat)
namespace Cert.Kernel4Ideal.Kprep
open Cert.Kernel4Ideal Cert.Kernel4Ideal.Gen
variable (m : (ℓ : Loc nD τ sig) → Buf (Elt Ideal) ℓ)

/-- Each window's block index at grid point `t`. -/
theorem idx : ∀ t : Fin cfg0.N, win0_0.index t = ![t.val / 8, t.val % 8, 8] ∧ win0_1.index t = ![t.val / 8, t.val % 8, 9] ∧ win0_2.index t = ![t.val / 8, t.val % 8, 10] ∧ win0_3.index t = ![t.val / 8, t.val % 8, 11]
    ∧ win0_4.index t = ![t.val % 8, 0] ∧ win0_5.index t = ![t.val % 8, 0] ∧ win0_6.index t = ![0, 0] ∧ win0_7.index t = ![t.val / 8, 0, t.val % 8, 0] ∧ win0_8.index t = ![t.val / 8, 0, 0, t.val % 8]
    ∧ win0_9.index t = ![t.val / 8, 0, t.val % 8, 0] ∧ win0_10.index t = ![t.val / 8, 0, 0, t.val % 8] ∧ win0_11.index t = ![t.val / 8, 0, 0] :=
  (by decide +kernel : ∀ t : Fin grid0.N, _)
theorem N16 : cfg0.N = 16 := by decide +kernel
theorem coord : ∀ t : Fin cfg0.N, ((grid0.coords t) 1).val = t.val % 8 := (by decide +kernel : ∀ t : Fin grid0.N, _)

abbrev A0 (c : Dev nD) : FVec Ideal S16384x5248 .bf16 := m ((c : Thread nD τ).loc main_arg0)
abbrev A1 (c : Dev nD) : FVec Ideal S256x256 .bf16 := m ((c : Thread nD τ).loc main_arg1)

/-- The frequencies, the angles and the two tables of the host. -/
def inv : FVec Ideal S8 .f32 :=
  Host.divf (broadcastInDim S8 ![] Facts₀.bcast_S_S8 (constant S_ .f32 0x3F800000#32)) (Host.powf (broadcastInDim S8 ![] Facts₀.bcast_S_S8 (constant S_ .f32 0x48F42400#32)) (Host.divf (addf (broadcastInDim S8 ![] Facts₀.bcast_S_S8 (constant S_ .f32 0x00000000#32)) (mulf (broadcastInDim S8 ![] Facts₀.bcast_S_S8 (constant S_ .f32 0x40000000#32)) (sitofp .f32 (iotaInDim S8 32 0)))) (broadcastInDim S8 ![] Facts₀.bcast_S_S8 (constant S_ .f32 0x41800000#32))))
def ang : FVec Ideal S8x8192 .f32 :=
  mulf (broadcastInDim S8x8192 ![0, 1] Facts₀.bcast_S8x1_S8x8192_0_1 (broadcastInDim S8x1 ![0] Facts₀.bcast_S8_S8x1_0 inv)) (broadcastInDim S8x8192 ![0, 1] Facts₀.bcast_S1x8192_S8x8192_0_1 (broadcastInDim S1x8192 ![1] Facts₀.bcast_S8192_S1x8192_1 (sitofp .f32 (iotaInDim S8192 32 0))))
def table (f : FVec Ideal S8x8192 .f32) (v : BitVec 32) : FVec Ideal S8192x64 .f32 :=
  transpose S8192x64 [1, 0] (concatenate S64x8192 0 [⟨S8x8192, f⟩, ⟨S8x8192, f⟩, ⟨S48x8192, broadcastInDim S48x8192 ![] Facts₀.bcast_S_S48x8192 (constant S_ .f32 v)⟩] Facts₀.concatenates_S8x8192_S8x8192_S48x8192_S64x8192_d0) Facts₀.transposes_S64x8192_S8192x64_1_0
theorem V0 (c : Dev nD) : V m c main_v0 = shapeCast S2x8192x5248 (A0 m c) Facts₀.shapeCasts_S16384x5248_S2x8192x5248 := rfl
theorem V23 (c : Dev nD) : V m c main_v23 = table (Host.cos ang) 0x3F800000#32 := rfl
theorem V26 (c : Dev nD) : V m c main_v26 = table (Host.sin ang) 0x00000000#32 := rfl

theorem inv_at (k : Fin 8) : inv (ix1 k) = Cert.Kprep.freq k := by
  unfold inv Cert.Kprep.freq
  pointwise
theorem ang_at (k : Fin 8) (p : Fin 8192) : ang (ix2 k p) = Cert.Kprep.pos p * Cert.Kprep.freq k := by
  rw [mul_comm, ← inv_at]
  unfold ang Cert.Kprep.pos
  pointwise
theorem cos_at (k : Fin 8) (p : Fin 8192) : (Host.cos ang : FVec Ideal S8x8192 .f32) (ix2 k p) = Cert.Kprep.cosT p k := by
  pointwise
  rw [ang_at]; rfl
theorem sin_at (k : Fin 8) (p : Fin 8192) : (Host.sin ang : FVec Ideal S8x8192 .f32) (ix2 k p) = Cert.Kprep.sinT p k := by
  pointwise
  rw [ang_at]; rfl
theorem table_at (f : FVec Ideal S8x8192 .f32) (v : BitVec 32) (p : Fin 8192) (d : Fin 64) :
    table f v (ix2 p d) = if h : d.val < 8 then f (ix2 ⟨d.val, h⟩ p) else if h : d.val - 8 < 8 then f (ix2 ⟨d.val - 8, h⟩ p) else Ideal.ofBits .f32 v := by
  unfold table
  pointwise
theorem x0_at (c : Dev nD) (t : Fin cfg0.N) (ht : t.val < 16) (r : Fin 1024) (q : Fin 256) :
    X0_0 m c t (ix3 0 r q) = A0 m c (ix2 ⟨t.val * 1024 + r.val, by omega⟩ ⟨2048 + q.val, by omega⟩) := by
  unfold X0_0 Pipeline.Window.fill
  rw [dif_pos (moved0_0 t _)]
  blk_simp [iblk, idx t]
  refine (congrFun (V0 m c) _).trans ?_
  pointwise
  refine congrArg (m ((c : Thread nD τ).loc main_arg0)) ?_
  blk_ext [idx t]
theorem x1_at (c : Dev nD) (t : Fin cfg0.N) (ht : t.val < 16) (r : Fin 1024) (q : Fin 256) :
    X0_1 m c t (ix3 0 r q) = A0 m c (ix2 ⟨t.val * 1024 + r.val, by omega⟩ ⟨2304 + q.val, by omega⟩) := by
  unfold X0_1 Pipeline.Window.fill
  rw [dif_pos (moved0_1 t _)]
  blk_simp [iblk, idx t]
  refine (congrFun (V0 m c) _).trans ?_
  pointwise
  refine congrArg (m ((c : Thread nD τ).loc main_arg0)) ?_
  blk_ext [idx t]
theorem x2_at (c : Dev nD) (t : Fin cfg0.N) (ht : t.val < 16) (r : Fin 1024) (q : Fin 256) :
    X0_2 m c t (ix3 0 r q) = A0 m c (ix2 ⟨t.val * 1024 + r.val, by omega⟩ ⟨2560 + q.val, by omega⟩) := by
  unfold X0_2 Pipeline.Window.fill
  rw [dif_pos (moved0_2 t _)]
  blk_simp [iblk, idx t]
  refine (congrFun (V0 m c) _).trans ?_
  pointwise
  refine congrArg (m ((c : Thread nD τ).loc main_arg0)) ?_
  blk_ext [idx t]
theorem x3_at (c : Dev nD) (t : Fin cfg0.N) (ht : t.val < 16) (r : Fin 1024) (q : Fin 256) :
    X0_3 m c t (ix3 0 r q) = A0 m c (ix2 ⟨t.val * 1024 + r.val, by omega⟩ ⟨2816 + q.val, by omega⟩) := by
  unfold X0_3 Pipeline.Window.fill
  rw [dif_pos (moved0_3 t _)]
  blk_simp [iblk, idx t]
  refine (congrFun (V0 m c) _).trans ?_
  pointwise
  refine congrArg (m ((c : Thread nD τ).loc main_arg0)) ?_
  blk_ext [idx t]
theorem b4_at (c : Dev nD) (t : Fin cfg0.N) (ht : t.val < 16) (r : Fin 1024) (d : Fin 64) :
    iblk m c 4 t (ix2 r d) = table (Host.cos ang) 0x3F800000#32 (ix2 ⟨t.val % 8 * 1024 + r.val, by omega⟩ d) := by
  blk_simp [iblk, idx t]
  refine (congrFun (V23 m c) _).trans ?_
  refine congrArg (table (Host.cos ang) 0x3F800000#32) ?_
  blk_ext [idx t]
theorem b5_at (c : Dev nD) (t : Fin cfg0.N) (ht : t.val < 16) (r : Fin 1024) (d : Fin 64) :
    iblk m c 5 t (ix2 r d) = table (Host.sin ang) 0x00000000#32 (ix2 ⟨t.val % 8 * 1024 + r.val, by omega⟩ d) := by
  blk_simp [iblk, idx t]
  refine (congrFun (V26 m c) _).trans ?_
  refine congrArg (table (Host.sin ang) 0x00000000#32) ?_
  blk_ext [idx t]
theorem b6_at (c : Dev nD) (t : Fin cfg0.N) (q l : Fin 256) : iblk m c 6 t (ix2 q l) = A1 m c (ix2 q l) := by
  blk_simp [iblk, idx t]
  entry_read
  refine congrArg (m ((c : Thread nD τ).loc main_arg1)) ?_
  blk_ext [idx t]
end Cert.Kernel4Ideal.Kprep
-- ==== Proof.KpBody.lean ====
module

public import proofs.«01_k».proof.Proof.Gen.Kernel4Ideal.Skeleton
public import Idealize.ShloMosaic.Lib.Pointwise
public import proofs.«01_k».proof.Proof.KpSpec

@[expose] public section

set_option maxRecDepth 16384
/- The key preparation's body over one grid point's blocks, whatever they hold. -/
noncomputable section
open Idealize.ShloMosaic Idealize.ShloMosaic.TcCoe Idealize.SL.Sem
namespace Cert.Kernel4Ideal.Kprep
open Cert.Kernel4Ideal Cert.Kernel4Ideal.Gen

theorem pay6_at (cs sn : Vec Ideal S1024x64 .f32) (rot : Vec Ideal S256x256 .bf16) (k : Vec Ideal S1x1024x256 .bf16) (r : Fin 1024) (g : Fin 4) (d : Fin 64) :
    k0_pay6 cs sn rot k (ix2 r ⟨g.val * 64 + d.val, by omega⟩) = (k (ix3 0 r ⟨g.val * 64 + d.val, by omega⟩) * cs (ix2 r d) + (∑ q : Fin 256, k (ix3 0 r q) * rot (ix2 q ⟨g.val * 64 + d.val, by omega⟩)) * sn (ix2 r d)) * Cert.Kprep.scale := by
  have e (f : Vec Ideal S1024x64 .f32) (j : Fin 64) (hj : j.val = d.val) : f (ix2 r j) = f (ix2 r d) := by rw [Fin.ext hj]
  unfold k0_pay6 k0_pay3 k0_pay4
  pointwise
  obtain ⟨g, hg⟩ := g
  interval_cases g
  all_goals
    dsimp only
    split_ifs <;> first | omega | (rw [e cs _ (by dsimp only; omega), e sn _ (by dsimp only; omega)])
theorem pay7_at (cs sn : Vec Ideal S1024x64 .f32) (rot : Vec Ideal S256x256 .bf16) (k : Vec Ideal S1x1024x256 .bf16) (r : Fin 1024) (g : Fin 4) (d : Fin 64) :
    k0_pay7 cs sn rot k (ix2 r ⟨g.val * 64 + d.val, by omega⟩) = (k (ix3 0 r ⟨g.val * 64 + d.val, by omega⟩) * cs (ix2 r d) + (∑ q : Fin 256, k (ix3 0 r q) * rot (ix2 q ⟨g.val * 64 + d.val, by omega⟩)) * sn (ix2 r d)) * Cert.Kprep.scale := by
  have e (f : Vec Ideal S1024x64 .f32) (j : Fin 64) (hj : j.val = d.val) : f (ix2 r j) = f (ix2 r d) := by rw [Fin.ext hj]
  unfold k0_pay7 k0_pay3 k0_pay4
  pointwise
  obtain ⟨g, hg⟩ := g
  interval_cases g
  all_goals
    dsimp only
    split_ifs <;> first | omega | (rw [e cs _ (by dsimp only; omega), e sn _ (by dsimp only; omega)])
/-- With the tables and the matrix in place the product is the turned, scaled row. -/
theorem pay6_eq (cs sn : Vec Ideal S1024x64 .f32) (rot : Vec Ideal S256x256 .bf16) (k : Vec Ideal S1x1024x256 .bf16) (r : Fin 1024) (p : Fin 8192) (x : Fin 256 → EReal)
    (hx : ∀ q, k (ix3 0 r q) = x q) (hr : ∀ q l, rot (ix2 q l) = Cert.Kprep.rotm q l)
    (hc : ∀ d : Fin 64, cs (ix2 r d) = if h : d.val < 8 then Cert.Kprep.cosT p ⟨d.val, h⟩ else if h : d.val - 8 < 8 then Cert.Kprep.cosT p ⟨d.val - 8, h⟩ else Ideal.ofBits .f32 0x3F800000#32)
    (hs : ∀ d : Fin 64, sn (ix2 r d) = if h : d.val < 8 then Cert.Kprep.sinT p ⟨d.val, h⟩ else if h : d.val - 8 < 8 then Cert.Kprep.sinT p ⟨d.val - 8, h⟩ else Ideal.ofBits .f32 0x00000000#32)
    (g : Fin 4) (d : Fin 64) :
    k0_pay6 cs sn rot k (ix2 r ⟨g.val * 64 + d.val, by omega⟩) = Cert.Kprep.scaled (fun d => x ⟨g.val * 64 + d.val, by omega⟩) p d := by
  rw [pay6_at]
  simp only [hx, hr]
  rw [Cert.Kprep.turn_eq x g d (Cert.Kprep.cosT p) (Cert.Kprep.sinT p) _ _ _ _ Cert.Kprep.one32 Cert.Kprep.zero32 (hc d) (hs d)]
  rfl
theorem pay7_eq (cs sn : Vec Ideal S1024x64 .f32) (rot : Vec Ideal S256x256 .bf16) (k : Vec Ideal S1x1024x256 .bf16) : k0_pay7 cs sn rot k = k0_pay6 cs sn rot k := rfl
theorem pay5_at (i : grid0.Coords) (r : Fin 1024) (n : Fin 128) (hi : (i 1).val < 8) : k0_pay5 (F := Ideal) i (ix2 r n) = if ((i 1).val * 1024 + r.val) / 64 = n.val then 1 else 0 := by
  unfold k0_pay5
  pointwise
  have e := Cert.Kprep.shr6 ⟨(i 1).val * 1024 + r.val, by omega⟩
  dsimp only at e
  rw [Cert.Kprep.place, e, Cert.Kprep.sel _ _ (by omega) (by omega)]
  by_cases h : ((i 1).val * 1024 + r.val) / 64 = n.val
  · rw [if_pos h, if_pos h.symm]
  · rw [if_neg h, if_neg fun e => h e.symm]
theorem pay16_at (r : Fin 1024) (n : Fin 64) : k0_pay16 (F := Ideal) (ix2 r n) = if n.val = 0 then 1 else 0 := by
  unfold k0_pay16
  pointwise
  rw [Cert.Kprep.sel _ 0 (by omega) (by omega)]
/-- A tile's largest squared lengths, by the bounds above them. -/
theorem pay10_le (a b : FVec Ideal S1024x256 .f32) (i : Fin 8) (n : Fin 128) (z : EReal) : k0_pay10 a b (ix2 i n) ≤ z ↔ ∀ r : Fin 1024,
    (if h : n.val < 4 then ∑ d : Fin 64, a (ix2 r ⟨n.val * 64 + d.val, by omega⟩) * a (ix2 r ⟨n.val * 64 + d.val, by omega⟩)
     else if h : n.val - 4 < 4 then ∑ d : Fin 64, b (ix2 r ⟨(n.val - 4) * 64 + d.val, by omega⟩) * b (ix2 r ⟨(n.val - 4) * 64 + d.val, by omega⟩) else 0) ≤ z := by
  have e : k0_pay10 a b (ix2 i n) = Finset.fold max (Ideal.ofBits .f32 0xFF800000#32) (fun r : Fin 1024 =>
     (∑ l : Fin 256, if n.val = l.val / 64 then a (ix2 r l) * a (ix2 r l) else 0) + (∑ l : Fin 256, if n.val = l.val / 64 + 4 then b (ix2 r l) * b (ix2 r l) else 0)) Finset.univ := by
    unfold k0_pay10
    pointwise
    have s (l : Fin 256) := Cert.Kprep.shr6 ⟨l.val, by omega⟩
    dsimp only at s
    simp only [s, Cert.Kprep.add4]
    have q1 (l : Fin 256) (x y : EReal) : Scalar.select (IntOp.cmpi .eq (BitVec.ofNat 32 n.val) (BitVec.ofNat 32 (l.val / 64))) x y = if n.val = l.val / 64 then x else y := Cert.Kprep.sel _ _ (by omega) (by omega) x y
    have q2 (l : Fin 256) (x y : EReal) : Scalar.select (IntOp.cmpi .eq (BitVec.ofNat 32 n.val) (BitVec.ofNat 32 (l.val / 64 + 4))) x y = if n.val = l.val / 64 + 4 then x else y := Cert.Kprep.sel _ _ (by omega) (by omega) x y
    simp only [q1, q2]
  rw [e, Finset.fold_max_le, Cert.Kprep.ninf]
  refine (and_iff_right bot_le).trans ?_
  have e2 (r : Fin 1024) : (∑ l : Fin 256, if n.val = l.val / 64 then a (ix2 r l) * a (ix2 r l) else 0) + (∑ l : Fin 256, if n.val = l.val / 64 + 4 then b (ix2 r l) * b (ix2 r l) else 0)
      = (if h : n.val < 4 then ∑ d : Fin 64, a (ix2 r ⟨n.val * 64 + d.val, by omega⟩) * a (ix2 r ⟨n.val * 64 + d.val, by omega⟩)
     else if h : n.val - 4 < 4 then ∑ d : Fin 64, b (ix2 r ⟨(n.val - 4) * 64 + d.val, by omega⟩) * b (ix2 r ⟨(n.val - 4) * 64 + d.val, by omega⟩) else 0) := by
    rw [Cert.Kprep.sum_group (fun l => a (ix2 r l) * a (ix2 r l))]
    by_cases h : n.val < 4
    · rw [dif_pos h, dif_pos h, Finset.sum_eq_zero (fun l _ => if_neg (by omega)), add_zero]
    · rw [dif_neg h, dif_neg h, zero_add]
      have c (l : Fin 256) : (n.val = l.val / 64 + 4) = (n.val - 4 = l.val / 64) := propext (by omega)
      simp only [c]
      exact Cert.Kprep.sum_group (fun l => b (ix2 r l) * b (ix2 r l)) (n.val - 4)
  exact ⟨fun H r => by rw [← e2]; exact H r (Finset.mem_univ r), fun H r _ => by rw [e2]; exact H r⟩
/-- What each store holds: the values' four groups transposed. -/
theorem v8_0 (v : Vec Ideal S1x1024x256 .bf16) (x : S1x1x64x1024.Idx) (r : Fin 1024) (q : Fin 256) (hr : r.val = (x 3).val) (hq : q.val = 0 + (x 2).val) : k0_pay23 (k0_pay22 (k0_pay13 v)) x = v (ix3 0 r q) := by
  have hx : (x 2).val < 64 := (x 2).isLt
  have e : k0_pay23 (k0_pay22 (k0_pay13 v)) x = v (ix3 0 (x 3) ⟨0 + (x 2).val, by omega⟩) := by
    unfold k0_pay23 k0_pay22 k0_pay13
    pointwise
  exact e.trans (congrArg v (congrArg₂ (ix3 0) (Fin.ext hr.symm) (Fin.ext hq.symm)))
theorem v8_1 (v : Vec Ideal S1x1024x256 .bf16) (x : S1x1x64x1024.Idx) (r : Fin 1024) (q : Fin 256) (hr : r.val = (x 3).val) (hq : q.val = 64 + (x 2).val) : k0_pay31 (k0_pay30 (k0_pay13 v)) x = v (ix3 0 r q) := by
  have hx : (x 2).val < 64 := (x 2).isLt
  have e : k0_pay31 (k0_pay30 (k0_pay13 v)) x = v (ix3 0 (x 3) ⟨64 + (x 2).val, by omega⟩) := by
    unfold k0_pay31 k0_pay30 k0_pay13
    pointwise
  exact e.trans (congrArg v (congrArg₂ (ix3 0) (Fin.ext hr.symm) (Fin.ext hq.symm)))
theorem v8_2 (v : Vec Ideal S1x1024x256 .bf16) (x : S1x1x64x1024.Idx) (r : Fin 1024) (q : Fin 256) (hr : r.val = (x 3).val) (hq : q.val = 128 + (x 2).val) : k0_pay39 (k0_pay38 (k0_pay13 v)) x = v (ix3 0 r q) := by
  have hx : (x 2).val < 64 := (x 2).isLt
  have e : k0_pay39 (k0_pay38 (k0_pay13 v)) x = v (ix3 0 (x 3) ⟨128 + (x 2).val, by omega⟩) := by
    unfold k0_pay39 k0_pay38 k0_pay13
    pointwise
  exact e.trans (congrArg v (congrArg₂ (ix3 0) (Fin.ext hr.symm) (Fin.ext hq.symm)))
theorem v8_3 (v : Vec Ideal S1x1024x256 .bf16) (x : S1x1x64x1024.Idx) (r : Fin 1024) (q : Fin 256) (hr : r.val = (x 3).val) (hq : q.val = 192 + (x 2).val) : k0_pay1 (k0_pay46 (k0_pay13 v)) x = v (ix3 0 r q) := by
  have hx : (x 2).val < 64 := (x 2).isLt
  have e : k0_pay1 (k0_pay46 (k0_pay13 v)) x = v (ix3 0 (x 3) ⟨192 + (x 2).val, by omega⟩) := by
    unfold k0_pay1 k0_pay46 k0_pay13
    pointwise
  exact e.trans (congrArg v (congrArg₂ (ix3 0) (Fin.ext hr.symm) (Fin.ext hq.symm)))
theorem v10_0 (v : Vec Ideal S1x1024x256 .bf16) (x : S1x1x64x1024.Idx) (r : Fin 1024) (q : Fin 256) (hr : r.val = (x 3).val) (hq : q.val = 0 + (x 2).val) : k0_pay24 (k0_pay15 (k0_pay14 v)) x = v (ix3 0 r q) := by
  have hx : (x 2).val < 64 := (x 2).isLt
  have e : k0_pay24 (k0_pay15 (k0_pay14 v)) x = v (ix3 0 (x 3) ⟨0 + (x 2).val, by omega⟩) := by
    unfold k0_pay24 k0_pay15 k0_pay14
    pointwise
  exact e.trans (congrArg v (congrArg₂ (ix3 0) (Fin.ext hr.symm) (Fin.ext hq.symm)))
theorem v10_1 (v : Vec Ideal S1x1024x256 .bf16) (x : S1x1x64x1024.Idx) (r : Fin 1024) (q : Fin 256) (hr : r.val = (x 3).val) (hq : q.val = 64 + (x 2).val) : k0_pay32 (k0_pay15 (k0_pay14 v)) x = v (ix3 0 r q) := by
  have hx : (x 2).val < 64 := (x 2).isLt
  have e : k0_pay32 (k0_pay15 (k0_pay14 v)) x = v (ix3 0 (x 3) ⟨64 + (x 2).val, by omega⟩) := by
    unfold k0_pay32 k0_pay15 k0_pay14
    pointwise
  exact e.trans (congrArg v (congrArg₂ (ix3 0) (Fin.ext hr.symm) (Fin.ext hq.symm)))
theorem v10_2 (v : Vec Ideal S1x1024x256 .bf16) (x : S1x1x64x1024.Idx) (r : Fin 1024) (q : Fin 256) (hr : r.val = (x 3).val) (hq : q.val = 128 + (x 2).val) : k0_pay40 (k0_pay15 (k0_pay14 v)) x = v (ix3 0 r q) := by
  have hx : (x 2).val < 64 := (x 2).isLt
  have e : k0_pay40 (k0_pay15 (k0_pay14 v)) x = v (ix3 0 (x 3) ⟨128 + (x 2).val, by omega⟩) := by
    unfold k0_pay40 k0_pay15 k0_pay14
    pointwise
  exact e.trans (congrArg v (congrArg₂ (ix3 0) (Fin.ext hr.symm) (Fin.ext hq.symm)))
theorem v10_3 (v : Vec Ideal S1x1024x256 .bf16) (x : S1x1x64x1024.Idx) (r : Fin 1024) (q : Fin 256) (hr : r.val = (x 3).val) (hq : q.val = 192 + (x 2).val) : k0_pay2 (k0_pay15 (k0_pay14 v)) x = v (ix3 0 r q) := by
  have hx : (x 2).val < 64 := (x 2).isLt
  have e : k0_pay2 (k0_pay15 (k0_pay14 v)) x = v (ix3 0 (x 3) ⟨192 + (x 2).val, by omega⟩) := by
    unfold k0_pay2 k0_pay15 k0_pay14
    pointwise
  exact e.trans (congrArg v (congrArg₂ (ix3 0) (Fin.ext hr.symm) (Fin.ext hq.symm)))
/-- The keys' four groups, the blocks and the columns of ones. -/
theorem k7_0 (v : FVec Ideal S1024x256 .bf16) (x : S1x1x1024x64.Idx) (r : Fin 1024) (q : Fin 256) (hr : r.val = (x 2).val) (hq : q.val = 0 * 64 + (x 3).val) : k0_pay18 v x = v (ix2 r q) := by
  have hx : (x 3).val < 64 := (x 3).isLt
  have e : k0_pay18 v x = v (ix2 (x 2) ⟨0 + (x 3).val, by omega⟩) := by
    unfold k0_pay18
    pointwise
  exact e.trans (congrArg v (congrArg₂ ix2 (Fin.ext hr.symm) (Fin.ext (by dsimp only; omega))))
theorem k7_1 (v : FVec Ideal S1024x256 .bf16) (x : S1x1x1024x64.Idx) (r : Fin 1024) (q : Fin 256) (hr : r.val = (x 2).val) (hq : q.val = 1 * 64 + (x 3).val) : k0_pay26 v x = v (ix2 r q) := by
  have hx : (x 3).val < 64 := (x 3).isLt
  have e : k0_pay26 v x = v (ix2 (x 2) ⟨64 + (x 3).val, by omega⟩) := by
    unfold k0_pay26
    pointwise
  exact e.trans (congrArg v (congrArg₂ ix2 (Fin.ext hr.symm) (Fin.ext (by dsimp only; omega))))
theorem k7_2 (v : FVec Ideal S1024x256 .bf16) (x : S1x1x1024x64.Idx) (r : Fin 1024) (q : Fin 256) (hr : r.val = (x 2).val) (hq : q.val = 2 * 64 + (x 3).val) : k0_pay34 v x = v (ix2 r q) := by
  have hx : (x 3).val < 64 := (x 3).isLt
  have e : k0_pay34 v x = v (ix2 (x 2) ⟨128 + (x 3).val, by omega⟩) := by
    unfold k0_pay34
    pointwise
  exact e.trans (congrArg v (congrArg₂ ix2 (Fin.ext hr.symm) (Fin.ext (by dsimp only; omega))))
theorem k7_3 (v : FVec Ideal S1024x256 .bf16) (x : S1x1x1024x64.Idx) (r : Fin 1024) (q : Fin 256) (hr : r.val = (x 2).val) (hq : q.val = 3 * 64 + (x 3).val) : k0_pay42 v x = v (ix2 r q) := by
  have hx : (x 3).val < 64 := (x 3).isLt
  have e : k0_pay42 v x = v (ix2 (x 2) ⟨192 + (x 3).val, by omega⟩) := by
    unfold k0_pay42
    pointwise
  exact e.trans (congrArg v (congrArg₂ ix2 (Fin.ext hr.symm) (Fin.ext (by dsimp only; omega))))
theorem k9_0 (v : FVec Ideal S1024x256 .bf16) (x : S1x1x1024x64.Idx) (r : Fin 1024) (q : Fin 256) (hr : r.val = (x 2).val) (hq : q.val = 0 * 64 + (x 3).val) : k0_pay20 v x = v (ix2 r q) := by
  have hx : (x 3).val < 64 := (x 3).isLt
  have e : k0_pay20 v x = v (ix2 (x 2) ⟨0 + (x 3).val, by omega⟩) := by
    unfold k0_pay20
    pointwise
  exact e.trans (congrArg v (congrArg₂ ix2 (Fin.ext hr.symm) (Fin.ext (by dsimp only; omega))))
theorem k9_1 (v : FVec Ideal S1024x256 .bf16) (x : S1x1x1024x64.Idx) (r : Fin 1024) (q : Fin 256) (hr : r.val = (x 2).val) (hq : q.val = 1 * 64 + (x 3).val) : k0_pay28 v x = v (ix2 r q) := by
  have hx : (x 3).val < 64 := (x 3).isLt
  have e : k0_pay28 v x = v (ix2 (x 2) ⟨64 + (x 3).val, by omega⟩) := by
    unfold k0_pay28
    pointwise
  exact e.trans (congrArg v (congrArg₂ ix2 (Fin.ext hr.symm) (Fin.ext (by dsimp only; omega))))
theorem k9_2 (v : FVec Ideal S1024x256 .bf16) (x : S1x1x1024x64.Idx) (r : Fin 1024) (q : Fin 256) (hr : r.val = (x 2).val) (hq : q.val = 2 * 64 + (x 3).val) : k0_pay36 v x = v (ix2 r q) := by
  have hx : (x 3).val < 64 := (x 3).isLt
  have e : k0_pay36 v x = v (ix2 (x 2) ⟨128 + (x 3).val, by omega⟩) := by
    unfold k0_pay36
    pointwise
  exact e.trans (congrArg v (congrArg₂ ix2 (Fin.ext hr.symm) (Fin.ext (by dsimp only; omega))))
theorem k9_3 (v : FVec Ideal S1024x256 .bf16) (x : S1x1x1024x64.Idx) (r : Fin 1024) (q : Fin 256) (hr : r.val = (x 2).val) (hq : q.val = 3 * 64 + (x 3).val) : k0_pay44 v x = v (ix2 r q) := by
  have hx : (x 3).val < 64 := (x 3).isLt
  have e : k0_pay44 v x = v (ix2 (x 2) ⟨192 + (x 3).val, by omega⟩) := by
    unfold k0_pay44
    pointwise
  exact e.trans (congrArg v (congrArg₂ ix2 (Fin.ext hr.symm) (Fin.ext (by dsimp only; omega))))
theorem b_17 (v : FVec Ideal S1024x128 .bf16) (x : S1x1x1024x128.Idx) : k0_pay17 v x = v (ix2 (x 2) (x 3)) := by
  unfold k0_pay17
  pointwise
theorem b_25 (v : FVec Ideal S1024x128 .bf16) (x : S1x1x1024x128.Idx) : k0_pay25 v x = v (ix2 (x 2) (x 3)) := by
  unfold k0_pay25
  pointwise
theorem b_33 (v : FVec Ideal S1024x128 .bf16) (x : S1x1x1024x128.Idx) : k0_pay33 v x = v (ix2 (x 2) (x 3)) := by
  unfold k0_pay33
  pointwise
theorem b_41 (v : FVec Ideal S1024x128 .bf16) (x : S1x1x1024x128.Idx) : k0_pay41 v x = v (ix2 (x 2) (x 3)) := by
  unfold k0_pay41
  pointwise
theorem o_19 (x : S1x1x1024x64.Idx) : k0_pay19 (F := Ideal) x = if (x 3).val = 0 then 1 else 0 := by
  refine Eq.trans ?_ (pay16_at (x 2) (x 3))
  unfold k0_pay19
  pointwise
theorem o_21 (x : S1x1x1024x64.Idx) : k0_pay21 (F := Ideal) x = if (x 3).val = 0 then 1 else 0 := by
  refine Eq.trans ?_ (pay16_at (x 2) (x 3))
  unfold k0_pay21
  pointwise
theorem o_27 (x : S1x1x1024x64.Idx) : k0_pay27 (k0_pay16 (F := Ideal)) x = if (x 3).val = 0 then 1 else 0 := by
  refine Eq.trans ?_ (pay16_at (x 2) (x 3))
  unfold k0_pay27
  pointwise
theorem o_29 (x : S1x1x1024x64.Idx) : k0_pay29 (k0_pay16 (F := Ideal)) x = if (x 3).val = 0 then 1 else 0 := by
  refine Eq.trans ?_ (pay16_at (x 2) (x 3))
  unfold k0_pay29
  pointwise
theorem o_35 (x : S1x1x1024x64.Idx) : k0_pay35 (k0_pay16 (F := Ideal)) x = if (x 3).val = 0 then 1 else 0 := by
  refine Eq.trans ?_ (pay16_at (x 2) (x 3))
  unfold k0_pay35
  pointwise
theorem o_37 (x : S1x1x1024x64.Idx) : k0_pay37 (k0_pay16 (F := Ideal)) x = if (x 3).val = 0 then 1 else 0 := by
  refine Eq.trans ?_ (pay16_at (x 2) (x 3))
  unfold k0_pay37
  pointwise
theorem o_43 (x : S1x1x1024x64.Idx) : k0_pay43 (k0_pay16 (F := Ideal)) x = if (x 3).val = 0 then 1 else 0 := by
  refine Eq.trans ?_ (pay16_at (x 2) (x 3))
  unfold k0_pay43
  pointwise
theorem o_45 (x : S1x1x1024x64.Idx) : k0_pay45 (k0_pay16 (F := Ideal)) x = if (x 3).val = 0 then 1 else 0 := by
  refine Eq.trans ?_ (pay16_at (x 2) (x 3))
  unfold k0_pay45
  pointwise
theorem pay11_at (a b : FVec Ideal S1024x256 .f32) (i : Fin 8) (n : Fin 128) : k0_pay11 a b (ix3 0 i n) = k0_pay10 a b (ix2 i n) := by
  unfold k0_pay11
  pointwise
theorem pay12_at (a b : FVec Ideal S1024x256 .f32) (o : Vec Ideal S1x8x128 .f32) (i : Fin 8) (n : Fin 128) : k0_pay12 a b o (ix3 0 i n) = max (o (ix3 0 i n)) (k0_pay10 a b (ix2 i n)) := by
  unfold k0_pay12
  pointwise
end Cert.Kernel4Ideal.Kprep
-- ==== Proof.KpOut.lean ====
module

public import proofs.«01_k».proof.Proof.KpRead
public import proofs.«01_k».proof.Proof.KpBody

@[expose] public section

set_option maxRecDepth 16384
/- The arrays the key preparation leaves: the values with the position last, the keys laid out, and the running largest squared lengths. -/
noncomputable section
open Idealize.ShloMosaic Idealize.ShloMosaic.TcCoe Idealize.SL.Sem
open Idealize.ShloMosaic.Pipeline (Dat)
namespace Cert.Kernel4Ideal.Kprep
open Cert.Kernel4Ideal Cert.Kernel4Ideal.Gen
variable (m : (ℓ : Loc nD τ sig) → Buf (Elt Ideal) ℓ)

abbrev AA (c : Dev nD) : Fin 16384 → Fin 5248 → EReal := fun r k => A0 m c (ix2 r k)

/-- One grid point's keys. -/
theorem keyS (c : Dev nD) (hrot : ∀ q l, A1 m c (ix2 q l) = Cert.Kprep.rotm q l) (t : Fin cfg0.N) (ht : t.val < 16) (r : Fin 1024) (g : Fin 4) (d : Fin 64) (q : Fin 256) (hq : q.val = g.val * 64 + d.val) :
    k0_pay6 (iblk m c 4 t) (iblk m c 5 t) (iblk m c 6 t) (X0_0 m c t) (ix2 r q)
      = Cert.Kprep.scaled (Cert.Kprep.row (AA m c) 0 ⟨t.val / 8, by omega⟩ ⟨t.val % 8 * 1024 + r.val, by omega⟩ g) ⟨t.val % 8 * 1024 + r.val, by omega⟩ d := by
  have hq2 : q = ⟨g.val * 64 + d.val, by omega⟩ := Fin.ext hq
  rw [hq2]
  refine (pay6_eq (iblk m c 4 t) (iblk m c 5 t) (iblk m c 6 t) (X0_0 m c t) r ⟨t.val % 8 * 1024 + r.val, by omega⟩ (fun q => A0 m c (ix2 ⟨t.val * 1024 + r.val, by omega⟩ ⟨2048 + q.val, by omega⟩))
    (fun q => x0_at m c t ht r q) (fun q l => (b6_at m c t q l).trans (hrot q l)) (fun d => ?_) (fun d => ?_) g d).trans ?_
  · rw [b4_at m c t ht, table_at]
    simp only [cos_at]
  · rw [b5_at m c t ht, table_at]
    simp only [sin_at]
  · refine congrArg (fun x => Cert.Kprep.scaled x _ d) (funext fun d => congrArg (A0 m c) (congrArg₂ ix2 (Fin.ext ?_) (Fin.ext ?_)))
    · dsimp only
      omega
    · show 2048 + (g.val * 64 + d.val) = 2048 + 0 * 256 + (g.val * 64 + d.val)
      omega
theorem keyW (c : Dev nD) (hrot : ∀ q l, A1 m c (ix2 q l) = Cert.Kprep.rotm q l) (t : Fin cfg0.N) (ht : t.val < 16) (r : Fin 1024) (g : Fin 4) (d : Fin 64) (q : Fin 256) (hq : q.val = g.val * 64 + d.val) :
    k0_pay7 (iblk m c 4 t) (iblk m c 5 t) (iblk m c 6 t) (X0_2 m c t) (ix2 r q)
      = Cert.Kprep.scaled (Cert.Kprep.row (AA m c) 2 ⟨t.val / 8, by omega⟩ ⟨t.val % 8 * 1024 + r.val, by omega⟩ g) ⟨t.val % 8 * 1024 + r.val, by omega⟩ d := by
  have hq2 : q = ⟨g.val * 64 + d.val, by omega⟩ := Fin.ext hq
  rw [hq2, pay7_eq]
  refine (pay6_eq (iblk m c 4 t) (iblk m c 5 t) (iblk m c 6 t) (X0_2 m c t) r ⟨t.val % 8 * 1024 + r.val, by omega⟩ (fun q => A0 m c (ix2 ⟨t.val * 1024 + r.val, by omega⟩ ⟨2560 + q.val, by omega⟩))
    (fun q => x2_at m c t ht r q) (fun q l => (b6_at m c t q l).trans (hrot q l)) (fun d => ?_) (fun d => ?_) g d).trans ?_
  · rw [b4_at m c t ht, table_at]
    simp only [cos_at]
  · rw [b5_at m c t ht, table_at]
    simp only [sin_at]
  · refine congrArg (fun x => Cert.Kprep.scaled x _ d) (funext fun d => congrArg (A0 m c) (congrArg₂ ix2 (Fin.ext ?_) (Fin.ext ?_)))
    · dsimp only
      omega
    · show 2560 + (g.val * 64 + d.val) = 2048 + 2 * 256 + (g.val * 64 + d.val)
      omega

def G8 (c : Dev nD) (j : S2x4x64x8192.Idx) : EReal := Cert.Kprep.row (AA m c) 1 (j 0) (j 3) (j 1) (j 2)

set_option maxHeartbeats 4000000 in
theorem final8 (c : Dev nD) : (dats m 0 c).arrAt 8 cfg0.N = fun j => G8 m c j := by
  refine (dats m 0 c).arrAt_eq_of_covers 8 (fun j => G8 m c j) (by decide +kernel) fun t _ y => ?_
  have ht : t.val < 16 := lt_of_lt_of_eq t.isLt N16
  have y1 : (y 1).val < 4 := (y 1).isLt
  have y2 : (y 2).val < 64 := (y 2).isLt
  have y3 : (y 3).val < 1024 := (y 3).isLt
  have eG : G8 m c (((View.whole main_v27_1).slice (win0_8.rect t)).emb y) = A0 m c (ix2 ⟨t.val * 1024 + (y 3).val, by omega⟩ ⟨2304 + ((y 1).val * 64 + (y 2).val), by omega⟩) := by
    unfold G8 Cert.Kprep.row AA
    refine congrArg (A0 m c) (congrArg₂ ix2 (Fin.ext ?_) (Fin.ext ?_))
    · blk_simp [idx t]
      dsimp only
      omega
    · blk_simp [idx t]
      show 2048 + 1 * 256 + ((y 1).val * 64 + (y 2).val) = 2304 + ((y 1).val * 64 + (y 2).val)
      omega
  blk_simp
  refine Eq.trans ?_ eG.symm
  rw [after0_8]
  by_cases h0 : t.val % 8 = 0
  · rw [outsAt0_A m c t h0 (by omega)]
    dsimp only
    unfold out0_A_8
    frame_out
    canon_tiles x e using View.cover_of_tiledBy _ ![1, 1, 64, 1024] (by sl_kernel_rfl) y
    case piece0 =>
      refine (v8_3 (X0_1 m c t) x (x 3) ⟨192 + (x 2).val, by omega⟩ rfl rfl).trans ((x1_at m c t ht _ _).trans (congrArg (A0 m c) (congrArg₂ ix2 (Fin.ext ?_) (Fin.ext ?_)))) <;> dsimp only <;> omega
    case piece1 =>
      refine (v8_2 (X0_1 m c t) x (x 3) ⟨128 + (x 2).val, by omega⟩ rfl rfl).trans ((x1_at m c t ht _ _).trans (congrArg (A0 m c) (congrArg₂ ix2 (Fin.ext ?_) (Fin.ext ?_)))) <;> dsimp only <;> omega
    case piece2 =>
      refine (v8_1 (X0_1 m c t) x (x 3) ⟨64 + (x 2).val, by omega⟩ rfl rfl).trans ((x1_at m c t ht _ _).trans (congrArg (A0 m c) (congrArg₂ ix2 (Fin.ext ?_) (Fin.ext ?_)))) <;> dsimp only <;> omega
    case piece3 =>
      refine (v8_0 (X0_1 m c t) x (x 3) ⟨0 + (x 2).val, by omega⟩ rfl rfl).trans ((x1_at m c t ht _ _).trans (congrArg (A0 m c) (congrArg₂ ix2 (Fin.ext ?_) (Fin.ext ?_)))) <;> dsimp only <;> omega
  · rw [outsAt0_B m c t h0 (by omega)]
    dsimp only
    unfold out0_B_8
    frame_out
    canon_tiles x e using View.cover_of_tiledBy _ ![1, 1, 64, 1024] (by sl_kernel_rfl) y
    case piece0 =>
      refine (v8_3 (X0_1 m c t) x (x 3) ⟨192 + (x 2).val, by omega⟩ rfl rfl).trans ((x1_at m c t ht _ _).trans (congrArg (A0 m c) (congrArg₂ ix2 (Fin.ext ?_) (Fin.ext ?_)))) <;> dsimp only <;> omega
    case piece1 =>
      refine (v8_2 (X0_1 m c t) x (x 3) ⟨128 + (x 2).val, by omega⟩ rfl rfl).trans ((x1_at m c t ht _ _).trans (congrArg (A0 m c) (congrArg₂ ix2 (Fin.ext ?_) (Fin.ext ?_)))) <;> dsimp only <;> omega
    case piece2 =>
      refine (v8_1 (X0_1 m c t) x (x 3) ⟨64 + (x 2).val, by omega⟩ rfl rfl).trans ((x1_at m c t ht _ _).trans (congrArg (A0 m c) (congrArg₂ ix2 (Fin.ext ?_) (Fin.ext ?_)))) <;> dsimp only <;> omega
    case piece3 =>
      refine (v8_0 (X0_1 m c t) x (x 3) ⟨0 + (x 2).val, by omega⟩ rfl rfl).trans ((x1_at m c t ht _ _).trans (congrArg (A0 m c) (congrArg₂ ix2 (Fin.ext ?_) (Fin.ext ?_)))) <;> dsimp only <;> omega

def G10 (c : Dev nD) (j : S2x4x64x8192.Idx) : EReal := Cert.Kprep.row (AA m c) 3 (j 0) (j 3) (j 1) (j 2)

set_option maxHeartbeats 4000000 in
theorem final10 (c : Dev nD) : (dats m 0 c).arrAt 10 cfg0.N = fun j => G10 m c j := by
  refine (dats m 0 c).arrAt_eq_of_covers 10 (fun j => G10 m c j) (by decide +kernel) fun t _ y => ?_
  have ht : t.val < 16 := lt_of_lt_of_eq t.isLt N16
  have y1 : (y 1).val < 4 := (y 1).isLt
  have y2 : (y 2).val < 64 := (y 2).isLt
  have y3 : (y 3).val < 1024 := (y 3).isLt
  have eG : G10 m c (((View.whole main_v27_3).slice (win0_10.rect t)).emb y) = A0 m c (ix2 ⟨t.val * 1024 + (y 3).val, by omega⟩ ⟨2816 + ((y 1).val * 64 + (y 2).val), by omega⟩) := by
    unfold G10 Cert.Kprep.row AA
    refine congrArg (A0 m c) (congrArg₂ ix2 (Fin.ext ?_) (Fin.ext ?_))
    · blk_simp [idx t]
      dsimp only
      omega
    · blk_simp [idx t]
      show 2048 + 3 * 256 + ((y 1).val * 64 + (y 2).val) = 2816 + ((y 1).val * 64 + (y 2).val)
      omega
  blk_simp
  refine Eq.trans ?_ eG.symm
  rw [after0_10]
  by_cases h0 : t.val % 8 = 0
  · rw [outsAt0_A m c t h0 (by omega)]
    dsimp only
    unfold out0_A_10
    frame_out
    canon_tiles x e using View.cover_of_tiledBy _ ![1, 1, 64, 1024] (by sl_kernel_rfl) y
    case piece0 =>
      refine (v10_3 (X0_3 m c t) x (x 3) ⟨192 + (x 2).val, by omega⟩ rfl rfl).trans ((x3_at m c t ht _ _).trans (congrArg (A0 m c) (congrArg₂ ix2 (Fin.ext ?_) (Fin.ext ?_)))) <;> dsimp only <;> omega
    case piece1 =>
      refine (v10_2 (X0_3 m c t) x (x 3) ⟨128 + (x 2).val, by omega⟩ rfl rfl).trans ((x3_at m c t ht _ _).trans (congrArg (A0 m c) (congrArg₂ ix2 (Fin.ext ?_) (Fin.ext ?_)))) <;> dsimp only <;> omega
    case piece2 =>
      refine (v10_1 (X0_3 m c t) x (x 3) ⟨64 + (x 2).val, by omega⟩ rfl rfl).trans ((x3_at m c t ht _ _).trans (congrArg (A0 m c) (congrArg₂ ix2 (Fin.ext ?_) (Fin.ext ?_)))) <;> dsimp only <;> omega
    case piece3 =>
      refine (v10_0 (X0_3 m c t) x (x 3) ⟨0 + (x 2).val, by omega⟩ rfl rfl).trans ((x3_at m c t ht _ _).trans (congrArg (A0 m c) (congrArg₂ ix2 (Fin.ext ?_) (Fin.ext ?_)))) <;> dsimp only <;> omega
  · rw [outsAt0_B m c t h0 (by omega)]
    dsimp only
    unfold out0_B_10
    frame_out
    canon_tiles x e using View.cover_of_tiledBy _ ![1, 1, 64, 1024] (by sl_kernel_rfl) y
    case piece0 =>
      refine (v10_3 (X0_3 m c t) x (x 3) ⟨192 + (x 2).val, by omega⟩ rfl rfl).trans ((x3_at m c t ht _ _).trans (congrArg (A0 m c) (congrArg₂ ix2 (Fin.ext ?_) (Fin.ext ?_)))) <;> dsimp only <;> omega
    case piece1 =>
      refine (v10_2 (X0_3 m c t) x (x 3) ⟨128 + (x 2).val, by omega⟩ rfl rfl).trans ((x3_at m c t ht _ _).trans (congrArg (A0 m c) (congrArg₂ ix2 (Fin.ext ?_) (Fin.ext ?_)))) <;> dsimp only <;> omega
    case piece2 =>
      refine (v10_1 (X0_3 m c t) x (x 3) ⟨64 + (x 2).val, by omega⟩ rfl rfl).trans ((x3_at m c t ht _ _).trans (congrArg (A0 m c) (congrArg₂ ix2 (Fin.ext ?_) (Fin.ext ?_)))) <;> dsimp only <;> omega
    case piece3 =>
      refine (v10_0 (X0_3 m c t) x (x 3) ⟨0 + (x 2).val, by omega⟩ rfl rfl).trans ((x3_at m c t ht _ _).trans (congrArg (A0 m c) (congrArg₂ ix2 (Fin.ext ?_) (Fin.ext ?_)))) <;> dsimp only <;> omega
end Cert.Kernel4Ideal.Kprep
-- ==== Proof.KpKeys.lean ====
module

public import proofs.«01_k».proof.Proof.KpRead
public import proofs.«01_k».proof.Proof.KpBody
public import proofs.«01_k».proof.Proof.KpOut

@[expose] public section

set_option maxRecDepth 16384
/- The arrays the key preparation leaves: the values with the position last, the keys laid out, and the running largest squared lengths. -/
noncomputable section
open Idealize.ShloMosaic Idealize.ShloMosaic.TcCoe Idealize.SL.Sem
open Idealize.ShloMosaic.Pipeline (Dat)
namespace Cert.Kernel4Ideal.Kprep
open Cert.Kernel4Ideal Cert.Kernel4Ideal.Gen
variable (m : (ℓ : Loc nD τ sig) → Buf (Elt Ideal) ℓ)

theorem at_eq (A : Fin 16384 → Fin 5248 → EReal) (j : Fin 4) (e : Fin 2) {p q : Fin 8192} {g g2 : Fin 4} (hp : p = q) (hg : g = g2) (d : Fin 64) :
    Cert.Kprep.scaled (Cert.Kprep.row A j e p g) p d = Cert.Kprep.scaled (Cert.Kprep.row A j e q g2) q d := by rw [hp, hg]
theorem ite_eq {a b k l : ℕ} (h : a = b ∧ k = l) : (if a = k then (1 : EReal) else 0) = if b = l then 1 else 0 := by rw [h.1, h.2]

def G7 (c : Dev nD) (j : S2x4x8192x256.Idx) : EReal := Cert.Kprep.out0 (AA m c) (j 0) (j 1) (j 2) (j 3)

set_option maxHeartbeats 4000000 in
theorem final7 (c : Dev nD) (hrot : ∀ q l, A1 m c (ix2 q l) = Cert.Kprep.rotm q l) : (dats m 0 c).arrAt 7 cfg0.N = fun j => G7 m c j := by
  refine (dats m 0 c).arrAt_eq_of_covers 7 (fun j => G7 m c j) (by decide +kernel) fun t _ y => ?_
  have ht : t.val < 16 := lt_of_lt_of_eq t.isLt N16
  have y1 : (y 1).val < 4 := (y 1).isLt
  have y2 : (y 2).val < 1024 := (y 2).isLt
  have y3 : (y 3).val < 256 := (y 3).isLt
  have eG : G7 m c (((View.whole main_v27_0).slice (win0_7.rect t)).emb y) = Cert.Kprep.out0 (AA m c) ⟨t.val / 8, by omega⟩ ⟨(y 1).val, y1⟩ ⟨t.val % 8 * 1024 + (y 2).val, by omega⟩ ⟨(y 3).val, y3⟩ := by
    unfold G7
    refine congr (congr (congr (congrArg (Cert.Kprep.out0 (AA m c)) (Fin.ext ?_)) (Fin.ext ?_)) (Fin.ext ?_)) (Fin.ext ?_)
    all_goals blk_simp [idx t]
  blk_simp
  refine Eq.trans ?_ eG.symm
  rw [after0_7]
  by_cases h0 : t.val % 8 = 0
  · rw [outsAt0_A m c t h0 (by omega)]
    dsimp only
    unfold out0_A_7
    frame_out
    canon_tiles x e using View.cover_of_tiledBy _ ![1, 1, 1024, 64] (by sl_kernel_rfl) y
    case piece0 => exact (o_43 x).trans (Cert.Kprep.out0_hi (AA m c) _ _ _ _ (x 3).val (by dsimp only; omega)).symm
    case piece1 =>
      refine (k7_3 (k0_pay8 (iblk m c 4 t) (iblk m c 5 t) (iblk m c 6 t) (X0_0 m c t)) x (x 2) ⟨3 * 64 + (x 3).val, by omega⟩ rfl rfl).trans ((keyS m c hrot t ht (x 2) 3 ⟨(x 3).val, by omega⟩ _ rfl).trans ?_)
      refine Eq.trans ?_ (Cert.Kprep.out0_mid (AA m c) _ _ _ _ ⟨(x 3).val, by omega⟩ (by dsimp only; omega)).symm
      exact at_eq (AA m c) 0 _ (Fin.ext (by dsimp only; omega)) (Fin.ext (by show 3 = (y 1).val; omega)) _
    case piece2 =>
      refine (b_41 (k0_pay5 (grid0.coords t)) x).trans ((pay5_at (grid0.coords t) (x 2) (x 3) (by rw [coord]; omega)).trans ?_)
      refine Eq.trans ?_ (Cert.Kprep.out0_lo (AA m c) _ _ _ _ (by dsimp only; omega)).symm
      rw [coord]
      exact ite_eq (by dsimp only; omega)
    case piece3 => exact (o_35 x).trans (Cert.Kprep.out0_hi (AA m c) _ _ _ _ (x 3).val (by dsimp only; omega)).symm
    case piece4 =>
      refine (k7_2 (k0_pay8 (iblk m c 4 t) (iblk m c 5 t) (iblk m c 6 t) (X0_0 m c t)) x (x 2) ⟨2 * 64 + (x 3).val, by omega⟩ rfl rfl).trans ((keyS m c hrot t ht (x 2) 2 ⟨(x 3).val, by omega⟩ _ rfl).trans ?_)
      refine Eq.trans ?_ (Cert.Kprep.out0_mid (AA m c) _ _ _ _ ⟨(x 3).val, by omega⟩ (by dsimp only; omega)).symm
      exact at_eq (AA m c) 0 _ (Fin.ext (by dsimp only; omega)) (Fin.ext (by show 2 = (y 1).val; omega)) _
    case piece5 =>
      refine (b_33 (k0_pay5 (grid0.coords t)) x).trans ((pay5_at (grid0.coords t) (x 2) (x 3) (by rw [coord]; omega)).trans ?_)
      refine Eq.trans ?_ (Cert.Kprep.out0_lo (AA m c) _ _ _ _ (by dsimp only; omega)).symm
      rw [coord]
      exact ite_eq (by dsimp only; omega)
    case piece6 => exact (o_27 x).trans (Cert.Kprep.out0_hi (AA m c) _ _ _ _ (x 3).val (by dsimp only; omega)).symm
    case piece7 =>
      refine (k7_1 (k0_pay8 (iblk m c 4 t) (iblk m c 5 t) (iblk m c 6 t) (X0_0 m c t)) x (x 2) ⟨1 * 64 + (x 3).val, by omega⟩ rfl rfl).trans ((keyS m c hrot t ht (x 2) 1 ⟨(x 3).val, by omega⟩ _ rfl).trans ?_)
      refine Eq.trans ?_ (Cert.Kprep.out0_mid (AA m c) _ _ _ _ ⟨(x 3).val, by omega⟩ (by dsimp only; omega)).symm
      exact at_eq (AA m c) 0 _ (Fin.ext (by dsimp only; omega)) (Fin.ext (by show 1 = (y 1).val; omega)) _
    case piece8 =>
      refine (b_25 (k0_pay5 (grid0.coords t)) x).trans ((pay5_at (grid0.coords t) (x 2) (x 3) (by rw [coord]; omega)).trans ?_)
      refine Eq.trans ?_ (Cert.Kprep.out0_lo (AA m c) _ _ _ _ (by dsimp only; omega)).symm
      rw [coord]
      exact ite_eq (by dsimp only; omega)
    case piece9 => exact (o_19 x).trans (Cert.Kprep.out0_hi (AA m c) _ _ _ _ (x 3).val (by dsimp only; omega)).symm
    case piece10 =>
      refine (k7_0 (k0_pay8 (iblk m c 4 t) (iblk m c 5 t) (iblk m c 6 t) (X0_0 m c t)) x (x 2) ⟨0 * 64 + (x 3).val, by omega⟩ rfl rfl).trans ((keyS m c hrot t ht (x 2) 0 ⟨(x 3).val, by omega⟩ _ rfl).trans ?_)
      refine Eq.trans ?_ (Cert.Kprep.out0_mid (AA m c) _ _ _ _ ⟨(x 3).val, by omega⟩ (by dsimp only; omega)).symm
      exact at_eq (AA m c) 0 _ (Fin.ext (by dsimp only; omega)) (Fin.ext (by show 0 = (y 1).val; omega)) _
    case piece11 =>
      refine (b_17 (k0_pay5 (grid0.coords t)) x).trans ((pay5_at (grid0.coords t) (x 2) (x 3) (by rw [coord]; omega)).trans ?_)
      refine Eq.trans ?_ (Cert.Kprep.out0_lo (AA m c) _ _ _ _ (by dsimp only; omega)).symm
      rw [coord]
      exact ite_eq (by dsimp only; omega)
  · rw [outsAt0_B m c t h0 (by omega)]
    dsimp only
    unfold out0_B_7
    frame_out
    canon_tiles x e using View.cover_of_tiledBy _ ![1, 1, 1024, 64] (by sl_kernel_rfl) y
    case piece0 => exact (o_43 x).trans (Cert.Kprep.out0_hi (AA m c) _ _ _ _ (x 3).val (by dsimp only; omega)).symm
    case piece1 =>
      refine (k7_3 (k0_pay8 (iblk m c 4 t) (iblk m c 5 t) (iblk m c 6 t) (X0_0 m c t)) x (x 2) ⟨3 * 64 + (x 3).val, by omega⟩ rfl rfl).trans ((keyS m c hrot t ht (x 2) 3 ⟨(x 3).val, by omega⟩ _ rfl).trans ?_)
      refine Eq.trans ?_ (Cert.Kprep.out0_mid (AA m c) _ _ _ _ ⟨(x 3).val, by omega⟩ (by dsimp only; omega)).symm
      exact at_eq (AA m c) 0 _ (Fin.ext (by dsimp only; omega)) (Fin.ext (by show 3 = (y 1).val; omega)) _
    case piece2 =>
      refine (b_41 (k0_pay5 (grid0.coords t)) x).trans ((pay5_at (grid0.coords t) (x 2) (x 3) (by rw [coord]; omega)).trans ?_)
      refine Eq.trans ?_ (Cert.Kprep.out0_lo (AA m c) _ _ _ _ (by dsimp only; omega)).symm
      rw [coord]
      exact ite_eq (by dsimp only; omega)
    case piece3 => exact (o_35 x).trans (Cert.Kprep.out0_hi (AA m c) _ _ _ _ (x 3).val (by dsimp only; omega)).symm
    case piece4 =>
      refine (k7_2 (k0_pay8 (iblk m c 4 t) (iblk m c 5 t) (iblk m c 6 t) (X0_0 m c t)) x (x 2) ⟨2 * 64 + (x 3).val, by omega⟩ rfl rfl).trans ((keyS m c hrot t ht (x 2) 2 ⟨(x 3).val, by omega⟩ _ rfl).trans ?_)
      refine Eq.trans ?_ (Cert.Kprep.out0_mid (AA m c) _ _ _ _ ⟨(x 3).val, by omega⟩ (by dsimp only; omega)).symm
      exact at_eq (AA m c) 0 _ (Fin.ext (by dsimp only; omega)) (Fin.ext (by show 2 = (y 1).val; omega)) _
    case piece5 =>
      refine (b_33 (k0_pay5 (grid0.coords t)) x).trans ((pay5_at (grid0.coords t) (x 2) (x 3) (by rw [coord]; omega)).trans ?_)
      refine Eq.trans ?_ (Cert.Kprep.out0_lo (AA m c) _ _ _ _ (by dsimp only; omega)).symm
      rw [coord]
      exact ite_eq (by dsimp only; omega)
    case piece6 => exact (o_27 x).trans (Cert.Kprep.out0_hi (AA m c) _ _ _ _ (x 3).val (by dsimp only; omega)).symm
    case piece7 =>
      refine (k7_1 (k0_pay8 (iblk m c 4 t) (iblk m c 5 t) (iblk m c 6 t) (X0_0 m c t)) x (x 2) ⟨1 * 64 + (x 3).val, by omega⟩ rfl rfl).trans ((keyS m c hrot t ht (x 2) 1 ⟨(x 3).val, by omega⟩ _ rfl).trans ?_)
      refine Eq.trans ?_ (Cert.Kprep.out0_mid (AA m c) _ _ _ _ ⟨(x 3).val, by omega⟩ (by dsimp only; omega)).symm
      exact at_eq (AA m c) 0 _ (Fin.ext (by dsimp only; omega)) (Fin.ext (by show 1 = (y 1).val; omega)) _
    case piece8 =>
      refine (b_25 (k0_pay5 (grid0.coords t)) x).trans ((pay5_at (grid0.coords t) (x 2) (x 3) (by rw [coord]; omega)).trans ?_)
      refine Eq.trans ?_ (Cert.Kprep.out0_lo (AA m c) _ _ _ _ (by dsimp only; omega)).symm
      rw [coord]
      exact ite_eq (by dsimp only; omega)
    case piece9 => exact (o_19 x).trans (Cert.Kprep.out0_hi (AA m c) _ _ _ _ (x 3).val (by dsimp only; omega)).symm
    case piece10 =>
      refine (k7_0 (k0_pay8 (iblk m c 4 t) (iblk m c 5 t) (iblk m c 6 t) (X0_0 m c t)) x (x 2) ⟨0 * 64 + (x 3).val, by omega⟩ rfl rfl).trans ((keyS m c hrot t ht (x 2) 0 ⟨(x 3).val, by omega⟩ _ rfl).trans ?_)
      refine Eq.trans ?_ (Cert.Kprep.out0_mid (AA m c) _ _ _ _ ⟨(x 3).val, by omega⟩ (by dsimp only; omega)).symm
      exact at_eq (AA m c) 0 _ (Fin.ext (by dsimp only; omega)) (Fin.ext (by show 0 = (y 1).val; omega)) _
    case piece11 =>
      refine (b_17 (k0_pay5 (grid0.coords t)) x).trans ((pay5_at (grid0.coords t) (x 2) (x 3) (by rw [coord]; omega)).trans ?_)
      refine Eq.trans ?_ (Cert.Kprep.out0_lo (AA m c) _ _ _ _ (by dsimp only; omega)).symm
      rw [coord]
      exact ite_eq (by dsimp only; omega)

def G9 (c : Dev nD) (j : S2x4x8192x128.Idx) : EReal := Cert.Kprep.out2 (AA m c) (j 0) (j 1) (j 2) (j 3)

set_option maxHeartbeats 4000000 in
theorem final9 (c : Dev nD) (hrot : ∀ q l, A1 m c (ix2 q l) = Cert.Kprep.rotm q l) : (dats m 0 c).arrAt 9 cfg0.N = fun j => G9 m c j := by
  refine (dats m 0 c).arrAt_eq_of_covers 9 (fun j => G9 m c j) (by decide +kernel) fun t _ y => ?_
  have ht : t.val < 16 := lt_of_lt_of_eq t.isLt N16
  have y1 : (y 1).val < 4 := (y 1).isLt
  have y2 : (y 2).val < 1024 := (y 2).isLt
  have y3 : (y 3).val < 128 := (y 3).isLt
  have eG : G9 m c (((View.whole main_v27_2).slice (win0_9.rect t)).emb y) = Cert.Kprep.out2 (AA m c) ⟨t.val / 8, by omega⟩ ⟨(y 1).val, y1⟩ ⟨t.val % 8 * 1024 + (y 2).val, by omega⟩ ⟨(y 3).val, y3⟩ := by
    unfold G9
    refine congr (congr (congr (congrArg (Cert.Kprep.out2 (AA m c)) (Fin.ext ?_)) (Fin.ext ?_)) (Fin.ext ?_)) (Fin.ext ?_)
    all_goals blk_simp [idx t]
  blk_simp
  refine Eq.trans ?_ eG.symm
  rw [after0_9]
  by_cases h0 : t.val % 8 = 0
  · rw [outsAt0_A m c t h0 (by omega)]
    dsimp only
    unfold out0_A_9
    frame_out
    canon_tiles x e using View.cover_of_tiledBy _ ![1, 1, 1024, 64] (by sl_kernel_rfl) y
    case piece0 => exact (o_45 x).trans (Cert.Kprep.out2_hi (AA m c) _ _ _ _ (x 3).val (by dsimp only; omega)).symm
    case piece1 =>
      refine (k9_3 (k0_pay9 (k0_pay7 (iblk m c 4 t) (iblk m c 5 t) (iblk m c 6 t) (X0_2 m c t))) x (x 2) ⟨3 * 64 + (x 3).val, by omega⟩ rfl rfl).trans ((keyW m c hrot t ht (x 2) 3 ⟨(x 3).val, by omega⟩ _ rfl).trans ?_)
      refine Eq.trans ?_ (Cert.Kprep.out2_lo (AA m c) _ _ _ _ ⟨(x 3).val, by omega⟩ (by dsimp only; omega)).symm
      exact at_eq (AA m c) 2 _ (Fin.ext (by dsimp only; omega)) (Fin.ext (by show 3 = (y 1).val; omega)) _
    case piece2 => exact (o_37 x).trans (Cert.Kprep.out2_hi (AA m c) _ _ _ _ (x 3).val (by dsimp only; omega)).symm
    case piece3 =>
      refine (k9_2 (k0_pay9 (k0_pay7 (iblk m c 4 t) (iblk m c 5 t) (iblk m c 6 t) (X0_2 m c t))) x (x 2) ⟨2 * 64 + (x 3).val, by omega⟩ rfl rfl).trans ((keyW m c hrot t ht (x 2) 2 ⟨(x 3).val, by omega⟩ _ rfl).trans ?_)
      refine Eq.trans ?_ (Cert.Kprep.out2_lo (AA m c) _ _ _ _ ⟨(x 3).val, by omega⟩ (by dsimp only; omega)).symm
      exact at_eq (AA m c) 2 _ (Fin.ext (by dsimp only; omega)) (Fin.ext (by show 2 = (y 1).val; omega)) _
    case piece4 => exact (o_29 x).trans (Cert.Kprep.out2_hi (AA m c) _ _ _ _ (x 3).val (by dsimp only; omega)).symm
    case piece5 =>
      refine (k9_1 (k0_pay9 (k0_pay7 (iblk m c 4 t) (iblk m c 5 t) (iblk m c 6 t) (X0_2 m c t))) x (x 2) ⟨1 * 64 + (x 3).val, by omega⟩ rfl rfl).trans ((keyW m c hrot t ht (x 2) 1 ⟨(x 3).val, by omega⟩ _ rfl).trans ?_)
      refine Eq.trans ?_ (Cert.Kprep.out2_lo (AA m c) _ _ _ _ ⟨(x 3).val, by omega⟩ (by dsimp only; omega)).symm
      exact at_eq (AA m c) 2 _ (Fin.ext (by dsimp only; omega)) (Fin.ext (by show 1 = (y 1).val; omega)) _
    case piece6 => exact (o_21 x).trans (Cert.Kprep.out2_hi (AA m c) _ _ _ _ (x 3).val (by dsimp only; omega)).symm
    case piece7 =>
      refine (k9_0 (k0_pay9 (k0_pay7 (iblk m c 4 t) (iblk m c 5 t) (iblk m c 6 t) (X0_2 m c t))) x (x 2) ⟨0 * 64 + (x 3).val, by omega⟩ rfl rfl).trans ((keyW m c hrot t ht (x 2) 0 ⟨(x 3).val, by omega⟩ _ rfl).trans ?_)
      refine Eq.trans ?_ (Cert.Kprep.out2_lo (AA m c) _ _ _ _ ⟨(x 3).val, by omega⟩ (by dsimp only; omega)).symm
      exact at_eq (AA m c) 2 _ (Fin.ext (by dsimp only; omega)) (Fin.ext (by show 0 = (y 1).val; omega)) _
  · rw [outsAt0_B m c t h0 (by omega)]
    dsimp only
    unfold out0_B_9
    frame_out
    canon_tiles x e using View.cover_of_tiledBy _ ![1, 1, 1024, 64] (by sl_kernel_rfl) y
    case piece0 => exact (o_45 x).trans (Cert.Kprep.out2_hi (AA m c) _ _ _ _ (x 3).val (by dsimp only; omega)).symm
    case piece1 =>
      refine (k9_3 (k0_pay9 (k0_pay7 (iblk m c 4 t) (iblk m c 5 t) (iblk m c 6 t) (X0_2 m c t))) x (x 2) ⟨3 * 64 + (x 3).val, by omega⟩ rfl rfl).trans ((keyW m c hrot t ht (x 2) 3 ⟨(x 3).val, by omega⟩ _ rfl).trans ?_)
      refine Eq.trans ?_ (Cert.Kprep.out2_lo (AA m c) _ _ _ _ ⟨(x 3).val, by omega⟩ (by dsimp only; omega)).symm
      exact at_eq (AA m c) 2 _ (Fin.ext (by dsimp only; omega)) (Fin.ext (by show 3 = (y 1).val; omega)) _
    case piece2 => exact (o_37 x).trans (Cert.Kprep.out2_hi (AA m c) _ _ _ _ (x 3).val (by dsimp only; omega)).symm
    case piece3 =>
      refine (k9_2 (k0_pay9 (k0_pay7 (iblk m c 4 t) (iblk m c 5 t) (iblk m c 6 t) (X0_2 m c t))) x (x 2) ⟨2 * 64 + (x 3).val, by omega⟩ rfl rfl).trans ((keyW m c hrot t ht (x 2) 2 ⟨(x 3).val, by omega⟩ _ rfl).trans ?_)
      refine Eq.trans ?_ (Cert.Kprep.out2_lo (AA m c) _ _ _ _ ⟨(x 3).val, by omega⟩ (by dsimp only; omega)).symm
      exact at_eq (AA m c) 2 _ (Fin.ext (by dsimp only; omega)) (Fin.ext (by show 2 = (y 1).val; omega)) _
    case piece4 => exact (o_29 x).trans (Cert.Kprep.out2_hi (AA m c) _ _ _ _ (x 3).val (by dsimp only; omega)).symm
    case piece5 =>
      refine (k9_1 (k0_pay9 (k0_pay7 (iblk m c 4 t) (iblk m c 5 t) (iblk m c 6 t) (X0_2 m c t))) x (x 2) ⟨1 * 64 + (x 3).val, by omega⟩ rfl rfl).trans ((keyW m c hrot t ht (x 2) 1 ⟨(x 3).val, by omega⟩ _ rfl).trans ?_)
      refine Eq.trans ?_ (Cert.Kprep.out2_lo (AA m c) _ _ _ _ ⟨(x 3).val, by omega⟩ (by dsimp only; omega)).symm
      exact at_eq (AA m c) 2 _ (Fin.ext (by dsimp only; omega)) (Fin.ext (by show 1 = (y 1).val; omega)) _
    case piece6 => exact (o_21 x).trans (Cert.Kprep.out2_hi (AA m c) _ _ _ _ (x 3).val (by dsimp only; omega)).symm
    case piece7 =>
      refine (k9_0 (k0_pay9 (k0_pay7 (iblk m c 4 t) (iblk m c 5 t) (iblk m c 6 t) (X0_2 m c t))) x (x 2) ⟨0 * 64 + (x 3).val, by omega⟩ rfl rfl).trans ((keyW m c hrot t ht (x 2) 0 ⟨(x 3).val, by omega⟩ _ rfl).trans ?_)
      refine Eq.trans ?_ (Cert.Kprep.out2_lo (AA m c) _ _ _ _ ⟨(x 3).val, by omega⟩ (by dsimp only; omega)).symm
      exact at_eq (AA m c) 2 _ (Fin.ext (by dsimp only; omega)) (Fin.ext (by show 0 = (y 1).val; omega)) _

theorem accA (c : Dev nD) (t : Fin cfg0.N) (h0 : t.val % 8 = 0) (i : Fin 8) (n : Fin 128) : (outsAt0 m c t.val t.isLt).2.2.2.2 (ix3 0 i n)
    = k0_pay10 (k0_pay6 (iblk m c 4 t) (iblk m c 5 t) (iblk m c 6 t) (X0_0 m c t)) (k0_pay7 (iblk m c 4 t) (iblk m c 5 t) (iblk m c 6 t) (X0_2 m c t)) (ix2 i n) := by
  rw [outsAt0_A m c t h0 (by omega)]
  dsimp only
  unfold out0_A_11
  refine Eq.trans ?_ (pay11_at _ _ i n)
  frame_out
theorem accB (c : Dev nD) (t : Fin cfg0.N) (h0 : ¬t.val % 8 = 0) (i : Fin 8) (n : Fin 128) : (outsAt0 m c t.val t.isLt).2.2.2.2 (ix3 0 i n)
    = max ((outsAt0 m c (t.val - 1) (Nat.lt_of_le_of_lt (Nat.sub_le _ _) t.isLt)).2.2.2.2 (ix3 0 i n)) (k0_pay10 (k0_pay6 (iblk m c 4 t) (iblk m c 5 t) (iblk m c 6 t) (X0_0 m c t)) (k0_pay7 (iblk m c 4 t) (iblk m c 5 t) (iblk m c 6 t) (X0_2 m c t)) (ix2 i n)) := by
  rw [outsAt0_B m c t h0 (by omega)]
  dsimp only
  unfold out0_B_11
  refine Eq.trans ?_ (pay12_at _ _ _ i n)
  frame_out
theorem first_eq (A : Fin 16384 → Fin 5248 → EReal) (k : Fin 128) (z : EReal) {e e2 : Fin 2} {p p2 : Fin 8192} (he : e = e2) (hp : p = p2) (h : Cert.Kprep.lens A e k p ≤ z) : Cert.Kprep.lens A e2 k p2 ≤ z := by
  rw [← he, ← hp]
  exact h
/-- A tile's largest squared lengths, by the bounds above them. -/
theorem tile_le (c : Dev nD) (hrot : ∀ q l, A1 m c (ix2 q l) = Cert.Kprep.rotm q l) (t : Fin cfg0.N) (ht : t.val < 16) (i : Fin 8) (n : Fin 128) (z : EReal) :
    k0_pay10 (k0_pay6 (iblk m c 4 t) (iblk m c 5 t) (iblk m c 6 t) (X0_0 m c t)) (k0_pay7 (iblk m c 4 t) (iblk m c 5 t) (iblk m c 6 t) (X0_2 m c t)) (ix2 i n) ≤ z
      ↔ ∀ r : Fin 1024, Cert.Kprep.lens (AA m c) ⟨t.val / 8, by omega⟩ n ⟨t.val % 8 * 1024 + r.val, by omega⟩ ≤ z := by
  rw [pay10_le]
  refine forall_congr' fun r => ?_
  refine iff_of_eq (congrArg (· ≤ z) ?_)
  unfold Cert.Kprep.lens Cert.Kprep.len
  refine dite_congr rfl (fun hn => ?_) (fun hn => dite_congr rfl (fun hn2 => ?_) (fun _ => rfl))
  · refine Finset.sum_congr rfl fun d _ => ?_
    rw [keyS m c hrot t ht r ⟨n.val, hn⟩ d _ rfl]
  · refine Finset.sum_congr rfl fun d _ => ?_
    rw [keyW m c hrot t ht r ⟨n.val - 4, hn2⟩ d _ rfl]
/-- After a tile: the largest over all the batch's positions so far. -/
theorem acc (c : Dev nD) (hrot : ∀ q l, A1 m c (ix2 q l) = Cert.Kprep.rotm q l) (i : Fin 8) (k : Fin 128) (z : EReal) : ∀ (n : ℕ) (hn : n < cfg0.N) (hn2 : n < 16),
    (outsAt0 m c n hn).2.2.2.2 (ix3 0 i k) ≤ z ↔ ∀ p : Fin 8192, p.val < (n % 8 + 1) * 1024 → Cert.Kprep.lens (AA m c) ⟨n / 8, by omega⟩ k p ≤ z := by
  intro n
  induction n with
  | zero =>
    intro hn hn2
    rw [show (outsAt0 m c 0 hn).2.2.2.2 (ix3 0 i k) = _ from accA m c ⟨0, hn⟩ rfl i k, tile_le m c hrot ⟨0, hn⟩ hn2]
    constructor
    · intro H p hp
      exact first_eq (AA m c) k z (Fin.ext rfl) (Fin.ext (by dsimp only; omega)) (H ⟨p.val, by omega⟩)
    · intro H r
      exact first_eq (AA m c) k z (Fin.ext rfl) rfl (H _ (by dsimp only; omega))
  | succ n ih =>
    intro hn hn2
    by_cases h0 : (n + 1) % 8 = 0
    · rw [show (outsAt0 m c (n + 1) hn).2.2.2.2 (ix3 0 i k) = _ from accA m c ⟨n + 1, hn⟩ h0 i k, tile_le m c hrot ⟨n + 1, hn⟩ hn2]
      constructor
      · intro H p hp
        exact first_eq (AA m c) k z (Fin.ext rfl) (Fin.ext (by dsimp only; omega)) (H ⟨p.val, by omega⟩)
      · intro H r
        exact first_eq (AA m c) k z (Fin.ext rfl) rfl (H _ (by dsimp only; omega))
    · rw [show (outsAt0 m c (n + 1) hn).2.2.2.2 (ix3 0 i k) = _ from accB m c ⟨n + 1, hn⟩ h0 i k, max_le_iff, tile_le m c hrot ⟨n + 1, hn⟩ hn2]
      have hi := ih (Nat.lt_of_succ_lt hn) (by omega)
      constructor
      · rintro ⟨H1, H2⟩ p hp
        by_cases hq : p.val < (n % 8 + 1) * 1024
        · exact first_eq (AA m c) k z (Fin.ext (by dsimp only; omega)) rfl (hi.mp H1 p hq)
        · exact first_eq (AA m c) k z (Fin.ext rfl) (Fin.ext (by dsimp only; omega)) (H2 ⟨p.val - (n + 1) % 8 * 1024, by omega⟩)
      · intro H
        refine ⟨hi.mpr fun p hp => ?_, fun r => ?_⟩
        · exact first_eq (AA m c) k z (Fin.ext (by dsimp only; omega)) rfl (H p (by omega))
        · exact first_eq (AA m c) k z (Fin.ext rfl) rfl (H _ (by dsimp only; omega))

def G11 (c : Dev nD) (j : S2x8x128.Idx) : EReal := Cert.Kprep.out4 (AA m c) (j 0) (j 2)
theorem last11 : ∀ t : Fin cfg0.N, (cfg0.win 11).flush t = true → t.val % 8 = 7 := (by decide +kernel : ∀ t : Fin grid0.N, _)

set_option maxHeartbeats 4000000 in
theorem final11 (c : Dev nD) (hrot : ∀ q l, A1 m c (ix2 q l) = Cert.Kprep.rotm q l) : (dats m 0 c).arrAt 11 cfg0.N = fun j => G11 m c j := by
  refine (dats m 0 c).arrAt_eq_of_covers 11 (fun j => G11 m c j) (by decide +kernel) fun t hf y => ?_
  have ht : t.val < 16 := lt_of_lt_of_eq t.isLt N16
  have h7 := last11 t hf
  have y0 : (y 0).val < 1 := (y 0).isLt
  have y1 : (y 1).val < 8 := (y 1).isLt
  have y2 : (y 2).val < 128 := (y 2).isLt
  have eG : G11 m c (((View.whole main_v27_4).slice (win0_11.rect t)).emb y) = Cert.Kprep.out4 (AA m c) ⟨t.val / 8, by omega⟩ ⟨(y 2).val, y2⟩ := by
    unfold G11
    refine congr (congrArg (Cert.Kprep.out4 (AA m c)) (Fin.ext ?_)) (Fin.ext ?_)
    all_goals blk_simp [idx t]
  blk_simp
  refine Eq.trans ?_ eG.symm
  rw [after0_11]
  refine Eq.trans (b := (outsAt0 m c t.val t.isLt).2.2.2.2 (ix3 0 ⟨(y 1).val, y1⟩ ⟨(y 2).val, y2⟩)) ?_ ?_
  · refine congrArg _ ?_
    blk_ext [idx t]
  refine eq_of_forall_ge_iff fun z => ?_
  rw [acc m c hrot ⟨(y 1).val, y1⟩ ⟨(y 2).val, y2⟩ z t.val t.isLt ht, Cert.Kprep.out4_le]
  exact ⟨fun H p => H p (by rw [h7]; omega), fun H p _ => H p⟩
end Cert.Kernel4Ideal.Kprep
-- ==== Proof.KpRef.lean ====
module

public import proofs.«01_k».proof.Proof.Gen.Reference4Ideal.Run
public import proofs.«01_k».proof.Proof.KpSpec
public import Idealize.ShloMosaic.Lib.Pointwise

@[expose] public section

set_option maxRecDepth 16384
/- The reference's five results of the key preparation, read at an index. -/
noncomputable section
open Idealize.ShloMosaic Idealize.ShloMosaic.TcCoe Idealize.SL.Sem
namespace Cert.Reference4Ideal.Kprep
open Cert.Reference4Ideal Cert.Reference4Ideal.Facts₀ Cert.Reference4Ideal.Facts Cert.Reference4Ideal.Value
variable (m : (ℓ : Loc nD τ sig) → Buf (Elt Ideal) ℓ)

abbrev A0 (c : Dev nD) : FVec Ideal S16384x5248 .bf16 := m ((c.tc : Thread nD τ).loc main_arg0)

/-- The projection with its batches apart. -/
def wide (x : FVec Ideal S16384x5248 .bf16) : FVec Ideal S2x8192x5248 .f32 := shapeCast _ (extf .f32 x bitsLt_bf16_f32) shapeCasts_S16384x5248_S2x8192x5248
/-- The four parts, a group at a time. -/
def part0 (w : FVec Ideal S2x8192x5248 .f32) : FVec Ideal S2x8192x4x64 .f32 := shapeCast _ (extractStridedSlice S2x8192x256 ![0, 0, 2048] w slices_S2x8192x5248_S2x8192x256_0_0_2048) shapeCasts_S2x8192x256_S2x8192x4x64
def part1 (w : FVec Ideal S2x8192x5248 .f32) : FVec Ideal S2x8192x4x64 .f32 := shapeCast _ (extractStridedSlice S2x8192x256 ![0, 0, 2304] w slices_S2x8192x5248_S2x8192x256_0_0_2304) shapeCasts_S2x8192x256_S2x8192x4x64
def part2 (w : FVec Ideal S2x8192x5248 .f32) : FVec Ideal S2x8192x4x64 .f32 := shapeCast _ (extractStridedSlice S2x8192x256 ![0, 0, 2560] w slices_S2x8192x5248_S2x8192x256_0_0_2560) shapeCasts_S2x8192x256_S2x8192x4x64
def part3 (w : FVec Ideal S2x8192x5248 .f32) : FVec Ideal S2x8192x4x64 .f32 := shapeCast _ (extractStridedSlice S2x8192x256 ![0, 0, 2816] w slices_S2x8192x5248_S2x8192x256_0_0_2816) shapeCasts_S2x8192x256_S2x8192x4x64
/-- The angles. -/
def ang : FVec Ideal S8192x8 .f32 :=
  mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32)))))))
def over (f : FVec Ideal S8192x8 .f32) : FVec Ideal S2x8192x4x8 .f32 := broadcastInDim S2x8192x4x8 ![0, 1, 2, 3] bcast_S1x8192x1x8_S2x8192x4x8_0_1_2_3 (broadcastInDim S1x8192x1x8 ![1, 3] bcast_S8192x8_S1x8192x1x8_1_3 f)
def low (x : FVec Ideal S2x8192x4x64 .f32) : FVec Ideal S2x8192x4x8 .f32 := extractStridedSlice S2x8192x4x8 ![0, 0, 0, 0] x slices_S2x8192x4x64_S2x8192x4x8_0_0_0_0
def high (x : FVec Ideal S2x8192x4x64 .f32) : FVec Ideal S2x8192x4x8 .f32 := extractStridedSlice S2x8192x4x8 ![0, 0, 0, 8] x slices_S2x8192x4x64_S2x8192x4x8_0_0_0_8
/-- The turned keys with the score's scale. -/
def key (x : FVec Ideal S2x8192x4x64 .f32) : FVec Ideal S2x8192x4x64 .f32 :=
  mulf (concatenate S2x8192x4x64 3 [⟨S2x8192x4x8, (subf (mulf (low x) (over (Host.cos ang))) (mulf (high x) (over (Host.sin ang))))⟩, ⟨S2x8192x4x8, (addf (mulf (high x) (over (Host.cos ang))) (mulf (low x) (over (Host.sin ang))))⟩, ⟨S2x8192x4x48, (extractStridedSlice S2x8192x4x48 ![0, 0, 0, 16] x slices_S2x8192x4x64_S2x8192x4x48_0_0_0_16)⟩] concatenates_S2x8192x4x8_S2x8192x4x8_S2x8192x4x48_S2x8192x4x64_d3)
    (broadcastInDim S2x8192x4x64 ![] bcast_S_S2x8192x4x64 (constant S_ .f32 0x3E38AA3B#32))
/-- The largest squared lengths of the keys. -/
def maxlen (k : FVec Ideal S2x8192x4x64 .f32) : FVec Ideal S2x4 .f32 :=
  Host.reduce FloatOps.maximumf (Host.reduceAdd (mulf k k) (constant S_ .f32 0x00000000#32) reducesTo_S2x8192x4x64_S2x8192x4_d3 h_S_) (constant S_ .f32 0xFF800000#32) reducesTo_S2x8192x4_S2x4_d1 h_S_
/-- The position's block. -/
def block : FVec Ideal S2x4x8192x128 .f32 :=
  broadcastInDim S2x4x8192x128 ![0, 1, 2, 3] bcast_S1x1x8192x128_S2x4x8192x128_0_1_2_3 (broadcastInDim S1x1x8192x128 ![2, 3] bcast_S8192x128_S1x1x8192x128_2_3 (shapeCast _ (broadcastInDim S128x64x128 ![0, 1, 2] bcast_S128x1x128_S128x64x128_0_1_2 (broadcastInDim S128x1x128 ![0, 2] bcast_S128x128_S128x1x128_0_2 (uitofp .f32 (cmpi .eq (addi (iotaInDim S128x128 32 0) (broadcastInDim S128x128 ![] bcast_S_S128x128 (constantI S_ 32 0#32))) (iotaInDim S128x128 32 1))))) shapeCasts_S128x64x128_S8192x128))
def ones : FVec Ideal S2x4x8192x1 .f32 := broadcastInDim S2x4x8192x1 ![] bcast_S_S2x4x8192x1 (constant S_ .f32 0x3F800000#32)
def fill : FVec Ideal S2x4x8192x63 .f32 := broadcastInDim S2x4x8192x63 ![] bcast_S_S2x4x8192x63 (constant S_ .f32 0x00000000#32)
def up (k : FVec Ideal S2x8192x4x64 .f32) : FVec Ideal S2x4x8192x64 .f32 := transpose S2x4x8192x64 [0, 2, 1, 3] k transposes_S2x8192x4x64_S2x4x8192x64_0_2_1_3
/-- The results' layouts. -/
def outS (k : FVec Ideal S2x8192x4x64 .f32) : FVec Ideal S2x4x8192x256 .bf16 :=
  truncf .bf16 (concatenate S2x4x8192x256 3 [⟨S2x4x8192x128, block⟩, ⟨S2x4x8192x64, up k⟩, ⟨S2x4x8192x1, ones⟩, ⟨S2x4x8192x63, fill⟩] concatenates_S2x4x8192x128_S2x4x8192x64_S2x4x8192x1_S2x4x8192x63_S2x4x8192x256_d3) bitsLt_bf16_f32
def outW (k : FVec Ideal S2x8192x4x64 .f32) : FVec Ideal S2x4x8192x128 .bf16 :=
  truncf .bf16 (concatenate S2x4x8192x128 3 [⟨S2x4x8192x64, up k⟩, ⟨S2x4x8192x1, ones⟩, ⟨S2x4x8192x63, fill⟩] concatenates_S2x4x8192x64_S2x4x8192x1_S2x4x8192x63_S2x4x8192x128_d3) bitsLt_bf16_f32
def outV (v : FVec Ideal S2x8192x4x64 .f32) : FVec Ideal S2x4x64x8192 .bf16 :=
  truncf .bf16 (transpose S2x4x64x8192 [0, 2, 3, 1] v transposes_S2x8192x4x64_S2x4x64x8192_0_2_3_1) bitsLt_bf16_f32
def outN (a b : FVec Ideal S2x4 .f32) : FVec Ideal S2x8x128 .f32 :=
  broadcastInDim S2x8x128 ![0, 1, 2] bcast_S2x1x128_S2x8x128_0_1_2 (broadcastInDim S2x1x128 ![0, 2] bcast_S2x128_S2x1x128_0_2 (concatenate S2x128 1 [⟨S2x8, (concatenate S2x8 1 [⟨S2x4, a⟩, ⟨S2x4, b⟩] concatenates_S2x4_S2x4_S2x8_d1)⟩, ⟨S2x120, (broadcastInDim S2x120 ![] bcast_S_S2x120 (constant S_ .f32 0x00000000#32))⟩] concatenates_S2x8_S2x120_S2x128_d1))

theorem resS (c : Dev nD) : res_main_v115 (F := Ideal) m c = outS (key (part0 (wide (A0 m c)))) := rfl
theorem resW (c : Dev nD) : res_main_v117 (F := Ideal) m c = outW (key (part2 (wide (A0 m c)))) := rfl
theorem resN (c : Dev nD) : res_main_v114 (F := Ideal) m c = outN (maxlen (key (part0 (wide (A0 m c))))) (maxlen (key (part2 (wide (A0 m c))))) := rfl

abbrev AA (x : FVec Ideal S16384x5248 .bf16) : Fin 16384 → Fin 5248 → EReal := fun r k => x (ix2 r k)
theorem part0_at (x : FVec Ideal S16384x5248 .bf16) (e : Fin 2) (p : Fin 8192) (g : Fin 4) (d : Fin 64) : part0 (wide x) (ix4 e p g d) = Cert.Kprep.row (AA x) 0 e p g d := by
  unfold part0 wide Cert.Kprep.row
  pointwise
theorem part1_at (x : FVec Ideal S16384x5248 .bf16) (e : Fin 2) (p : Fin 8192) (g : Fin 4) (d : Fin 64) : part1 (wide x) (ix4 e p g d) = Cert.Kprep.row (AA x) 1 e p g d := by
  unfold part1 wide Cert.Kprep.row
  pointwise
theorem part2_at (x : FVec Ideal S16384x5248 .bf16) (e : Fin 2) (p : Fin 8192) (g : Fin 4) (d : Fin 64) : part2 (wide x) (ix4 e p g d) = Cert.Kprep.row (AA x) 2 e p g d := by
  unfold part2 wide Cert.Kprep.row
  pointwise
theorem part3_at (x : FVec Ideal S16384x5248 .bf16) (e : Fin 2) (p : Fin 8192) (g : Fin 4) (d : Fin 64) : part3 (wide x) (ix4 e p g d) = Cert.Kprep.row (AA x) 3 e p g d := by
  unfold part3 wide Cert.Kprep.row
  pointwise
theorem ang_at (p : Fin 8192) (k : Fin 8) : ang (ix2 p k) = Cert.Kprep.pos p * Cert.Kprep.freq k := by
  unfold ang Cert.Kprep.pos Cert.Kprep.freq
  pointwise
theorem cos_at (p : Fin 8192) (k : Fin 8) : (Host.cos ang : FVec Ideal S8192x8 .f32) (ix2 p k) = Cert.Kprep.cosT p k := by
  pointwise
  rw [ang_at]; rfl
theorem sin_at (p : Fin 8192) (k : Fin 8) : (Host.sin ang : FVec Ideal S8192x8 .f32) (ix2 p k) = Cert.Kprep.sinT p k := by
  pointwise
  rw [ang_at]; rfl
theorem over_at (f : FVec Ideal S8192x8 .f32) (e : Fin 2) (p : Fin 8192) (g : Fin 4) (k : Fin 8) : over f (ix4 e p g k) = f (ix2 p k) := by
  unfold over
  pointwise
theorem low_at (x : FVec Ideal S2x8192x4x64 .f32) (e : Fin 2) (p : Fin 8192) (g : Fin 4) (k : Fin 8) : low x (ix4 e p g k) = x (ix4 e p g ⟨k.val, by omega⟩) := by
  unfold low
  pointwise
theorem high_at (x : FVec Ideal S2x8192x4x64 .f32) (e : Fin 2) (p : Fin 8192) (g : Fin 4) (k : Fin 8) : high x (ix4 e p g k) = x (ix4 e p g ⟨8 + k.val, by omega⟩) := by
  unfold high
  pointwise
theorem key_at (x : FVec Ideal S2x8192x4x64 .f32) (e : Fin 2) (p : Fin 8192) (g : Fin 4) (d : Fin 64) : key x (ix4 e p g d) = Cert.Kprep.scaled (fun d => x (ix4 e p g d)) p d := by
  unfold key Cert.Kprep.scaled Cert.Kprep.turn
  pointwise
  simp only [low_at, high_at, over_at, cos_at, sin_at]
  have e1 (j : Fin 64) (hj : j.val = d.val) : x (ix4 e p g j) = x (ix4 e p g d) := by rw [Fin.ext hj]
  have e2 (j k : Fin 64) (hj : j.val = k.val) : x (ix4 e p g j) = x (ix4 e p g k) := by rw [Fin.ext hj]
  refine congrArg (· * Cert.Kprep.scale) ?_
  refine dite_congr rfl (fun hd => ?_) (fun hd => dite_congr rfl (fun hd2 => ?_) (fun hd2 => ?_))
  · rw [e2 ⟨8 + d.val, by omega⟩ ⟨d.val + 8, by omega⟩ (by dsimp only; omega)]
  · rw [e1 ⟨8 + (d.val - 8), by omega⟩ (by dsimp only; omega)]
  · exact e1 _ (by dsimp only; omega)
theorem maxlen_at (k : FVec Ideal S2x8192x4x64 .f32) (e : Fin 2) (g : Fin 4) : maxlen k (ix2 e g) = Finset.fold max (Ideal.ofBits .f32 0xFF800000#32) (fun p : Fin 8192 => ∑ d : Fin 64, k (ix4 e p g d) * k (ix4 e p g d)) Finset.univ := by
  unfold maxlen
  pointwise
theorem block_at (e : Fin 2) (g : Fin 4) (p : Fin 8192) (n : Fin 128) : block (ix4 e g p n) = if p.val / 64 = n.val then 1 else 0 := by
  unfold block
  pointwise
  have z (a : ℕ) : IntOp.addi (BitVec.ofNat 32 a) 0#32 = BitVec.ofNat 32 a := by simp [IntOp.addi]
  rw [z]
  exact Cert.Kprep.ind _ _ (by omega) (by omega)
theorem outS_at (k : FVec Ideal S2x8192x4x64 .f32) (e : Fin 2) (g : Fin 4) (p : Fin 8192) (n : Fin 256) :
    outS k (ix4 e g p n) = if h : n.val < 128 then (if p.val / 64 = n.val then 1 else 0) else if h : n.val - 128 < 64 then k (ix4 e p g ⟨n.val - 128, h⟩) else if n.val = 192 then 1 else 0 := by
  unfold outS ones fill up
  pointwise
  simp only [block_at]
  split_ifs <;> first | rfl | omega
theorem outW_at (k : FVec Ideal S2x8192x4x64 .f32) (e : Fin 2) (g : Fin 4) (p : Fin 8192) (n : Fin 128) :
    outW k (ix4 e g p n) = if h : n.val < 64 then k (ix4 e p g ⟨n.val, h⟩) else if n.val = 64 then 1 else 0 := by
  unfold outW ones fill up
  pointwise
  split_ifs <;> first | rfl | omega
theorem outV_at (v : FVec Ideal S2x8192x4x64 .f32) (e : Fin 2) (g : Fin 4) (d : Fin 64) (p : Fin 8192) : outV v (ix4 e g d p) = v (ix4 e p g d) := by
  unfold outV
  pointwise
theorem outN_at (a b : FVec Ideal S2x4 .f32) (e : Fin 2) (i : Fin 8) (n : Fin 128) :
    outN a b (ix3 e i n) = if h : n.val < 4 then a (ix2 e ⟨n.val, h⟩) else if h : n.val - 4 < 4 then b (ix2 e ⟨n.val - 4, h⟩) else 0 := by
  unfold outN
  pointwise
  by_cases h8 : n.val < 8
  · refine (dif_pos h8).trans ?_
    by_cases h4 : n.val < 4
    · rw [dif_pos h4, dif_pos h4]
    · rw [dif_neg h4, dif_neg h4, dif_pos (show n.val - 4 < 4 by omega)]
  · rw [dif_neg h8, dif_neg (show ¬n.val < 4 by omega), dif_neg (show ¬n.val - 4 < 4 by omega)]
theorem keyS_at (x : FVec Ideal S16384x5248 .bf16) (e : Fin 2) (p : Fin 8192) (g : Fin 4) (d : Fin 64) : key (part0 (wide x)) (ix4 e p g d) = Cert.Kprep.scaled (Cert.Kprep.row (AA x) 0 e p g) p d :=
  (key_at _ e p g d).trans (congrArg (fun y => Cert.Kprep.scaled y p d) (funext fun d => part0_at x e p g d))
theorem keyW_at (x : FVec Ideal S16384x5248 .bf16) (e : Fin 2) (p : Fin 8192) (g : Fin 4) (d : Fin 64) : key (part2 (wide x)) (ix4 e p g d) = Cert.Kprep.scaled (Cert.Kprep.row (AA x) 2 e p g) p d :=
  (key_at _ e p g d).trans (congrArg (fun y => Cert.Kprep.scaled y p d) (funext fun d => part2_at x e p g d))
/-- The largest squared lengths of both kinds of keys and the fill are the columns' largest values. -/
theorem longest (x : FVec Ideal S16384x5248 .bf16) (e : Fin 2) (n : Fin 128) :
    (if h : n.val < 4 then maxlen (key (part0 (wide x))) (ix2 e ⟨n.val, h⟩) else if h : n.val - 4 < 4 then maxlen (key (part2 (wide x))) (ix2 e ⟨n.val - 4, h⟩) else 0) = Cert.Kprep.out4 (AA x) e n := by
  refine eq_of_forall_ge_iff fun z => ?_
  rw [Cert.Kprep.out4_le]
  unfold Cert.Kprep.lens Cert.Kprep.len
  by_cases h4 : n.val < 4
  · simp only [dif_pos h4]
    rw [maxlen_at, Finset.fold_max_le, Cert.Kprep.ninf]
    simp only [keyS_at]
    exact ⟨fun H p => H.2 p (Finset.mem_univ p), fun H => ⟨bot_le, fun p _ => H p⟩⟩
  · simp only [dif_neg h4]
    by_cases h8 : n.val - 4 < 4
    · simp only [dif_pos h8]
      rw [maxlen_at, Finset.fold_max_le, Cert.Kprep.ninf]
      simp only [keyW_at]
      exact ⟨fun H p => H.2 p (Finset.mem_univ p), fun H => ⟨bot_le, fun p _ => H p⟩⟩
    · simp only [dif_neg h8]
      exact ⟨fun H _ => H, fun H => H ⟨0, by omega⟩⟩
end Cert.Reference4Ideal.Kprep
-- ==== Proof.Kprep.lean ====
module

public import proofs.«01_k».proof.Defs
public import proofs.«01_k».proof.Proof.Gen.Pre_rotates
public import proofs.«01_k».proof.Proof.KpKeys
public import proofs.«01_k».proof.Proof.KpRef

@[expose] public section

set_option maxRecDepth 16384
/- The value claim about the key preparation: where the matrix argument is the rotation of each group's first sixteen entries, the
   kernel's five result arrays and the reference's are the same functions of the arguments. -/
noncomputable section
open Idealize.ShloMosaic Idealize.ShloMosaic.TcCoe Idealize.SL.Sem
namespace Cert.Kprep

theorem bits (a b : ℕ) (ha : a < 4294967296) (hb : b < 4294967296) : IntOp.cmpi .eq (BitVec.ofNat 32 a) (BitVec.ofNat 32 b) = if a = b then 1#1 else 0#1 := by
  by_cases h : a = b
  · subst h
    simp [IntOp.cmpi]
  · have hn : BitVec.ofNat 32 a ≠ BitVec.ofNat 32 b := fun e => h (by
      have := congrArg BitVec.toNat e
      simpa [Nat.mod_eq_of_lt ha, Nat.mod_eq_of_lt hb] using this)
    simp only [IntOp.cmpi, if_neg h, beq_eq_false_iff_ne.mpr hn]
    rfl
theorem lt8 : ∀ j : Fin 64, IntOp.cmpi .slt (BitVec.ofNat 32 j.val) 8#32 = if j.val < 8 then 1#1 else 0#1 := by decide +kernel
theorem lt16 : ∀ j : Fin 64, IntOp.cmpi .slt (BitVec.ofNat 32 j.val) 16#32 = if j.val < 16 then 1#1 else 0#1 := by decide +kernel
theorem add8 (a : ℕ) : IntOp.addi (BitVec.ofNat 32 a) 8#32 = BitVec.ofNat 32 (a + 8) := by
  simp [IntOp.addi, BitVec.ofNat_add]
theorem both (p q : Prop) [Decidable p] [Decidable q] : IntOp.andi (if p then 1#1 else 0#1) (if q then 1#1 else 0#1) = if p ∧ q then 1#1 else 0#1 := by
  by_cases hp : p <;> by_cases hq : q <;> simp [hp, hq, IntOp.andi]
theorem pick (p : Prop) [Decidable p] (x y : EReal) : Scalar.select (if p then 1#1 else 0#1) x y = if p then x else y := by
  by_cases hp : p
  · simp [hp, Scalar.select]
  · simp [hp, Scalar.select]
theorem neg32 : Ideal.ofBits .f32 0xBF800000#32 = -1 := by
  simp [Ideal.ofBits, Ideal.ieee]
  rw [← EReal.coe_mul]
  norm_num
theorem eq_of_oeq {a b : EReal} (e : Ideal.cmp .oeq a b = 1#1) : a = b := by
  by_contra hc
  simp [Ideal.cmp, hc] at e

theorem cond_at [hP : Cert.Pre_rotates.Facts] (x : FVec Ideal Cert.Pre_rotates.S16384x5248 .bf16) (r : FVec Ideal Cert.Pre_rotates.S256x256 .bf16) (g h : Fin 4) (i j : Fin 64)
    (e : Cert.Pre_rotates.fn (F := Ideal) x r (ix4 g i h j) = 1#1) : r (ix2 ⟨g.val * 64 + i.val, by omega⟩ ⟨h.val * 64 + j.val, by omega⟩) = rotm ⟨g.val * 64 + i.val, by omega⟩ ⟨h.val * 64 + j.val, by omega⟩ := by
  have e2 : Cert.Pre_rotates.fn (F := Ideal) x r (ix4 g i h j) = Ideal.cmp .oeq (r (ix2 ⟨g.val * 64 + i.val, by omega⟩ ⟨h.val * 64 + j.val, by omega⟩))
      (if (g.val = h.val ∧ j.val < 8) ∧ i.val = j.val + 8 then -1 else if (g.val = h.val ∧ j.val < 16) ∧ j.val = i.val + 8 then 1 else 0) := by
    unfold Cert.Pre_rotates.fn Cert.Pre_rotates.fn_part1 Cert.Pre_rotates.fn_where Cert.Pre_rotates.fn_where_0
    dsimp only [id_eq]
    pointwise
    rw [bits _ _ (by omega) (by omega), lt8, lt16, add8, add8, bits _ _ (by omega) (by omega), bits _ _ (by omega) (by omega)]
    simp only [both, pick]
    rw [neg32]
  rw [e2] at e
  rw [eq_of_oeq e]
  unfold rotm
  have a1 : (g.val * 64 + i.val) / 64 = g.val := by omega
  have a2 : (g.val * 64 + i.val) % 64 = i.val := by omega
  have b1 : (h.val * 64 + j.val) / 64 = h.val := by omega
  have b2 : (h.val * 64 + j.val) % 64 = j.val := by omega
  simp only [a1, a2, b1, b2, and_assoc]

theorem rot_of (m : (ℓ : Loc Cert.Kernel4Ideal.nD Cert.Kernel4Ideal.τ Cert.Kernel4Ideal.sig) → Buf (Elt Ideal) ℓ)
    (hpre : Cert.Pre_Kernel4Ideal_rotates (hPre_rotates := Cert.Pre_rotates.Gen.facts) m) (c : Dev Cert.Kernel4Ideal.nD) (q l : Fin 256) :
    Cert.Kernel4Ideal.Kprep.A1 m c (ix2 q l) = rotm q l := by
  have e := cond_at (hP := Cert.Pre_rotates.Gen.facts) _ _ ⟨q.val / 64, by omega⟩ ⟨l.val / 64, by omega⟩ ⟨q.val % 64, by omega⟩ ⟨l.val % 64, by omega⟩ (congrFun (hpre c) _)
  have hq : (⟨q.val / 64 * 64 + q.val % 64, by omega⟩ : Fin 256) = q := Fin.ext (by dsimp only; omega)
  have hl : (⟨l.val / 64 * 64 + l.val % 64, by omega⟩ : Fin 256) = l := Fin.ext (by dsimp only; omega)
  dsimp only at e
  rw [hq, hl] at e
  exact e

theorem algebraic : Cert.algebraic_Kernel4Ideal_Reference4Ideal_pre_rotates (hKernel4Ideal := Cert.Kernel4Ideal.Gen.facts) (hReference4Ideal := Cert.Reference4Ideal.Gen.facts) (hPre_rotates := Cert.Pre_rotates.Gen.facts) :=
  fun m ρ m' ρ' hpre hag => ⟨fun c j => Cert.Kernel4Ideal.Kprep.G7 m c j, fun c j => Cert.Kernel4Ideal.Kprep.G8 m c j, fun c j => Cert.Kernel4Ideal.Kprep.G9 m c j, fun c j => Cert.Kernel4Ideal.Kprep.G10 m c j, fun c j => Cert.Kernel4Ideal.Kprep.G11 m c j,
    (θ_run _ _ _).mono (fun _ h c => ⟨(h c).1.trans (Cert.Kernel4Ideal.Kprep.final7 m c (rot_of m hpre c)), (h c).2.1.trans (Cert.Kernel4Ideal.Kprep.final8 m c), (h c).2.2.1.trans (Cert.Kernel4Ideal.Kprep.final9 m c (rot_of m hpre c)),
        (h c).2.2.2.1.trans (Cert.Kernel4Ideal.Kprep.final10 m c), (h c).2.2.2.2.1.trans (Cert.Kernel4Ideal.Kprep.final11 m c (rot_of m hpre c)), (h c).2.2.2.2.2⟩)
      (Cert.Kernel4Ideal.Value.run_blocks (F := Ideal) m ρ),
    (θ_run _ _ _).mono (fun _ h c => by
      obtain ⟨h0, -⟩ := hag c
      have e0 : Cert.Reference4Ideal.Kprep.A0 m' c = Cert.Kernel4Ideal.Kprep.A0 m c := h0
      refine ⟨(h c).1.trans ((Cert.Reference4Ideal.Kprep.resS m' c).trans (funext fun j => ?_)),
        (h c).2.1.trans (Eq.trans (b := Cert.Reference4Ideal.Kprep.outV (Cert.Reference4Ideal.Kprep.part1 (Cert.Reference4Ideal.Kprep.wide (Cert.Reference4Ideal.Kprep.A0 m' c)))) rfl (funext fun j => ?_)),
        (h c).2.2.1.trans ((Cert.Reference4Ideal.Kprep.resW m' c).trans (funext fun j => ?_)),
        (h c).2.2.2.1.trans (Eq.trans (b := Cert.Reference4Ideal.Kprep.outV (Cert.Reference4Ideal.Kprep.part3 (Cert.Reference4Ideal.Kprep.wide (Cert.Reference4Ideal.Kprep.A0 m' c)))) rfl (funext fun j => ?_)),
        (h c).2.2.2.2.1.trans ((Cert.Reference4Ideal.Kprep.resN m' c).trans (funext fun j => ?_)), (h c).2.2.2.2.2⟩
      · have hj : j = ix4 (⟨(j 0).val, (j 0).isLt⟩ : Fin 2) (⟨(j 1).val, (j 1).isLt⟩ : Fin 4) (⟨(j 2).val, (j 2).isLt⟩ : Fin 8192) (⟨(j 3).val, (j 3).isLt⟩ : Fin 256) := eq_ix4 j
        rw [e0]
        refine (congrArg _ hj).trans ((Cert.Reference4Ideal.Kprep.outS_at _ _ _ _ _).trans ?_)
        exact dite_congr rfl (fun _ => rfl) (fun _ => dite_congr rfl (fun _ => Cert.Reference4Ideal.Kprep.keyS_at _ _ _ _ _) (fun _ => rfl))
      · have hj : j = ix4 (⟨(j 0).val, (j 0).isLt⟩ : Fin 2) (⟨(j 1).val, (j 1).isLt⟩ : Fin 4) (⟨(j 2).val, (j 2).isLt⟩ : Fin 64) (⟨(j 3).val, (j 3).isLt⟩ : Fin 8192) := eq_ix4 j
        rw [e0]
        exact (congrArg _ hj).trans ((Cert.Reference4Ideal.Kprep.outV_at _ _ _ _ _).trans (Cert.Reference4Ideal.Kprep.part1_at _ _ _ _ _))
      · have hj : j = ix4 (⟨(j 0).val, (j 0).isLt⟩ : Fin 2) (⟨(j 1).val, (j 1).isLt⟩ : Fin 4) (⟨(j 2).val, (j 2).isLt⟩ : Fin 8192) (⟨(j 3).val, (j 3).isLt⟩ : Fin 128) := eq_ix4 j
        rw [e0]
        refine (congrArg _ hj).trans ((Cert.Reference4Ideal.Kprep.outW_at _ _ _ _ _).trans ?_)
        exact dite_congr rfl (fun _ => Cert.Reference4Ideal.Kprep.keyW_at _ _ _ _ _) (fun _ => rfl)
      · have hj : j = ix4 (⟨(j 0).val, (j 0).isLt⟩ : Fin 2) (⟨(j 1).val, (j 1).isLt⟩ : Fin 4) (⟨(j 2).val, (j 2).isLt⟩ : Fin 64) (⟨(j 3).val, (j 3).isLt⟩ : Fin 8192) := eq_ix4 j
        rw [e0]
        exact (congrArg _ hj).trans ((Cert.Reference4Ideal.Kprep.outV_at _ _ _ _ _).trans (Cert.Reference4Ideal.Kprep.part3_at _ _ _ _ _))
      · have hj : j = ix3 (⟨(j 0).val, (j 0).isLt⟩ : Fin 2) (⟨(j 1).val, (j 1).isLt⟩ : Fin 8) (⟨(j 2).val, (j 2).isLt⟩ : Fin 128) := eq_ix3 j
        rw [e0]
        refine (congrArg _ hj).trans ((Cert.Reference4Ideal.Kprep.outN_at _ _ _ _ _).trans ?_)
        exact Cert.Reference4Ideal.Kprep.longest _ _ _) (Cert.Reference4Ideal.Value.run (F := Ideal) m' ρ')⟩

end Cert.Kprep
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Pre_finite
public import proofs.«01_k».proof.Proof.Gen.Pre_rotates
public import proofs.«01_k».proof.Proof.Tail
public import proofs.«01_k».proof.Proof.InProj
public import proofs.«01_k».proof.Proof.Compress
public import proofs.«01_k».proof.Proof.Kprep
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_rotates.Gen.facts,
  fun m ρ _ => Cert.Kernel.Gen.frame m ρ, fun m ρ _ => Cert.KernelIdeal.Gen.frame m ρ, fun m ρ _ =>
    (θ_run Cert.ReferenceIdeal.defs _ _).mono (fun r h => ⟨fun c => (h c).2, Idealize.ShloMosaic.sem_eq_zero_of_no_sems (by decide) r.2⟩)
      (Cert.ReferenceIdeal.Value.run (F := Ideal) m ρ),
  fun m ρ _ => Cert.Kernel2.Gen.frame m ρ, fun m ρ _ => Cert.Kernel2Ideal.Gen.frame m ρ, fun m ρ _ =>
    (θ_run Cert.Reference2Ideal.defs _ _).mono (fun r h => ⟨fun c => (h c).2.2, Idealize.ShloMosaic.sem_eq_zero_of_no_sems (by decide) r.2⟩)
      (Cert.Reference2Ideal.Value.run (F := Ideal) m ρ),
  fun m ρ _ => Cert.Kernel3.Gen.frame m ρ, fun m ρ _ => Cert.Kernel3Ideal.Gen.frame m ρ, fun m ρ _ => Cert.Kernel3Ideal.Gen.frame m ρ,
  fun m ρ _ =>
    (θ_run Cert.Reference3Ideal.defs _ _).mono (fun r h => ⟨fun c => (h c).2.2, Idealize.ShloMosaic.sem_eq_zero_of_no_sems (by decide) r.2⟩)
      (Cert.Reference3Ideal.Value.run (F := Ideal) m ρ),
  fun m ρ _ =>
    (θ_run Cert.Reference3Ideal.defs _ _).mono (fun r h => ⟨fun c => (h c).2.2, Idealize.ShloMosaic.sem_eq_zero_of_no_sems (by decide) r.2⟩)
      (Cert.Reference3Ideal.Value.run (F := Ideal) m ρ),
  fun m ρ _ => Cert.Kernel4.Gen.frame m ρ, fun m ρ _ => Cert.Kernel4Ideal.Gen.frame m ρ, fun m ρ _ => Cert.Kernel4Ideal.Gen.frame m ρ,
  fun m ρ _ =>
    (θ_run Cert.Reference4Ideal.defs _ _).mono (fun r h => ⟨fun c => (h c).2.2.2.2.2, Idealize.ShloMosaic.sem_eq_zero_of_no_sems (by decide) r.2⟩)
      (Cert.Reference4Ideal.Value.run (F := Ideal) m ρ),
  fun m ρ _ =>
    (θ_run Cert.Reference4Ideal.defs _ _).mono (fun r h => ⟨fun c => (h c).2.2.2.2.2, Idealize.ShloMosaic.sem_eq_zero_of_no_sems (by decide) r.2⟩)
      (Cert.Reference4Ideal.Value.run (F := Ideal) m ρ),
  trivial, Cert.Tail.algebraic, trivial, Cert.Inproj.algebraic, trivial, Cert.Compress.algebraic, trivial, Cert.Kprep.algebraic⟩

end Cert.Proof
